-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v126_9) = v0 c
          ∧ r.2.mem ((c.tc : Thread Cert.ReferenceIdeal.nD Cert.ReferenceIdeal.τ).loc Cert.ReferenceIdeal.main_v126_10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512x4 : Shape := ⟨3, ![8, 512, 4]⟩
abbrev S8x512x512x4 : Shape := ⟨4, ![8, 512, 512, 4]⟩
abbrev S8x512 : Shape := ⟨2, ![8, 512]⟩
abbrev S8x32 : Shape := ⟨2, ![8, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S8x512x2048 : Shape := ⟨3, ![8, 512, 2048]⟩
abbrev S8x512x1 : Shape := ⟨3, ![8, 512, 1]⟩
abbrev S1x512x2048 : Shape := ⟨3, ![1, 512, 2048]⟩
abbrev S1x512x1 : Shape := ⟨3, ![1, 512, 1]⟩
abbrev S512x2048 : Shape := ⟨2, ![512, 2048]⟩
abbrev S512 : Shape := ⟨1, ![512]⟩
abbrev S512x1 : Shape := ⟨2, ![512, 1]⟩
abbrev S4x8x512 : Shape := ⟨3, ![4, 8, 512]⟩
abbrev S8x512x8 : Shape := ⟨3, ![8, 512, 8]⟩
abbrev S8x8x512 : Shape := ⟨3, ![8, 8, 512]⟩
abbrev S32x8 : Shape := ⟨2, ![32, 8]⟩
abbrev S16x32 : Shape := ⟨2, ![16, 32]⟩
abbrev S1x16 : Shape := ⟨2, ![1, 16]⟩
abbrev S32x1 : Shape := ⟨2, ![32, 1]⟩
abbrev S1x1 : Shape := ⟨2, ![1, 1]⟩
abbrev S1x8x512 : Shape := ⟨3, ![1, 8, 512]⟩
abbrev S32x512 : Shape := ⟨2, ![32, 512]⟩
abbrev S16x512 : Shape := ⟨2, ![16, 512]⟩
abbrev S1x512 : Shape := ⟨2, ![1, 512]⟩
abbrev S512x512 : Shape := ⟨2, ![512, 512]⟩

abbrev nBuf : Space → Nat
  | .hbm => 28
  | .vmem => 18
  | .smem => 0
  | _ => 0

abbrev bufTy : (tb : Table) → Fin (tcTables nBuf tb) → BufTy
  | .hbm, ⟨0, _⟩ => ⟨S8x512x4, .f32⟩
  | .hbm, ⟨1, _⟩ => ⟨S8x512x4, .f32⟩
  | .hbm, ⟨2, _⟩ => ⟨S8x512x512x4, .f32⟩
  | .hbm, ⟨3, _⟩ => ⟨S8x512, .i32⟩
  | .hbm, ⟨4, _⟩ => ⟨S8x512, .i32⟩
  | .hbm, ⟨5, _⟩ => ⟨S8x32, .f32⟩
  | .hbm, ⟨6, _⟩ => ⟨S32, .f32⟩
  | .hbm, ⟨7, _⟩ => ⟨S32x16, .f32⟩
  | .hbm, ⟨8, _⟩ => ⟨S16, .f32⟩
  | .hbm, ⟨9, _⟩ => ⟨S16x1, .f32⟩
  | .hbm, ⟨10, _⟩ => ⟨S1, .f32⟩
  | .hbm, ⟨11, _⟩ => ⟨S8x512x2048, .f32⟩
  | .hbm, ⟨12, _⟩ => ⟨S8x512x1, .f32⟩
  | .hbm, ⟨13, _⟩ => ⟨S8x512, .f32⟩
  | .hbm, ⟨14, _⟩ => ⟨S4x8x512, .f32⟩
  | .hbm, ⟨15, _⟩ => ⟨S4x8x512, .f32⟩
  | .hbm, ⟨16, _⟩ => ⟨S8x512x8, .f32⟩
  | .hbm, ⟨17, _⟩ => ⟨S8x8x512, .f32⟩
  | .hbm, ⟨18, _⟩ => ⟨S32x8, .f32⟩
  | .hbm, ⟨19, _⟩ => ⟨S16x32, .f32⟩
  | .hbm, ⟨20, _⟩ => ⟨S1x16, .f32⟩
  | .hbm, ⟨21, _⟩ => ⟨S32x1, .f32⟩
  | .hbm, ⟨22, _⟩ => ⟨S16x1, .f32⟩
  | .hbm, ⟨23, _⟩ => ⟨S1x1, .f32⟩
  | .hbm, ⟨24, _⟩ => ⟨S4x8x512, .f32⟩
  | .hbm, ⟨25, _⟩ => ⟨S4x8x512, .f32⟩
  | .hbm, ⟨26, _⟩ => ⟨S8x512x4, .f32⟩
  | .hbm, ⟨27, _⟩ => ⟨S8x512x4, .f32⟩
  | .local _ .vmem, ⟨0, _⟩ => ⟨S1x512x2048, .f32⟩
  | .local _ .vmem, ⟨1, _⟩ => ⟨S1x512x2048, .f32⟩
  | .local _ .vmem, ⟨2, _⟩ => ⟨S1x512x1, .f32⟩
  | .local _ .vmem, ⟨3, _⟩ => ⟨S1x512x1, .f32⟩
  | .local _ .vmem, ⟨4, _⟩ => ⟨S8x8x512, .f32⟩
  | .local _ .vmem, ⟨5, _⟩ => ⟨S4x8x512, .f32⟩
  | .local _ .vmem, ⟨6, _⟩ => ⟨S4x8x512, .f32⟩
  | .local _ .vmem, ⟨7, _⟩ => ⟨S8x512, .i32⟩
  | .local _ .vmem, ⟨8, _⟩ => ⟨S8x512, .i32⟩
  | .local _ .vmem, ⟨9, _⟩ => ⟨S8x512, .f32⟩
  | .local _ .vmem, ⟨10, _⟩ => ⟨S32x8, .f32⟩
  | .local _ .vmem, ⟨11, _⟩ => ⟨S32x1, .f32⟩
  | .local _ .vmem, ⟨12, _⟩ => ⟨S16x32, .f32⟩
  | .local _ .vmem, ⟨13, _⟩ => ⟨S16x1, .f32⟩
  | .local _ .vmem, ⟨14, _⟩ => ⟨S1x16, .f32⟩
  | .local _ .vmem, ⟨15, _⟩ => ⟨S1x1, .f32⟩
  | .local _ .vmem, ⟨16, _⟩ => ⟨S4x8x512, .f32⟩
  | .local _ .vmem, ⟨17, _⟩ => ⟨S4x8x512, .f32⟩
  | _, _ => ⟨S8x512x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev main_v14 : Ref sig .tc := ⟨.hbm, 26, rfl⟩
abbrev main_v15 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg11_0 : Ref sig .tc := ⟨.vmem, 15, rfl⟩
abbrev cc1_stg12_0 : Ref sig .tc := ⟨.vmem, 16, rfl⟩
abbrev cc1_stg13_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc1_sem8_0 : DmaSem sig := 12
abbrev cc1_sem9_0 : DmaSem sig := 13
abbrev cc1_sem10_0 : DmaSem sig := 14
abbrev cc1_sem11_0 : DmaSem sig := 15
abbrev cc1_sem12_0 : DmaSem sig := 16
abbrev cc1_sem13_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

abbrev stage1_0 : Fin 1 → Memref sig .tc .vmem S8x8x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4x8x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4x8x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x512 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x512 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S32x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S32x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S16x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S16x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S1x16 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev stage1_12 : Fin 1 → Memref sig .tc .vmem S4x8x512 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))

abbrev stage1_13 : Fin 1 → Memref sig .tc .vmem S4x8x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
-- ==== ReferenceIdeal.lean ====
abbrev S8x512x4 : Shape := ⟨3, ![8, 512, 4]⟩
abbrev S8x512x512x4 : Shape := ⟨4, ![8, 512, 512, 4]⟩
abbrev S8x512 : Shape := ⟨2, ![8, 512]⟩
abbrev S8x32 : Shape := ⟨2, ![8, 32]⟩
abbrev S32 : Shape := ⟨1, ![32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S8x512x8 : Shape := ⟨3, ![8, 512, 8]⟩
abbrev S8x512x32 : Shape := ⟨3, ![8, 512, 32]⟩
abbrev S1x1x32 : Shape := ⟨3, ![1, 1, 32]⟩
abbrev S_ : Shape := ⟨0, ![]⟩
abbrev S8x512x16 : Shape := ⟨3, ![8, 512, 16]⟩
abbrev S1x1x16 : Shape := ⟨3, ![1, 1, 16]⟩
abbrev S8x512x1 : Shape := ⟨3, ![8, 512, 1]⟩
abbrev S1x1x1 : Shape := ⟨3, ![1, 1, 1]⟩
abbrev S8x518 : Shape := ⟨2, ![8, 518]⟩
abbrev S8x512x2 : Shape := ⟨3, ![8, 512, 2]⟩
abbrev S8x512x512 : Shape := ⟨3, ![8, 512, 512]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S1x512x512 : Shape := ⟨3, ![1, 512, 512]⟩
abbrev S4 : Shape := ⟨1, ![4]⟩
abbrev S512x8x4 : Shape := ⟨3, ![512, 8, 4]⟩
abbrev S512x8 : Shape := ⟨2, ![512, 8]⟩
abbrev S1x8x4 : Shape := ⟨3, ![1, 8, 4]⟩
abbrev S8x4 : Shape := ⟨2, ![8, 4]⟩
abbrev S1x8 : Shape := ⟨2, ![1, 8]⟩
abbrev S8 : Shape := ⟨1, ![8]⟩
abbrev S8x1 : Shape := ⟨2, ![8, 1]⟩
abbrev S8x2 : Shape := ⟨2, ![8, 2]⟩
abbrev S4x1 : Shape := ⟨2, ![4, 1]⟩
abbrev S8x4x4 : Shape := ⟨3, ![8, 4, 4]⟩
abbrev S1x4 : Shape := ⟨2, ![1, 4]⟩

abbrev nBuf : Space → Nat
  | .hbm => 333
  | .vmem => 0
  | .smem => 0
  | _ => 0

abbrev hbmTy0_0 (i : Nat) : BufTy := match i % 128 with
  | 0 => ⟨S8x512x4, .f32⟩
  | 1 => ⟨S8x512x4, .f32⟩
  | 2 => ⟨S8x512x512x4, .f32⟩
  | 3 => ⟨S8x512, .i32⟩
  | 4 => ⟨S8x512, .i32⟩
  | 5 => ⟨S8x32, .f32⟩
  | 6 => ⟨S32, .f32⟩
  | 7 => ⟨S32x16, .f32⟩
  | 8 => ⟨S16, .f32⟩
  | 9 => ⟨S16x1, .f32⟩
  | 10 => ⟨S1, .f32⟩
  | 11 => ⟨S8x512x8, .f32⟩
  | 12 => ⟨S8x512x32, .f32⟩
  | 13 => ⟨S1x1x32, .f32⟩
  | 14 => ⟨S8x512x32, .f32⟩
  | 15 => ⟨S8x512x32, .f32⟩
  | 16 => ⟨S_, .f32⟩
  | 17 => ⟨S8x512x32, .f32⟩
  | 18 => ⟨S8x512x32, .f32⟩
  | 19 => ⟨S8x512x16, .f32⟩
  | 20 => ⟨S1x1x16, .f32⟩
  | 21 => ⟨S8x512x16, .f32⟩
  | 22 => ⟨S8x512x16, .f32⟩
  | 23 => ⟨S_, .f32⟩
  | 24 => ⟨S8x512x16, .f32⟩
  | 25 => ⟨S8x512x16, .f32⟩
  | 26 => ⟨S8x512x1, .f32⟩
  | 27 => ⟨S1x1x1, .f32⟩
  | 28 => ⟨S8x512x1, .f32⟩
  | 29 => ⟨S8x512x1, .f32⟩
  | 30 => ⟨S8x512x1, .f32⟩
  | 31 => ⟨S8x512x1, .f32⟩
  | 32 => ⟨S_, .f32⟩
  | 33 => ⟨S8x512x1, .f32⟩
  | 34 => ⟨S8x512x1, .f32⟩
  | 35 => ⟨S_, .f32⟩
  | 36 => ⟨S8x512x1, .f32⟩
  | 37 => ⟨S8x512x1, .f32⟩
  | 38 => ⟨S8x512, .f32⟩
  | 39 => ⟨S_, .f32⟩
  | 40 => ⟨S8x512, .f32⟩
  | 41 => ⟨S8x512, .i1⟩
  | 42 => ⟨S_, .f32⟩
  | 43 => ⟨S8x512, .f32⟩
  | 44 => ⟨S8x512, .f32⟩
  | 45 => ⟨S_, .f32⟩
  | 46 => ⟨S_, .f32⟩
  | 47 => ⟨S8x512, .f32⟩
  | 48 => ⟨S8x512, .f32⟩
  | 49 => ⟨S_, .i32⟩
  | 50 => ⟨S8x512, .i32⟩
  | 51 => ⟨S8x512, .i1⟩
  | 52 => ⟨S_, .i32⟩
  | 53 => ⟨S_, .i32⟩
  | 54 => ⟨S_, .i32⟩
  | 55 => ⟨S_, .i1⟩
  | 56 => ⟨S_, .i1⟩
  | 57 => ⟨S8x518, .i1⟩
  | 58 => ⟨S_, .i1⟩
  | 59 => ⟨S8x512, .i1⟩
  | 60 => ⟨S8x512, .i1⟩
  | 61 => ⟨S8x512, .i1⟩
  | 62 => ⟨S8x512, .i1⟩
  | 63 => ⟨S8x512, .i1⟩
  | 64 => ⟨S8x512, .i1⟩
  | 65 => ⟨S8x512, .i1⟩
  | 66 => ⟨S8x512, .i1⟩
  | 67 => ⟨S8x512, .i1⟩
  | 68 => ⟨S8x512, .i1⟩
  | 69 => ⟨S8x512, .i1⟩
  | 70 => ⟨S8x512, .i1⟩
  | 71 => ⟨S8x512, .i1⟩
  | 72 => ⟨S8x512, .i1⟩
  | 73 => ⟨S8x512, .i1⟩
  | 74 => ⟨S_, .i32⟩
  | 75 => ⟨S8x512, .i32⟩
  | 76 => ⟨S8x512, .i1⟩
  | 77 => ⟨S_, .i32⟩
  | 78 => ⟨S_, .i32⟩
  | 79 => ⟨S_, .i32⟩
  | 80 => ⟨S_, .i1⟩
  | 81 => ⟨S_, .i1⟩
  | 82 => ⟨S8x518, .i1⟩
  | 83 => ⟨S_, .i1⟩
  | 84 => ⟨S8x512, .i1⟩
  | 85 => ⟨S8x512, .i1⟩
  | 86 => ⟨S8x512, .i1⟩
  | 87 => ⟨S8x512, .i1⟩
  | 88 => ⟨S8x512, .i1⟩
  | 89 => ⟨S8x512, .i1⟩
  | 90 => ⟨S8x512, .i1⟩
  | 91 => ⟨S8x512, .i1⟩
  | 92 => ⟨S8x512, .i1⟩
  | 93 => ⟨S8x512, .i1⟩
  | 94 => ⟨S8x512, .i1⟩
  | 95 => ⟨S8x512, .i1⟩
  | 96 => ⟨S8x512, .i1⟩
  | 97 => ⟨S8x512, .i1⟩
  | 98 => ⟨S8x512, .i1⟩
  | 99 => ⟨S_, .f32⟩
  | 100 => ⟨S8x512, .f32⟩
  | 101 => ⟨S_, .f32⟩
  | 102 => ⟨S8x512, .f32⟩
  | 103 => ⟨S8x512, .f32⟩
  | 104 => ⟨S8x512x1, .f32⟩
  | 105 => ⟨S8x512x4, .f32⟩
  | 106 => ⟨S8x512x4, .f32⟩
  | 107 => ⟨S8x512x4, .f32⟩
  | 108 => ⟨S_, .f32⟩
  | 109 => ⟨S8x512, .f32⟩
  | 110 => ⟨S8x512x1, .f32⟩
  | 111 => ⟨S8x512x4, .f32⟩
  | 112 => ⟨S8x512x4, .f32⟩
  | 113 => ⟨S8x512x2, .f32⟩
  | 114 => ⟨S_, .f32⟩
  | 115 => ⟨S8x512, .f32⟩
  | 116 => ⟨S_, .f32⟩
  | 117 => ⟨S8x512, .f32⟩
  | 118 => ⟨S8x512, .i1⟩
  | 119 => ⟨S_, .f32⟩
  | 120 => ⟨S8x512, .f32⟩
  | 121 => ⟨S_, .f32⟩
  | 122 => ⟨S8x512, .f32⟩
  | 123 => ⟨S8x512, .f32⟩
  | 124 => ⟨S8x512x1, .f32⟩
  | 125 => ⟨S8x512x4, .f32⟩
  | 126 => ⟨S8x512x4, .f32⟩
  | 127 => ⟨S8x512x4, .f32⟩
  | _ => ⟨S8x512x4, .f32⟩

abbrev hbmTy0_1 (i : Nat) : BufTy := match i % 128 with
  | 0 => ⟨S_, .f32⟩
  | 1 => ⟨S8x512, .f32⟩
  | 2 => ⟨S8x512x1, .f32⟩
  | 3 => ⟨S8x512x4, .f32⟩
  | 4 => ⟨S8x512x4, .f32⟩
  | 5 => ⟨S8x512x2, .f32⟩
  | 6 => ⟨S_, .f32⟩
  | 7 => ⟨S8x512, .f32⟩
  | 8 => ⟨S_, .f32⟩
  | 9 => ⟨S8x512, .f32⟩
  | 10 => ⟨S8x512, .i1⟩
  | 11 => ⟨S8x512, .i1⟩
  | 12 => ⟨S8x512, .i1⟩
  | 13 => ⟨S8x512, .i1⟩
  | 14 => ⟨S8x512, .i1⟩
  | 15 => ⟨S_, .f32⟩
  | 16 => ⟨S8x512x512x4, .f32⟩
  | 17 => ⟨S8x512x512x4, .i1⟩
  | 18 => ⟨S_, .i1⟩
  | 19 => ⟨S8x512x512, .i1⟩
  | 20 => ⟨S512, .i32⟩
  | 21 => ⟨S1x512, .i32⟩
  | 22 => ⟨S512, .i32⟩
  | 23 => ⟨S512x1, .i32⟩
  | 24 => ⟨S512x512, .i32⟩
  | 25 => ⟨S512x512, .i32⟩
  | 26 => ⟨S512x512, .i1⟩
  | 27 => ⟨S1x512x512, .i1⟩
  | 28 => ⟨S8x512x512, .i1⟩
  | 29 => ⟨S8x512x512, .i1⟩
  | 30 => ⟨S_, .i1⟩
  | 31 => ⟨S8x512, .i1⟩
  | 32 => ⟨S4, .i32⟩
  | 33 => ⟨S_, .i32⟩
  | 34 => ⟨S4, .i32⟩
  | 35 => ⟨S4, .i1⟩
  | 36 => ⟨S_, .i32⟩
  | 37 => ⟨S4, .i32⟩
  | 38 => ⟨S4, .i32⟩
  | 39 => ⟨S_, .i32⟩
  | 40 => ⟨S4, .i32⟩
  | 41 => ⟨S4, .i32⟩
  | 42 => ⟨S4, .i32⟩
  | 43 => ⟨S512, .i32⟩
  | 44 => ⟨S512x8x4, .f32⟩
  | 45 => ⟨S512x8x4, .f32⟩
  | 46 => ⟨S512x8, .f32⟩
  | 47 => ⟨S512x8, .i1⟩
  | 48 => ⟨S512x8, .i1⟩
  | 49 => ⟨S512x8, .i1⟩
  | 50 => ⟨S_, .i32⟩
  | 51 => ⟨S512, .i32⟩
  | 52 => ⟨S512x8x4, .f32⟩
  | 53 => ⟨S512x8x4, .f32⟩
  | 54 => ⟨S512x8, .f32⟩
  | 55 => ⟨S512x8, .i1⟩
  | 56 => ⟨S512x8, .i1⟩
  | 57 => ⟨S512x8, .i1⟩
  | 58 => ⟨S4, .i32⟩
  | 59 => ⟨S_, .i32⟩
  | 60 => ⟨S8x512x4, .f32⟩
  | 61 => ⟨S8x512x4, .f32⟩
  | 62 => ⟨S_, .i32⟩
  | 63 => ⟨S_, .i1⟩
  | 64 => ⟨S1, .i32⟩
  | 65 => ⟨S_, .i32⟩
  | 66 => ⟨S_, .i32⟩
  | 67 => ⟨S_, .i32⟩
  | 68 => ⟨S1x8x4, .f32⟩
  | 69 => ⟨S8x4, .f32⟩
  | 70 => ⟨S_, .i32⟩
  | 71 => ⟨S_, .i32⟩
  | 72 => ⟨S1x8x4, .f32⟩
  | 73 => ⟨S8x4, .f32⟩
  | 74 => ⟨S_, .i32⟩
  | 75 => ⟨S1x8, .f32⟩
  | 76 => ⟨S8, .f32⟩
  | 77 => ⟨S_, .i32⟩
  | 78 => ⟨S1x8, .i1⟩
  | 79 => ⟨S8, .i1⟩
  | 80 => ⟨S_, .i32⟩
  | 81 => ⟨S1x8, .i1⟩
  | 82 => ⟨S8, .i1⟩
  | 83 => ⟨S_, .i32⟩
  | 84 => ⟨S1x8, .i1⟩
  | 85 => ⟨S8, .i1⟩
  | 86 => ⟨S8x1, .f32⟩
  | 87 => ⟨S8x4, .f32⟩
  | 88 => ⟨S8x4, .f32⟩
  | 89 => ⟨S8x1, .f32⟩
  | 90 => ⟨S8x4, .f32⟩
  | 91 => ⟨S8x4, .f32⟩
  | 92 => ⟨S8x2, .f32⟩
  | 93 => ⟨S_, .f32⟩
  | 94 => ⟨S_, .f32⟩
  | 95 => ⟨S8, .f32⟩
  | 96 => ⟨S8, .f32⟩
  | 97 => ⟨S8, .f32⟩
  | 98 => ⟨S8x1, .f32⟩
  | 99 => ⟨S8x1, .f32⟩
  | 100 => ⟨S8x2, .f32⟩
  | 101 => ⟨S8x2, .f32⟩
  | 102 => ⟨S8x2, .f32⟩
  | 103 => ⟨S_, .f32⟩
  | 104 => ⟨S_, .f32⟩
  | 105 => ⟨S8, .f32⟩
  | 106 => ⟨S8, .f32⟩
  | 107 => ⟨S8, .f32⟩
  | 108 => ⟨S8x1, .f32⟩
  | 109 => ⟨S8x1, .f32⟩
  | 110 => ⟨S8x2, .f32⟩
  | 111 => ⟨S8x2, .f32⟩
  | 112 => ⟨S4, .i32⟩
  | 113 => ⟨S4, .i32⟩
  | 114 => ⟨S_, .i32⟩
  | 115 => ⟨S4, .i32⟩
  | 116 => ⟨S4, .i1⟩
  | 117 => ⟨S_, .i32⟩
  | 118 => ⟨S4, .i32⟩
  | 119 => ⟨S4, .i1⟩
  | 120 => ⟨S4, .i1⟩
  | 121 => ⟨S_, .i32⟩
  | 122 => ⟨S_, .i32⟩
  | 123 => ⟨S_, .i32⟩
  | 124 => ⟨S4, .i32⟩
  | 125 => ⟨S4, .i32⟩
  | 126 => ⟨S_, .i32⟩
  | 127 => ⟨S4, .i32⟩
  | _ => ⟨S8x512x4, .f32⟩

abbrev hbmTy0_2 (i : Nat) : BufTy := match i % 128 with
  | 0 => ⟨S4, .i32⟩
  | 1 => ⟨S_, .i32⟩
  | 2 => ⟨S4, .i32⟩
  | 3 => ⟨S4, .i1⟩
  | 4 => ⟨S_, .i32⟩
  | 5 => ⟨S4, .i32⟩
  | 6 => ⟨S4, .i32⟩
  | 7 => ⟨S4, .i32⟩
  | 8 => ⟨S4x1, .i32⟩
  | 9 => ⟨S8x4x4, .f32⟩
  | 10 => ⟨S_, .f32⟩
  | 11 => ⟨S8x4, .f32⟩
  | 12 => ⟨S_, .f32⟩
  | 13 => ⟨S8x4, .f32⟩
  | 14 => ⟨S8x4, .i1⟩
  | 15 => ⟨S_, .i32⟩
  | 16 => ⟨S4, .i32⟩
  | 17 => ⟨S4, .i1⟩
  | 18 => ⟨S_, .i32⟩
  | 19 => ⟨S4, .i32⟩
  | 20 => ⟨S4, .i32⟩
  | 21 => ⟨S4, .i32⟩
  | 22 => ⟨S4x1, .i32⟩
  | 23 => ⟨S8x4x4, .f32⟩
  | 24 => ⟨S_, .f32⟩
  | 25 => ⟨S8x4, .f32⟩
  | 26 => ⟨S_, .f32⟩
  | 27 => ⟨S8x4, .f32⟩
  | 28 => ⟨S8x4, .i1⟩
  | 29 => ⟨S8x4, .i1⟩
  | 30 => ⟨S1x4, .i1⟩
  | 31 => ⟨S8x4, .i1⟩
  | 32 => ⟨S8x4, .i1⟩
  | 33 => ⟨S_, .i1⟩
  | 34 => ⟨S8, .i1⟩
  | 35 => ⟨S_, .f32⟩
  | 36 => ⟨S_, .f32⟩
  | 37 => ⟨S8, .f32⟩
  | 38 => ⟨S8, .f32⟩
  | 39 => ⟨S8, .f32⟩
  | 40 => ⟨S8x1, .f32⟩
  | 41 => ⟨S8x1, .f32⟩
  | 42 => ⟨S8x2, .f32⟩
  | 43 => ⟨S8x2, .f32⟩
  | 44 => ⟨S8x1, .f32⟩
  | 45 => ⟨S8x1, .f32⟩
  | 46 => ⟨S8x2, .f32⟩
  | 47 => ⟨S8x2, .f32⟩
  | 48 => ⟨S_, .f32⟩
  | 49 => ⟨S_, .f32⟩
  | 50 => ⟨S8, .f32⟩
  | 51 => ⟨S8, .f32⟩
  | 52 => ⟨S8, .f32⟩
  | 53 => ⟨S8x1, .f32⟩
  | 54 => ⟨S8x1, .f32⟩
  | 55 => ⟨S8x2, .f32⟩
  | 56 => ⟨S8x2, .f32⟩
  | 57 => ⟨S8x2, .f32⟩
  | 58 => ⟨S8x4, .f32⟩
  | 59 => ⟨S8x2, .f32⟩
  | 60 => ⟨S8x4, .f32⟩
  | 61 => ⟨S_, .i32⟩
  | 62 => ⟨S_, .i1⟩
  | 63 => ⟨S_, .i32⟩
  | 64 => ⟨S_, .i32⟩
  | 65 => ⟨S_, .i32⟩
  | 66 => ⟨S1, .i32⟩
  | 67 => ⟨S8x512x4, .f32⟩
  | 68 => ⟨S_, .i32⟩
  | 69 => ⟨S_, .i1⟩
  | 70 => ⟨S_, .i32⟩
  | 71 => ⟨S_, .i32⟩
  | 72 => ⟨S_, .i32⟩
  | 73 => ⟨S1, .i32⟩
  | 74 => ⟨S8x512x4, .f32⟩
  | 75 => ⟨S_, .i32⟩
  | 76 => ⟨S_, .i32⟩
  | _ => ⟨S8x512x4, .f32⟩

abbrev hbmTy (i : Nat) : BufTy := match i / 128 with
  | 0 => hbmTy0_0 i
  | 1 => hbmTy0_1 i
  | 2 => hbmTy0_2 i
  | _ => ⟨S8x512x4, .f32⟩

abbrev bufTy : (tb : Table) → Fin (tcTables nBuf tb) → BufTy
  | .hbm, ⟨i, _⟩ => hbmTy i
  | _, _ => ⟨S8x512x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_call1_cst : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst : Ref sig .tc := ⟨.hbm, 32, rfl⟩
abbrev main_v17 : Ref sig .tc := ⟨.hbm, 33, rfl⟩
abbrev main_v18 : Ref sig .tc := ⟨.hbm, 34, rfl⟩
abbrev main_cst_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_call2_v0 : Ref sig .tc := ⟨.hbm, 46, rfl⟩
abbrev main_call2_v1 : Ref sig .tc := ⟨.hbm, 47, rfl⟩
abbrev main_v26 : Ref sig .tc := ⟨.hbm, 48, rfl⟩
abbrev main_c : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_call3_c : Ref sig .tc := ⟨.hbm, 53, rfl⟩
abbrev main_call3_v0 : Ref sig .tc := ⟨.hbm, 54, rfl⟩
abbrev main_call3_v1 : Ref sig .tc := ⟨.hbm, 55, rfl⟩
abbrev main_call3_v2 : Ref sig .tc := ⟨.hbm, 56, rfl⟩
abbrev main_v29 : Ref sig .tc := ⟨.hbm, 57, rfl⟩
abbrev main_c_5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_c_6 : Ref sig .tc := ⟨.hbm, 74, rfl⟩
abbrev main_v45 : Ref sig .tc := ⟨.hbm, 75, rfl⟩
abbrev main_v46 : Ref sig .tc := ⟨.hbm, 76, rfl⟩
abbrev main_c_7 : Ref sig .tc := ⟨.hbm, 77, rfl⟩
abbrev main_call4_c : Ref sig .tc := ⟨.hbm, 78, rfl⟩
abbrev main_call4_v0 : Ref sig .tc := ⟨.hbm, 79, rfl⟩
abbrev main_call4_v1 : Ref sig .tc := ⟨.hbm, 80, rfl⟩
abbrev main_call4_v2 : Ref sig .tc := ⟨.hbm, 81, rfl⟩
abbrev main_v47 : Ref sig .tc := ⟨.hbm, 82, rfl⟩
abbrev main_c_8 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_cst_9 : Ref sig .tc := ⟨.hbm, 99, rfl⟩
abbrev main_v63 : Ref sig .tc := ⟨.hbm, 100, rfl⟩
abbrev main_cst_10 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_11 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_12 : Ref sig .tc := ⟨.hbm, 114, rfl⟩
abbrev main_v75 : Ref sig .tc := ⟨.hbm, 115, rfl⟩
abbrev main_cst_13 : Ref sig .tc := ⟨.hbm, 116, rfl⟩
abbrev main_v76 : Ref sig .tc := ⟨.hbm, 117, rfl⟩
abbrev main_v77 : Ref sig .tc := ⟨.hbm, 118, rfl⟩
abbrev main_cst_14 : Ref sig .tc := ⟨.hbm, 119, rfl⟩
abbrev main_v78 : Ref sig .tc := ⟨.hbm, 120, rfl⟩
abbrev main_cst_15 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_16 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_cst_17 : Ref sig .tc := ⟨.hbm, 134, rfl⟩
abbrev main_v90 : Ref sig .tc := ⟨.hbm, 135, rfl⟩
abbrev main_cst_18 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_cst_19 : Ref sig .tc := ⟨.hbm, 143, rfl⟩
abbrev main_v97 : Ref sig .tc := ⟨.hbm, 144, rfl⟩
abbrev main_v98 : Ref sig .tc := ⟨.hbm, 145, rfl⟩
abbrev main_c_20 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_c_21 : Ref sig .tc := ⟨.hbm, 158, rfl⟩
abbrev main_v110 : Ref sig .tc := ⟨.hbm, 159, rfl⟩
abbrev main_v111 : Ref sig .tc := ⟨.hbm, 160, rfl⟩
abbrev main_c_22 : Ref sig .tc := ⟨.hbm, 161, rfl⟩
abbrev main_v112 : Ref sig .tc := ⟨.hbm, 162, rfl⟩
abbrev main_v113 : Ref sig .tc := ⟨.hbm, 163, rfl⟩
abbrev main_c_23 : Ref sig .tc := ⟨.hbm, 164, rfl⟩
abbrev main_v114 : Ref sig .tc := ⟨.hbm, 165, rfl⟩
abbrev main_v115 : Ref sig .tc := ⟨.hbm, 166, rfl⟩
abbrev main_c_24 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_v120 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_c_25 : Ref sig .tc := ⟨.hbm, 178, rfl⟩
abbrev main_v126_0 : Ref sig .tc := ⟨.hbm, 179, rfl⟩
abbrev main_v126_1 : Ref sig .tc := ⟨.hbm, 180, rfl⟩
abbrev main_v126_2 : Ref sig .tc := ⟨.hbm, 181, rfl⟩
abbrev main_v126_3 : Ref sig .tc := ⟨.hbm, 182, rfl⟩
abbrev main_v126_4 : Ref sig .tc := ⟨.hbm, 183, rfl⟩
abbrev main_v126_5 : Ref sig .tc := ⟨.hbm, 184, rfl⟩
abbrev main_v126_6 : Ref sig .tc := ⟨.hbm, 185, rfl⟩
abbrev main_v126_7 : Ref sig .tc := ⟨.hbm, 186, rfl⟩
abbrev main_v126_8 : Ref sig .tc := ⟨.hbm, 187, rfl⟩
abbrev main_v126_9 : Ref sig .tc := ⟨.hbm, 188, rfl⟩
abbrev main_v126_10 : Ref sig .tc := ⟨.hbm, 189, rfl⟩
abbrev main_while0c_c_36 : Ref sig .tc := ⟨.hbm, 190, rfl⟩
abbrev main_while0c_v127 : Ref sig .tc := ⟨.hbm, 191, rfl⟩
abbrev main_while0b_call6_v0 : Ref sig .tc := ⟨.hbm, 192, rfl⟩
abbrev main_while0b_v127 : Ref sig .tc := ⟨.hbm, 193, rfl⟩
abbrev main_while0b_call7_c : Ref sig .tc := ⟨.hbm, 194, rfl⟩
abbrev main_while0b_call7_c_0 : Ref sig .tc := ⟨.hbm, 195, rfl⟩
abbrev main_while0b_call7_v0 : Ref sig .tc := ⟨.hbm, 196, rfl⟩
abbrev main_while0b_v128 : Ref sig .tc := ⟨.hbm, 197, rfl⟩
abbrev main_while0b_call8_c : Ref sig .tc := ⟨.hbm, 198, rfl⟩
abbrev main_while0b_call8_c_0 : Ref sig .tc := ⟨.hbm, 199, rfl⟩
abbrev main_while0b_call8_v0 : Ref sig .tc := ⟨.hbm, 200, rfl⟩
abbrev main_while0b_v129 : Ref sig .tc := ⟨.hbm, 201, rfl⟩
abbrev main_while0b_call9_c : Ref sig .tc := ⟨.hbm, 202, rfl⟩
abbrev main_while0b_call9_v0 : Ref sig .tc := ⟨.hbm, 203, rfl⟩
abbrev main_while0b_v130 : Ref sig .tc := ⟨.hbm, 204, rfl⟩
abbrev main_while0b_call10_c : Ref sig .tc := ⟨.hbm, 205, rfl⟩
abbrev main_while0b_call10_v0 : Ref sig .tc := ⟨.hbm, 206, rfl⟩
abbrev main_while0b_v131 : Ref sig .tc := ⟨.hbm, 207, rfl⟩
abbrev main_while0b_call11_c : Ref sig .tc := ⟨.hbm, 208, rfl⟩
abbrev main_while0b_call11_v0 : Ref sig .tc := ⟨.hbm, 209, rfl⟩
abbrev main_while0b_v132 : Ref sig .tc := ⟨.hbm, 210, rfl⟩
abbrev main_while0b_call12_c : Ref sig .tc := ⟨.hbm, 211, rfl⟩
abbrev main_while0b_call12_v0 : Ref sig .tc := ⟨.hbm, 212, rfl⟩
abbrev main_while0b_v133 : Ref sig .tc := ⟨.hbm, 213, rfl⟩
abbrev main_while0b_v134 : Ref sig .tc := ⟨.hbm, 214, rfl⟩
abbrev main_while0b_v135 : Ref sig .tc := ⟨.hbm, 215, rfl⟩
abbrev main_while0b_v136 : Ref sig .tc := ⟨.hbm, 216, rfl⟩
abbrev main_while0b_v137 : Ref sig .tc := ⟨.hbm, 217, rfl⟩
abbrev main_while0b_v138 : Ref sig .tc := ⟨.hbm, 218, rfl⟩
abbrev main_while0b_v139 : Ref sig .tc := ⟨.hbm, 219, rfl⟩
abbrev main_while0b_v140 : Ref sig .tc := ⟨.hbm, 220, rfl⟩
abbrev main_while0b_cst_36 : Ref sig .tc := ⟨.hbm, 221, rfl⟩
abbrev main_while0b_cst_37 : Ref sig .tc := ⟨.hbm, 222, rfl⟩
abbrev main_while0b_call13_v0 : Ref sig .tc := ⟨.hbm, 223, rfl⟩
abbrev main_while0b_call13_v1 : Ref sig .tc := ⟨.hbm, 224, rfl⟩
abbrev main_while0b_v141 : Ref sig .tc := ⟨.hbm, 225, rfl⟩
abbrev main_while0b_v142 : Ref sig .tc := ⟨.hbm, 226, rfl⟩
abbrev main_while0b_v143 : Ref sig .tc := ⟨.hbm, 227, rfl⟩
abbrev main_while0b_v144 : Ref sig .tc := ⟨.hbm, 228, rfl⟩
abbrev main_while0b_v145 : Ref sig .tc := ⟨.hbm, 229, rfl⟩
abbrev main_while0b_v146 : Ref sig .tc := ⟨.hbm, 230, rfl⟩
abbrev main_while0b_cst_38 : Ref sig .tc := ⟨.hbm, 231, rfl⟩
abbrev main_while0b_cst_39 : Ref sig .tc := ⟨.hbm, 232, rfl⟩
abbrev main_while0b_call14_v0 : Ref sig .tc := ⟨.hbm, 233, rfl⟩
abbrev main_while0b_call14_v1 : Ref sig .tc := ⟨.hbm, 234, rfl⟩
abbrev main_while0b_v147 : Ref sig .tc := ⟨.hbm, 235, rfl⟩
abbrev main_while0b_v148 : Ref sig .tc := ⟨.hbm, 236, rfl⟩
abbrev main_while0b_v149 : Ref sig .tc := ⟨.hbm, 237, rfl⟩
abbrev main_while0b_v150 : Ref sig .tc := ⟨.hbm, 238, rfl⟩
abbrev main_while0b_v151 : Ref sig .tc := ⟨.hbm, 239, rfl⟩
abbrev main_while0b_v152 : Ref sig .tc := ⟨.hbm, 240, rfl⟩
abbrev main_while0b_v153 : Ref sig .tc := ⟨.hbm, 241, rfl⟩
abbrev main_while0b_c_40 : Ref sig .tc := ⟨.hbm, 242, rfl⟩
abbrev main_while0b_v154 : Ref sig .tc := ⟨.hbm, 243, rfl⟩
abbrev main_while0b_v155 : Ref sig .tc := ⟨.hbm, 244, rfl⟩
abbrev main_while0b_c_41 : Ref sig .tc := ⟨.hbm, 245, rfl⟩
abbrev main_while0b_v156 : Ref sig .tc := ⟨.hbm, 246, rfl⟩
abbrev main_while0b_v157 : Ref sig .tc := ⟨.hbm, 247, rfl⟩
abbrev main_while0b_v158 : Ref sig .tc := ⟨.hbm, 248, rfl⟩
abbrev main_while0b_c_42 : Ref sig .tc := ⟨.hbm, 249, rfl⟩
abbrev main_while0b_c_43 : Ref sig .tc := ⟨.hbm, 250, rfl⟩
abbrev main_while0b_call15_v0 : Ref sig .tc := ⟨.hbm, 251, rfl⟩
abbrev main_while0b_call15_v1 : Ref sig .tc := ⟨.hbm, 252, rfl⟩
abbrev main_while0b_call15_v2 : Ref sig .tc := ⟨.hbm, 253, rfl⟩
abbrev main_while0b_call15_v3 : Ref sig .tc := ⟨.hbm, 254, rfl⟩
abbrev main_while0b_call15_v4 : Ref sig .tc := ⟨.hbm, 255, rfl⟩
abbrev main_while0b_v159 : Ref sig .tc := ⟨.hbm, 256, rfl⟩
abbrev main_while0b_c_44 : Ref sig .tc := ⟨.hbm, 257, rfl⟩
abbrev main_while0b_v160 : Ref sig .tc := ⟨.hbm, 258, rfl⟩
abbrev main_while0b_v161 : Ref sig .tc := ⟨.hbm, 259, rfl⟩
abbrev main_while0b_c_45 : Ref sig .tc := ⟨.hbm, 260, rfl⟩
abbrev main_while0b_v162 : Ref sig .tc := ⟨.hbm, 261, rfl⟩
abbrev main_while0b_v163 : Ref sig .tc := ⟨.hbm, 262, rfl⟩
abbrev main_while0b_v164 : Ref sig .tc := ⟨.hbm, 263, rfl⟩
abbrev main_while0b_v165 : Ref sig .tc := ⟨.hbm, 264, rfl⟩
abbrev main_while0b_v166 : Ref sig .tc := ⟨.hbm, 265, rfl⟩
abbrev main_while0b_cst_46 : Ref sig .tc := ⟨.hbm, 266, rfl⟩
abbrev main_while0b_v167 : Ref sig .tc := ⟨.hbm, 267, rfl⟩
abbrev main_while0b_cst_47 : Ref sig .tc := ⟨.hbm, 268, rfl⟩
abbrev main_while0b_v168 : Ref sig .tc := ⟨.hbm, 269, rfl⟩
abbrev main_while0b_v169 : Ref sig .tc := ⟨.hbm, 270, rfl⟩
abbrev main_while0b_c_48 : Ref sig .tc := ⟨.hbm, 271, rfl⟩
abbrev main_while0b_v170 : Ref sig .tc := ⟨.hbm, 272, rfl⟩
abbrev main_while0b_v171 : Ref sig .tc := ⟨.hbm, 273, rfl⟩
abbrev main_while0b_c_49 : Ref sig .tc := ⟨.hbm, 274, rfl⟩
abbrev main_while0b_v172 : Ref sig .tc := ⟨.hbm, 275, rfl⟩
abbrev main_while0b_v173 : Ref sig .tc := ⟨.hbm, 276, rfl⟩
abbrev main_while0b_v174 : Ref sig .tc := ⟨.hbm, 277, rfl⟩
abbrev main_while0b_v175 : Ref sig .tc := ⟨.hbm, 278, rfl⟩
abbrev main_while0b_v176 : Ref sig .tc := ⟨.hbm, 279, rfl⟩
abbrev main_while0b_cst_50 : Ref sig .tc := ⟨.hbm, 280, rfl⟩
abbrev main_while0b_v177 : Ref sig .tc := ⟨.hbm, 281, rfl⟩
abbrev main_while0b_cst_51 : Ref sig .tc := ⟨.hbm, 282, rfl⟩
abbrev main_while0b_v178 : Ref sig .tc := ⟨.hbm, 283, rfl⟩
abbrev main_while0b_v179 : Ref sig .tc := ⟨.hbm, 284, rfl⟩
abbrev main_while0b_v180 : Ref sig .tc := ⟨.hbm, 285, rfl⟩
abbrev main_while0b_v181 : Ref sig .tc := ⟨.hbm, 286, rfl⟩
abbrev main_while0b_v182 : Ref sig .tc := ⟨.hbm, 287, rfl⟩
abbrev main_while0b_v183 : Ref sig .tc := ⟨.hbm, 288, rfl⟩
abbrev main_while0b_c_52 : Ref sig .tc := ⟨.hbm, 289, rfl⟩
abbrev main_while0b_v184 : Ref sig .tc := ⟨.hbm, 290, rfl⟩
abbrev main_while0b_cst_53 : Ref sig .tc := ⟨.hbm, 291, rfl⟩
abbrev main_while0b_cst_54 : Ref sig .tc := ⟨.hbm, 292, rfl⟩
abbrev main_while0b_call16_v0 : Ref sig .tc := ⟨.hbm, 293, rfl⟩
abbrev main_while0b_call16_v1 : Ref sig .tc := ⟨.hbm, 294, rfl⟩
abbrev main_while0b_v185 : Ref sig .tc := ⟨.hbm, 295, rfl⟩
abbrev main_while0b_v186 : Ref sig .tc := ⟨.hbm, 296, rfl⟩
abbrev main_while0b_v187 : Ref sig .tc := ⟨.hbm, 297, rfl⟩
abbrev main_while0b_v188 : Ref sig .tc := ⟨.hbm, 298, rfl⟩
abbrev main_while0b_v189 : Ref sig .tc := ⟨.hbm, 299, rfl⟩
abbrev main_while0b_v190 : Ref sig .tc := ⟨.hbm, 300, rfl⟩
abbrev main_while0b_v191 : Ref sig .tc := ⟨.hbm, 301, rfl⟩
abbrev main_while0b_v192 : Ref sig .tc := ⟨.hbm, 302, rfl⟩
abbrev main_while0b_v193 : Ref sig .tc := ⟨.hbm, 303, rfl⟩
abbrev main_while0b_cst_55 : Ref sig .tc := ⟨.hbm, 304, rfl⟩
abbrev main_while0b_cst_56 : Ref sig .tc := ⟨.hbm, 305, rfl⟩
abbrev main_while0b_call17_v0 : Ref sig .tc := ⟨.hbm, 306, rfl⟩
abbrev main_while0b_call17_v1 : Ref sig .tc := ⟨.hbm, 307, rfl⟩
abbrev main_while0b_v194 : Ref sig .tc := ⟨.hbm, 308, rfl⟩
abbrev main_while0b_v195 : Ref sig .tc := ⟨.hbm, 309, rfl⟩
abbrev main_while0b_v196 : Ref sig .tc := ⟨.hbm, 310, rfl⟩
abbrev main_while0b_v197 : Ref sig .tc := ⟨.hbm, 311, rfl⟩
abbrev main_while0b_v198 : Ref sig .tc := ⟨.hbm, 312, rfl⟩
abbrev main_while0b_v199 : Ref sig .tc := ⟨.hbm, 313, rfl⟩
abbrev main_while0b_v200 : Ref sig .tc := ⟨.hbm, 314, rfl⟩
abbrev main_while0b_v201 : Ref sig .tc := ⟨.hbm, 315, rfl⟩
abbrev main_while0b_v202 : Ref sig .tc := ⟨.hbm, 316, rfl⟩
abbrev main_while0b_c_57 : Ref sig .tc := ⟨.hbm, 317, rfl⟩
abbrev main_while0b_v203 : Ref sig .tc := ⟨.hbm, 318, rfl⟩
abbrev main_while0b_c_58 : Ref sig .tc := ⟨.hbm, 319, rfl⟩
abbrev main_while0b_v204 : Ref sig .tc := ⟨.hbm, 320, rfl⟩
abbrev main_while0b_v205 : Ref sig .tc := ⟨.hbm, 321, rfl⟩
abbrev main_while0b_v206 : Ref sig .tc := ⟨.hbm, 322, rfl⟩
abbrev main_while0b_v207 : Ref sig .tc := ⟨.hbm, 323, rfl⟩
abbrev main_while0b_c_59 : Ref sig .tc := ⟨.hbm, 324, rfl⟩
abbrev main_while0b_v208 : Ref sig .tc := ⟨.hbm, 325, rfl⟩
abbrev main_while0b_c_60 : Ref sig .tc := ⟨.hbm, 326, rfl⟩
abbrev main_while0b_v209 : Ref sig .tc := ⟨.hbm, 327, rfl⟩
abbrev main_while0b_v210 : Ref sig .tc := ⟨.hbm, 328, rfl⟩
abbrev main_while0b_v211 : Ref sig .tc := ⟨.hbm, 329, rfl⟩
abbrev main_while0b_v212 : Ref sig .tc := ⟨.hbm, 330, rfl⟩
abbrev main_while0b_c_61 : Ref sig .tc := ⟨.hbm, 331, rfl⟩
abbrev main_while0b_v213 : Ref sig .tc := ⟨.hbm, 332, rfl⟩

abbrev nD : Nat := 1
abbrev τ : Topo := Topo.v7x

variable {F : FTy → Type} [FloatOps F]

abbrev main_while0_count : Scf.Loop 32 := ⟨0#32, 512#32, 1#32⟩
-- ==== Proof.ScanMath.lean ====
/-
  The scan over booleans, free of any program. A row's flags satisfy a recurrence of order two: flag `i` is
  `base i`, or `q1 i` with flag `i - 1`, or `q2 i` with flag `i - 2` (`flags`). The doubling scan combines, at every
  position, a two-by-two boolean matrix and a vector with those `d` positions earlier (`stepM`), for `d = 1, 2, 4, …`.
  `step_inv` keeps the scan's meaning from `d` to `2 * d` (`Inv`), so that nine steps give the flags of the first 512
  positions (`scan_flags`). `flags_eq` restates the recurrence as the sequential update states it.
-/
module

public import Idealize.ShloMosaic.Lib.Pointwise

@[expose] public section

namespace Cert.ScanMath

/-- The recurrence: at `n`, the flag of position `n` and that of the position before it (false at position 0). -/
def flags (base q1 q2 : ℕ → Bool) : ℕ → Bool × Bool
  | 0 => (base 0, false)
  | n + 1 => (base (n + 1) || (q1 (n + 1) && (flags base q1 q2 n).1) || (q2 (n + 1) && (flags base q1 q2 n).2),
      (flags base q1 q2 n).1)

/-- A row moved `d` positions to the right, `fill` where nothing moves in. -/
def shift (d : ℕ) (fill : Bool) (x : ℕ → Bool) (i : ℕ) : Bool := if d ≤ i then x (i - d) else fill

/-- The scan's six rows: the entries of a matrix and of a vector at every position. -/
structure Rows where
  a11 : ℕ → Bool
  a12 : ℕ → Bool
  a21 : ℕ → Bool
  a22 : ℕ → Bool
  c1 : ℕ → Bool
  c2 : ℕ → Bool

/-- What a position holds combined with what the position `d` before it holds. -/
def stepM (d : ℕ) (s : Rows) : Rows where
  a11 i := (s.a11 i && shift d true s.a11 i) || (s.a12 i && shift d false s.a21 i)
  a12 i := (s.a11 i && shift d false s.a12 i) || (s.a12 i && shift d true s.a22 i)
  a21 i := (s.a21 i && shift d true s.a11 i) || (s.a22 i && shift d false s.a21 i)
  a22 i := (s.a21 i && shift d false s.a12 i) || (s.a22 i && shift d true s.a22 i)
  c1 i := ((s.a11 i && shift d false s.c1 i) || (s.a12 i && shift d false s.c2 i)) || s.c1 i
  c2 i := ((s.a21 i && shift d false s.c1 i) || (s.a22 i && shift d false s.c2 i)) || s.c2 i

/-- The rows before the first step. -/
def rows0 (base q1 q2 : ℕ → Bool) : Rows := ⟨q1, q2, fun _ => true, fun _ => false, base, fun _ => false⟩

/-- The rows after the steps `1, 2, 4, …, 2 ^ (n - 1)`. -/
def rowsAt (base q1 q2 : ℕ → Bool) : ℕ → Rows
  | 0 => rows0 base q1 q2
  | n + 1 => stepM (2 ^ n) (rowsAt base q1 q2 n)

/-- Before position `d` the vector is the flag pair; from there on, matrix and vector carry the pair `d` earlier to it. -/
def Inv (f : ℕ → Bool × Bool) (d : ℕ) (s : Rows) : Prop :=
  ∀ i, (i < d → s.c1 i = (f i).1 ∧ s.c2 i = (f i).2) ∧
    (d ≤ i → (f i).1 = (((s.a11 i && (f (i - d)).1) || (s.a12 i && (f (i - d)).2)) || s.c1 i) ∧
      (f i).2 = (((s.a21 i && (f (i - d)).1) || (s.a22 i && (f (i - d)).2)) || s.c2 i))

theorem step_inv (f : ℕ → Bool × Bool) (d : ℕ) (s : Rows) (h : Inv f d s) : Inv f (2 * d) (stepM d s) := by
  intro i
  obtain ⟨hlt, hge⟩ := h i
  refine ⟨fun hi => ?_, fun hi => ?_⟩
  · by_cases hd : d ≤ i
    · obtain ⟨e1, e2⟩ := hge hd
      obtain ⟨g1, g2⟩ := (h (i - d)).1 (by omega)
      simp only [stepM, shift, if_pos hd, g1, g2]
      exact ⟨e1.symm, e2.symm⟩
    · obtain ⟨e1, e2⟩ := hlt (by omega)
      simp only [stepM, shift, if_neg hd, Bool.and_false, Bool.false_or]
      exact ⟨e1, e2⟩
  · have hd : d ≤ i := by omega
    obtain ⟨e1, e2⟩ := hge hd
    obtain ⟨g1, g2⟩ := (h (i - d)).2 (by omega)
    have hs : i - d - d = i - 2 * d := by omega
    rw [hs] at g1 g2
    simp only [stepM, shift, if_pos hd, e1, e2, g1, g2]
    generalize (f (i - 2 * d)).1 = x
    generalize (f (i - 2 * d)).2 = y
    generalize s.a11 i = p1
    generalize s.a12 i = p2
    generalize s.a21 i = p3
    generalize s.a22 i = p4
    generalize s.a11 (i - d) = r1
    generalize s.a12 (i - d) = r2
    generalize s.a21 (i - d) = r3
    generalize s.a22 (i - d) = r4
    constructor
    · cases p1 <;> cases p2 <;> cases r1 <;> cases r2 <;> cases r3 <;> cases r4 <;> cases x <;> cases y <;> simp
    · cases p3 <;> cases p4 <;> cases r1 <;> cases r2 <;> cases r3 <;> cases r4 <;> cases x <;> cases y <;> simp

theorem rows0_inv (base q1 q2 : ℕ → Bool) : Inv (flags base q1 q2) 1 (rows0 base q1 q2) := by
  intro i
  refine ⟨fun hi => ?_, fun hi => ?_⟩
  · obtain rfl : i = 0 := by omega
    exact ⟨rfl, rfl⟩
  · obtain ⟨n, rfl⟩ : ∃ n, i = n + 1 := ⟨i - 1, by omega⟩
    simp only [rows0, Nat.add_sub_cancel, flags, Bool.true_and, Bool.false_and, Bool.or_false, and_true]
    generalize base (n + 1) = b
    cases b <;> simp

theorem rowsAt_inv (base q1 q2 : ℕ → Bool) : ∀ n, Inv (flags base q1 q2) (2 ^ n) (rowsAt base q1 q2 n)
  | 0 => rows0_inv base q1 q2
  | n + 1 => by
    have h := step_inv _ _ _ (rowsAt_inv base q1 q2 n)
    rw [show 2 ^ (n + 1) = 2 * 2 ^ n by ring]
    exact h

/-- Nine steps give the flags of the first 512 positions. -/
theorem scan_flags (base q1 q2 : ℕ → Bool) (i : ℕ) (hi : i < 512) :
    (rowsAt base q1 q2 9).c1 i = (flags base q1 q2 i).1 :=
  ((rowsAt_inv base q1 q2 9 i).1 (by simpa using hi)).1

/-- The second of the pair is the first of the position before. -/
theorem flags_snd (base q1 q2 : ℕ → Bool) (i : ℕ) :
    (flags base q1 q2 i).2 = if 1 ≤ i then (flags base q1 q2 (i - 1)).1 else false := by
  cases i <;> simp [flags]

/-- The recurrence as the sequential update states it. Position `j`, once updated, counts (`U j`) where `P j`, or
    where `Q1 j` and its flag is set, or where `Q0 j` and its flag is not; the flag of `i` is the disjunction over the
    two positions after it, not yet updated (`N`), and the two before it. -/
theorem flags_eq (N P Q1 Q0 : ℕ → Bool) (hQ : ∀ j, Q0 j = true → Q1 j = true) (base q1 q2 : ℕ → Bool)
    (hb : ∀ i, base i = (N i || ((shift 1 false (fun j => P j || Q0 j) i) || (shift 2 false (fun j => P j || Q0 j) i))))
    (h1 : ∀ i, q1 i = shift 1 false Q1 i) (h2 : ∀ i, q2 i = shift 2 false Q1 i) (i : ℕ) :
    (flags base q1 q2 i).1
      = (N i || (shift 1 false (fun j => P j || if (flags base q1 q2 j).1 then Q1 j else Q0 j) i
          || shift 2 false (fun j => P j || if (flags base q1 q2 j).1 then Q1 j else Q0 j) i)) := by
  have key : (flags base q1 q2 i).1
      = (base i || (q1 i && shift 1 false (fun j => (flags base q1 q2 j).1) i)
          || (q2 i && shift 2 false (fun j => (flags base q1 q2 j).1) i)) := by
    cases i with
    | zero => simp [flags, shift]
    | succ n =>
      have h2' : (flags base q1 q2 n).2 = shift 2 false (fun j => (flags base q1 q2 j).1) (n + 1) := by
        rw [flags_snd]
        cases n <;> simp [shift]
      rw [show (flags base q1 q2 (n + 1)).1 = (base (n + 1) || (q1 (n + 1) && (flags base q1 q2 n).1)
        || (q2 (n + 1) && (flags base q1 q2 n).2)) from rfl, h2']
      simp [shift]
  rw [key, hb, h1, h2]
  unfold shift
  by_cases c1 : 1 ≤ i
  · have g1 := hQ (i - 1)
    rw [if_pos c1, if_pos c1, if_pos c1, if_pos c1]
    by_cases c2 : 2 ≤ i
    · have g2 := hQ (i - 2)
      rw [if_pos c2, if_pos c2, if_pos c2, if_pos c2]
      beta_reduce
      revert g1 g2
      generalize N i = n
      generalize P (i - 1) = p1
      generalize Q1 (i - 1) = u1
      generalize Q0 (i - 1) = v1
      generalize P (i - 2) = p2
      generalize Q1 (i - 2) = u2
      generalize Q0 (i - 2) = v2
      generalize (flags base q1 q2 (i - 1)).1 = x1
      generalize (flags base q1 q2 (i - 2)).1 = x2
      revert n p1 u1 v1 p2 u2 v2 x1 x2
      decide
    · rw [if_neg c2, if_neg c2, if_neg c2, if_neg c2]
      beta_reduce
      revert g1
      generalize N i = n
      generalize P (i - 1) = p1
      generalize Q1 (i - 1) = u1
      generalize Q0 (i - 1) = v1
      generalize (flags base q1 q2 (i - 1)).1 = x1
      revert n p1 u1 v1 x1
      decide
  · have c2 : ¬ 2 ≤ i := by omega
    simp [if_neg c1, if_neg c2]

end Cert.ScanMath

end
-- ==== Proof.Ind.lean ====
/-
  Arrays of zeros and ones over the extended reals, read as arrays of booleans: on them the product is the
  conjunction, the maximum the disjunction, and a guarded rotation along a row moves the row's flags to the right.
-/
module

public import Idealize.ShloMosaic.Lib.WordCmp
public import proofs.«01_k».proof.Proof.ScanMath
public import proofs.«01_k».proof.Proof.Gen.KernelIdeal

@[expose] public section

noncomputable section

namespace Cert.Ind

open Idealize.ShloMosaic Cert.KernelIdeal Cert.ScanMath

/-- One where the flag is set, zero elsewhere. -/
def ind (b : Bool) : EReal := if b then 1 else 0

theorem ind_true : ind true = 1 := rfl
theorem ind_false : ind false = 0 := rfl

theorem ind_mul (a b : Bool) : ind a * ind b = ind (a && b) := by
  cases a <;> cases b <;> simp [ind]

theorem ind_max (a b : Bool) : max (ind a) (ind b) = ind (a || b) := by
  cases a <;> cases b <;> simp [ind]

theorem ind_nonneg (a : Bool) : 0 ≤ ind a := by cases a <;> simp [ind]

/-- The array over eight rows of 512 positions whose flag at row `b`, position `i` is `α b i`. -/
def indV (α : Fin 8 → ℕ → Bool) : FVec Ideal S8x512 .f32 := fun j => ind (α (j 0) (j 1).val)

theorem indV_apply (α : Fin 8 → ℕ → Bool) (b : Fin 8) (i : Fin 512) : indV α (ix2 b i) = ind (α b i.val) := rfl

theorem indV_mul (α β : Fin 8 → ℕ → Bool) : mulf (indV α) (indV β) = indV fun b i => α b i && β b i := by
  funext j
  exact ind_mul _ _

theorem indV_max (α β : Fin 8 → ℕ → Bool) : maximumf (indV α) (indV β) = indV fun b i => α b i || β b i := by
  funext j
  exact ind_max _ _

theorem indV_one : (broadcast S8x512 (Scalar.ofBits .f32 0x3F800000#32 : Ideal .f32)) = indV fun _ _ => true := by
  funext j
  pointwise [indV, ind_true]

theorem indV_zero : (broadcast S8x512 (Scalar.ofBits .f32 0x00000000#32 : Ideal .f32)) = indV fun _ _ => false := by
  funext j
  pointwise [indV, ind_false]

/-- The comparison of a position with a distance, both below 512, as numbers. -/
theorem sge_iff (i : Fin 512) (d : BitVec 32) (hd : d.toNat < 512) :
    IntOp.cmpi .sge (BitVec.ofNat 32 i.val) d = BitVec.ofBool (decide (d.toNat ≤ i.val)) := by
  have h1 : (BitVec.ofNat 32 i.val).toInt = i.val := by
    rw [BitVec.toInt_eq_toNat_of_lt] <;> simp <;> omega
  have h2 : d.toInt = d.toNat := BitVec.toInt_eq_toNat_of_lt (by omega)
  show BitVec.ofBool (decide (d.toInt ≤ (BitVec.ofNat 32 i.val).toInt)) = _
  rw [h1, h2]
  congr 1
  simp only [decide_eq_decide]
  omega

/-- A row rotated right by `d`, with `f` at the positions before `d`, is the row moved to the right. -/
theorem indV_shift (d : BitVec 32) (hd : d.toNat < 512) (f : Bool) (α : Fin 8 → ℕ → Bool)
    (hi : S8x512.Iotas .tc 32 [1]) (hr : S8x512.Rotates 1 none) :
    select (cmpi .sge (iota .tc S8x512 32 [1] hi) (broadcast S8x512 d))
      (dynamicRotate 1 d none (indV α) hr) (indV fun _ _ => f)
      = indV fun b => shift d.toNat f (α b) := by
  funext j
  rw [eq_ix2 j]
  pointwise
  rw [sge_iff (j 1) d hd, WordCmp.select_decide]
  show (if d.toNat ≤ (j 1).val then ind (α (j 0) (((j 1).val + 512 - d.toNat % 512) % 512)) else ind f)
    = ind (shift d.toNat f (α (j 0)) (j 1).val)
  have hj : (j 1).val < 512 := (j 1).isLt
  unfold shift
  split
  · congr 2
    omega
  · rfl

end Cert.Ind

end
-- ==== Proof.Spec.lean ====
/-
  What both programs compute, in plain terms over the extended reals: every position of a row scales its eight
  channels by weights of its own, and by one more weight that depends on whether a neighbour at distance one or two
  is active, the two on the left with their new channels and the two on the right with their old ones.

  The theorem at the end says that the flags of the scan (`ScanMath`) are a solution of that recursion.
-/
module

public import Idealize.ShloMosaic.Lib.IdealHost
public import proofs.«01_k».proof.Proof.ScanMath

@[expose] public section

noncomputable section

namespace Cert.Spec

open Idealize.ShloMosaic Cert.ScanMath

/-- The threshold 0.5. -/
@[reducible] def half : EReal := Ideal.ofBits .f32 0x3F000000#32
/-- The nearest single to 0.1. -/
@[reducible] def c01 : EReal := Ideal.ofBits .f32 0x3DCCCCCD#32
/-- The nearest single to 0.3. -/
@[reducible] def c03 : EReal := Ideal.ofBits .f32 0x3E99999A#32
/-- The nearest single to 0.7. -/
@[reducible] def c07 : EReal := Ideal.ofBits .f32 0x3F333333#32
/-- The number 2. -/
@[reducible] def two : EReal := Ideal.ofBits .f32 0x40000000#32

theorem half_eq : half = (((1 : ℝ) / 2 : ℝ) : EReal) := by
  simp [half, Ideal.ofBits, Ideal.ieee, -EReal.coe_mul]; norm_num

theorem c01_eq : c01 = (((13421773 : ℝ) / 134217728 : ℝ) : EReal) := by
  simp [c01, Ideal.ofBits, Ideal.ieee, -EReal.coe_mul]; norm_num

theorem c07_eq : c07 = (((11744051 : ℝ) / 16777216 : ℝ) : EReal) := by
  simp [c07, Ideal.ofBits, Ideal.ieee, -EReal.coe_mul]; norm_num

theorem half_pos : 0 < half := by
  rw [half_eq, ← EReal.coe_zero, EReal.coe_lt_coe_iff]
  norm_num

theorem half_lt_one : half < 1 := by
  rw [half_eq, ← EReal.coe_one, EReal.coe_lt_coe_iff]
  norm_num

theorem c01_nonneg : 0 ≤ c01 := by
  rw [c01_eq, ← EReal.coe_zero, EReal.coe_le_coe_iff]
  norm_num

theorem c01_le_one : c01 ≤ 1 := by
  rw [c01_eq, ← EReal.coe_one, EReal.coe_le_coe_iff]
  norm_num

theorem c07_nonneg : 0 ≤ c07 := by
  rw [c07_eq, ← EReal.coe_zero, EReal.coe_le_coe_iff]
  norm_num

/-- The weight `w` where the flag is set, one elsewhere. -/
def wt (w : EReal) (r : Bool) : EReal := if r then w else 1

/-- The weight of a position's neighbourhood: one if a neighbour is active, a tenth if none is. -/
def iso (act : Bool) : EReal := if act then 1 else c01

theorem wt_nonneg (w : EReal) (h : 0 ≤ w) (r : Bool) : 0 ≤ wt w r := by
  cases r
  · exact zero_le_one
  · exact h

/-- What the recursion reads of a position: its channels and its weights. -/
structure Ctx where
  a : Fin 8 → Fin 512 → Fin 4 → EReal
  o : Fin 8 → Fin 512 → Fin 4 → EReal
  f : Fin 8 → Fin 512 → EReal
  r2 : Fin 8 → Fin 512 → Bool
  r3 : Fin 8 → Fin 512 → Bool
  cs : Fin 8 → Fin 512 → Bool

/-- Whether one of the eight channels exceeds the threshold. -/
def hot (x y : Fin 4 → EReal) : Bool :=
  decide (half < max (max (max (x 0) (x 1)) (max (x 2) (x 3))) (max (max (y 0) (y 1)) (max (y 2) (y 3))))

theorem hot_eq (x y : Fin 4 → EReal) : hot x y
    = (decide (half < max (max (x 0) (x 1)) (max (x 2) (x 3)))
      || decide (half < max (max (y 0) (y 1)) (max (y 2) (y 3)))) := by
  unfold hot
  rw [← Bool.decide_or, decide_eq_decide]
  exact lt_max_iff

/-- A position below 512, of any number. -/
def at' (i : ℕ) : Fin 512 := Fin.ofNat 512 i

theorem at'_val (i : Fin 512) : at' i.val = i := by
  apply Fin.ext
  exact Nat.mod_eq_of_lt i.isLt

/-- The flags moved to the left by `d`, with none at the right end. -/
def back (d : ℕ) (x : ℕ → Bool) (i : ℕ) : Bool := decide (i + d < 512) && x (i + d)

variable (x : Ctx)

/-- The first kind's channels before the neighbourhood's weight. -/
def ua (b : Fin 8) (i : Fin 512) (c : Fin 4) : EReal := x.a b i c * x.f b i * wt c03 (x.r2 b i)
/-- The second kind's channels before the neighbourhood's weight. -/
def uo (b : Fin 8) (i : Fin 512) (c : Fin 4) : EReal := x.o b i c * x.f b i * wt c03 (x.r3 b i)

/-- The first kind's new channels. -/
def outA (act : Bool) (b : Fin 8) (i : Fin 512) (c : Fin 4) : EReal :=
  if c.val < 2 then ua x b i c * iso act * wt c07 (x.cs b i) else x.a b i c * x.f b i
/-- The second kind's new channels. -/
def outO (act : Bool) (b : Fin 8) (i : Fin 512) (c : Fin 4) : EReal :=
  if c.val < 2 then uo x b i c * iso act else x.o b i c * x.f b i

/-- Whether an old channel exceeds the threshold. -/
def fOld (b : Fin 8) (i : ℕ) : Bool := hot (x.a b (at' i)) (x.o b (at' i))
/-- Whether a new channel exceeds it that the neighbourhood doesn't touch. -/
def fFix (b : Fin 8) (i : ℕ) : Bool :=
  decide (half < max (max (x.a b (at' i) 2 * x.f b (at' i)) (x.a b (at' i) 3 * x.f b (at' i)))
    (max (x.o b (at' i) 2 * x.f b (at' i)) (x.o b (at' i) 3 * x.f b (at' i))))
/-- Whether another new channel exceeds it if a neighbour is active. -/
def fOn (b : Fin 8) (i : ℕ) : Bool :=
  decide (half < max (max (ua x b (at' i) 0 * wt c07 (x.cs b (at' i))) (ua x b (at' i) 1 * wt c07 (x.cs b (at' i))))
    (max (uo x b (at' i) 0) (uo x b (at' i) 1)))
/-- Whether another new channel exceeds it if no neighbour is active. -/
def fOff (b : Fin 8) (i : ℕ) : Bool :=
  decide (half < max (max (ua x b (at' i) 0 * c01 * wt c07 (x.cs b (at' i)))
      (ua x b (at' i) 1 * c01 * wt c07 (x.cs b (at' i))))
    (max (uo x b (at' i) 0 * c01) (uo x b (at' i) 1 * c01)))

/-- What sets a position's flag whatever its left neighbours' flags. -/
def base (b : Fin 8) (i : ℕ) : Bool :=
  (back 1 (fOld x b) i || back 2 (fOld x b) i)
    || (shift 1 false (fun j => fFix x b j || fOff x b j) i || shift 2 false (fun j => fFix x b j || fOff x b j) i)

/-- Whether a neighbour of a position is active. -/
def act (b : Fin 8) (i : ℕ) : Bool := (flags (base x b) (shift 1 false (fOn x b)) (shift 2 false (fOn x b)) i).1

/-- Whether a new channel exceeds the threshold. -/
def fNew (b : Fin 8) (i : ℕ) : Bool :=
  hot (outA x (act x b i) b (at' i)) (outO x (act x b i) b (at' i))

theorem lt_of_mul_lt (u w : EReal) (hw : 0 ≤ w) (h : half < u * c01 * w) : half < u * w := by
  rcases le_total u 0 with hu | hu
  · have h1 : u * c01 ≤ 0 := mul_nonpos_of_nonpos_of_nonneg hu c01_nonneg
    have h2 : u * c01 * w ≤ 0 := mul_nonpos_of_nonpos_of_nonneg h1 hw
    exact absurd (lt_of_lt_of_le h h2) (not_lt.mpr half_pos.le)
  · have h1 : u * c01 ≤ u := by
      calc u * c01 ≤ u * 1 := mul_le_mul_of_nonneg_left c01_le_one hu
        _ = u := mul_one u
    exact lt_of_lt_of_le h (mul_le_mul_of_nonneg_right h1 hw)

theorem lt_of_mul_lt' (u : EReal) (h : half < u * c01) : half < u := by
  have := lt_of_mul_lt u 1 zero_le_one (by simpa using h)
  simpa using this

theorem fOff_fOn (b : Fin 8) (i : ℕ) (h : fOff x b i = true) : fOn x b i = true := by
  simp only [fOff, fOn, decide_eq_true_eq, lt_max_iff] at h ⊢
  have hw := wt_nonneg c07 c07_nonneg (x.cs b (at' i))
  rcases h with (h | h) | (h | h)
  · exact Or.inl (Or.inl (lt_of_mul_lt _ _ hw h))
  · exact Or.inl (Or.inr (lt_of_mul_lt _ _ hw h))
  · exact Or.inr (Or.inl (lt_of_mul_lt' _ h))
  · exact Or.inr (Or.inr (lt_of_mul_lt' _ h))

theorem fNew_eq (b : Fin 8) (i : ℕ) :
    fNew x b i = (fFix x b i || if act x b i then fOn x b i else fOff x b i) := by
  unfold fNew fFix
  generalize act x b i = t
  cases t
  · simp only [hot, outA, outO, iso, fOff, Bool.false_eq_true, if_false]
    rw [← Bool.decide_or, decide_eq_decide]
    simp [lt_max_iff]
    tauto
  · simp only [hot, outA, outO, iso, fOn, if_true, mul_one]
    rw [← Bool.decide_or, decide_eq_decide]
    simp [lt_max_iff]
    tauto

/-- The recursion: a position's flag is set if one of the two positions on its right was active or one of the two on
    its left is. -/
theorem act_eq (b : Fin 8) (i : ℕ) : act x b i
    = ((back 1 (fOld x b) i || back 2 (fOld x b) i)
      || (shift 1 false (fNew x b) i || shift 2 false (fNew x b) i)) := by
  have h := flags_eq (fun i => back 1 (fOld x b) i || back 2 (fOld x b) i) (fFix x b) (fOn x b) (fOff x b)
    (fOff_fOn x b) (base x b) (shift 1 false (fOn x b)) (shift 2 false (fOn x b)) (fun _ => rfl) (fun _ => rfl)
    (fun _ => rfl) i
  have hf : fNew x b = fun j => fFix x b j || if act x b j then fOn x b j else fOff x b j :=
    funext (fNew_eq x b)
  rw [hf]
  exact h

/-! What a position's weights are, of the arguments. -/

/-- The three layers, from eight channels to one number. -/
def mlp (X : Fin 8 → EReal) (W1 : Fin 8 → Fin 32 → EReal) (b1 : Fin 32 → EReal) (W2 : Fin 32 → Fin 16 → EReal)
    (b2 : Fin 16 → EReal) (W3 : Fin 16 → EReal) (b3 : EReal) : EReal :=
  (∑ k, max ((∑ l, max ((∑ m, X m * W1 m l) + b1 l) 0 * W2 l k) + b2 k) 0 * W3 k) + b3

/-- The factor of a score: twice the score below one half, one from there on. -/
def factor (s : EReal) : EReal := if s < half then two * s else 1

/-- Whether the first two of four channels have more than half of the softmax's weight. -/
def soft (x : Fin 4 → EReal) : Bool :=
  decide (half
    < Ideal.div (Ideal.exp (x 0 - max (max (x 0) (x 1)) (max (x 2) (x 3))))
        (((Ideal.exp (x 0 - max (max (x 0) (x 1)) (max (x 2) (x 3)))
          + Ideal.exp (x 1 - max (max (x 0) (x 1)) (max (x 2) (x 3))))
          + Ideal.exp (x 2 - max (max (x 0) (x 1)) (max (x 2) (x 3))))
          + Ideal.exp (x 3 - max (max (x 0) (x 1)) (max (x 2) (x 3))))
      + Ideal.div (Ideal.exp (x 1 - max (max (x 0) (x 1)) (max (x 2) (x 3))))
        (((Ideal.exp (x 0 - max (max (x 0) (x 1)) (max (x 2) (x 3)))
          + Ideal.exp (x 1 - max (max (x 0) (x 1)) (max (x 2) (x 3))))
          + Ideal.exp (x 2 - max (max (x 0) (x 1)) (max (x 2) (x 3))))
          + Ideal.exp (x 3 - max (max (x 0) (x 1)) (max (x 2) (x 3)))))

/-- Whether a position at distance at most three has a positive mark. -/
def near (e : Fin 512 → BitVec 32) (i : Fin 512) : Bool :=
  decide (∃ j : Fin 512, 0 < (e j).toInt ∧ j.val ≤ i.val + 3 ∧ i.val ≤ j.val + 3)

/-- Whether an earlier position is related to this one. -/
def caus (r : Fin 512 → Fin 512 → Fin 4 → EReal) (i : Fin 512) : Bool :=
  decide (∃ (j : Fin 512) (c : Fin 4), half < r i j c ∧ j.val < i.val)

/-- The two kinds' channels of a position, one after the other. -/
def both (a o : Fin 4 → EReal) (m : Fin 8) : EReal :=
  if h : m.val < 4 then a ⟨m.val, h⟩ else o ⟨m.val - 4, by omega⟩

/-- The recursion's data, of the arguments. -/
def ctx (A0 A1 : Fin 8 → Fin 512 → Fin 4 → EReal) (A2 : Fin 8 → Fin 512 → Fin 512 → Fin 4 → EReal)
    (E3 E4 : Fin 8 → Fin 512 → BitVec 32)
    (W1 : Fin 8 → Fin 32 → EReal) (b1 : Fin 32 → EReal) (W2 : Fin 32 → Fin 16 → EReal)
    (b2 : Fin 16 → EReal) (W3 : Fin 16 → EReal) (b3 : EReal) : Ctx where
  a := A0
  o := A1
  f b i := factor (Ideal.logistic (mlp (both (A0 b i) (A1 b i)) W1 b1 W2 b2 W3 b3))
  r2 b i := soft (A0 b i) && !near (E4 b) i
  r3 b i := soft (A1 b i) && !near (E3 b) i
  cs b i := caus (A2 b) i

end Cert.Spec

end
-- ==== Proof.KFlags.lean ====
/-
  The flags the kernel's scan starts from, of any arrays that hold a row's channels and weights: the recurrence's first
  part, the products' flags, and the weight of the neighbourhood.
-/
module

public import Idealize.ShloMosaic.Lib.Pointwise
public import proofs.«01_k».proof.Proof.Ind
public import proofs.«01_k».proof.Proof.Spec
public import proofs.«01_k».proof.Proof.Gen.KernelIdeal.Frame

@[expose] public section

noncomputable section

namespace Cert.KFlags

open Idealize.ShloMosaic Cert.KernelIdeal Cert.KernelIdeal.Gen Cert.ScanMath Cert.Ind Cert.Spec

/-- The array of bits whose bit at row `b`, position `i` is `α b i`. -/
def bitV (α : Fin 8 → ℕ → Bool) : IVec S8x512 1 := fun j => BitVec.ofBool (α (j 0) (j 1).val)

theorem bitV_or (α β : Fin 8 → ℕ → Bool) : ori (bitV α) (bitV β) = bitV fun b i => α b i || β b i := by
  funext j
  exact WordCmp.ori_ofBool _ _

/-- A bit widened to a word and turned into a number is the flag's number. -/
theorem sitofp_bitV (α : Fin 8 → ℕ → Bool) (h : 1 < 32) :
    (sitofp .f32 (extui 32 (bitV α) h) : FVec Ideal S8x512 .f32) = indV α := by
  funext j
  pointwise [bitV, indV]
  cases α (j 0) (j 1).val
  · show (((0#32 : BitVec 32).toInt : ℝ) : EReal) = ind false
    simp [ind]
  · show (((1#32 : BitVec 32).toInt : ℝ) : EReal) = ind true
    simp [ind]

/-- A row rotated left by `512 - d`, with none at the last positions, is the row moved to the left. -/
theorem indV_back (d : BitVec 32) (hd : d.toNat < 512) (hd0 : 0 < d.toNat) (α : Fin 8 → ℕ → Bool)
    (hi : S8x512.Iotas .tc 32 [1]) (hr : S8x512.Rotates 1 none) :
    select (cmpi .slt (iota .tc S8x512 32 [1] hi) (broadcast S8x512 d))
      (dynamicRotate 1 d none (indV α) hr) (indV fun _ _ => false)
      = indV fun b => back (512 - d.toNat) (α b) := by
  funext j
  rw [eq_ix2 j]
  pointwise
  have hj : (j 1).val < 512 := (j 1).isLt
  have h1 : (BitVec.ofNat 32 (j 1).val).toInt = (j 1).val := by
    rw [BitVec.toInt_eq_toNat_of_lt] <;> simp <;> omega
  have h2 : d.toInt = d.toNat := BitVec.toInt_eq_toNat_of_lt (by omega)
  have h3 : IntOp.cmpi .slt (BitVec.ofNat 32 (j 1).val) d = BitVec.ofBool (decide ((j 1).val < d.toNat)) := by
    show BitVec.ofBool (decide ((BitVec.ofNat 32 (j 1).val).toInt < d.toInt)) = _
    rw [h1, h2]
    congr 1
    simp
  rw [h3, WordCmp.select_decide]
  show (if (j 1).val < d.toNat then ind (α (j 0) (((j 1).val + 512 - d.toNat % 512) % 512)) else ind false)
    = ind (back (512 - d.toNat) (α (j 0)) (j 1).val)
  unfold back
  split
  · rw [decide_eq_true (by omega), Bool.true_and]
    congr 2
    omega
  · rw [decide_eq_false (by omega), Bool.false_and]

theorem back1 (α : Fin 8 → ℕ → Bool) (hi : S8x512.Iotas .tc 32 [1]) (hr : S8x512.Rotates 1 none) :
    select (cmpi .slt (iota .tc S8x512 32 [1] hi) (broadcast S8x512 511#32))
      (dynamicRotate 1 511#32 none (indV α) hr) (indV fun _ _ => false) = indV fun b => back 1 (α b) :=
  indV_back 511#32 (by decide) (by decide) α hi hr

theorem back2 (α : Fin 8 → ℕ → Bool) (hi : S8x512.Iotas .tc 32 [1]) (hr : S8x512.Rotates 1 none) :
    select (cmpi .slt (iota .tc S8x512 32 [1] hi) (broadcast S8x512 510#32))
      (dynamicRotate 1 510#32 none (indV α) hr) (indV fun _ _ => false) = indV fun b => back 2 (α b) :=
  indV_back 510#32 (by decide) (by decide) α hi hr

theorem fwd1 (α : Fin 8 → ℕ → Bool) (hi : S8x512.Iotas .tc 32 [1]) (hr : S8x512.Rotates 1 none) :
    select (cmpi .sge (iota .tc S8x512 32 [1] hi) (broadcast S8x512 1#32))
      (dynamicRotate 1 1#32 none (indV α) hr) (indV fun _ _ => false) = indV fun b => shift 1 false (α b) :=
  indV_shift 1#32 (by decide) false α hi hr

theorem fwd2 (α : Fin 8 → ℕ → Bool) (hi : S8x512.Iotas .tc 32 [1]) (hr : S8x512.Rotates 1 none) :
    select (cmpi .sge (iota .tc S8x512 32 [1] hi) (broadcast S8x512 2#32))
      (dynamicRotate 1 2#32 none (indV α) hr) (indV fun _ _ => false) = indV fun b => shift 2 false (α b) :=
  indV_shift 2#32 (by decide) false α hi hr

/-- Arrays that hold the rows' channels and weights. -/
structure Reads (x : Ctx) (f a0 a1 a2 a3 o0 o1 o2 o3 wa wo : FVec Ideal S8x512 .f32) (cs : IVec S8x512 1) : Prop where
  f : ∀ b i, f (ix2 b i) = x.f b i
  a0 : ∀ b i, a0 (ix2 b i) = x.a b i 0
  a1 : ∀ b i, a1 (ix2 b i) = x.a b i 1
  a2 : ∀ b i, a2 (ix2 b i) = x.a b i 2
  a3 : ∀ b i, a3 (ix2 b i) = x.a b i 3
  o0 : ∀ b i, o0 (ix2 b i) = x.o b i 0
  o1 : ∀ b i, o1 (ix2 b i) = x.o b i 1
  o2 : ∀ b i, o2 (ix2 b i) = x.o b i 2
  o3 : ∀ b i, o3 (ix2 b i) = x.o b i 3
  wa : ∀ b i, wa (ix2 b i) = wt c03 (x.r2 b i)
  wo : ∀ b i, wo (ix2 b i) = wt c03 (x.r3 b i)
  cs : ∀ b i, cs (ix2 b i) = BitVec.ofBool (x.cs b i)

variable {x : Ctx} {f a0 a1 a2 a3 o0 o1 o2 o3 wa wo : FVec Ideal S8x512 .f32} {cs : IVec S8x512 1}

/-- The last weight. -/
theorem w7_apply (h : Reads x f a0 a1 a2 a3 o0 o1 o2 o3 wa wo cs) (b : Fin 8) (i : Fin 512) :
    k1_pay36 cs (Scalar.ofBits .f32 0x3F800000#32 : Ideal .f32) (k1_pay35 (F := Ideal)) (ix2 b i) = wt c07 (x.cs b i) := by
  pointwise [k1_pay36, k1_pay35, h.cs]
  cases x.cs b i <;> simp [wt, Scalar.select]

theorem w7_apply' (h : Reads x f a0 a1 a2 a3 o0 o1 o2 o3 wa wo cs) (b : Fin 8) (i : Fin 512) :
    k1_pay36 cs (1 : EReal) (k1_pay35 (F := Ideal)) (ix2 b i) = wt c07 (x.cs b i) := by
  rw [← w7_apply h b i]
  congr 1
  exact Ideal.ofBits_one_f32.symm

theorem ua0_apply (h : Reads x f a0 a1 a2 a3 o0 o1 o2 o3 wa wo cs) (b : Fin 8) (i : Fin 512) :
    k1_pay37 f a0 wa (ix2 b i) = ua x b i 0 := by
  pointwise [k1_pay37, h.f, h.a0, h.wa, ua]

theorem ua1_apply (h : Reads x f a0 a1 a2 a3 o0 o1 o2 o3 wa wo cs) (b : Fin 8) (i : Fin 512) :
    k1_pay38 f a1 wa (ix2 b i) = ua x b i 1 := by
  pointwise [k1_pay38, h.f, h.a1, h.wa, ua]

theorem uo0_apply (h : Reads x f a0 a1 a2 a3 o0 o1 o2 o3 wa wo cs) (b : Fin 8) (i : Fin 512) :
    k1_pay39 f o0 wo (ix2 b i) = uo x b i 0 := by
  pointwise [k1_pay39, h.f, h.o0, h.wo, uo]

theorem uo1_apply (h : Reads x f a0 a1 a2 a3 o0 o1 o2 o3 wa wo cs) (b : Fin 8) (i : Fin 512) :
    k1_pay40 f o1 wo (ix2 b i) = uo x b i 1 := by
  pointwise [k1_pay40, h.f, h.o1, h.wo, uo]

/-- The flags of an active neighbour. -/
theorem on_eq (h : Reads x f a0 a1 a2 a3 o0 o1 o2 o3 wa wo cs) :
    k1_pay45 f a0 a1 o0 o1 cs wa wo (Scalar.ofBits .f32 0x3F800000#32 : Ideal .f32) (k1_pay35 (F := Ideal))
      = bitV (fOn x) := by
  funext j
  obtain ⟨b, i, rfl⟩ : ∃ b i, j = ix2 b i := ⟨j 0, j 1, eq_ix2 j⟩
  pointwise [k1_pay45, ua0_apply h, ua1_apply h, uo0_apply h, uo1_apply h, w7_apply' h]
  simp only [Ideal.cmp_ogt, bitV, fOn, at'_val, ix2_0, ix2_1]

/-- The old channels' flags. -/
theorem old_eq (h : Reads x f a0 a1 a2 a3 o0 o1 o2 o3 wa wo cs) :
    k1_pay46 a0 a1 a2 a3 o0 o1 o2 o3 = bitV (fOld x) := by
  funext j
  obtain ⟨b, i, rfl⟩ : ∃ b i, j = ix2 b i := ⟨j 0, j 1, eq_ix2 j⟩
  pointwise [k1_pay46, h.a0, h.a1, h.a2, h.a3, h.o0, h.o1, h.o2, h.o3]
  simp only [Ideal.cmp_ogt, bitV, fOld, hot, at'_val, ix2_0, ix2_1]

/-- The new channels' flags without an active neighbour. -/
theorem off_eq (h : Reads x f a0 a1 a2 a3 o0 o1 o2 o3 wa wo cs) :
    k1_pay47 f a0 a1 a2 a3 o0 o1 o2 o3 cs wa wo (Scalar.ofBits .f32 0x3F800000#32 : Ideal .f32) (k1_pay35 (F := Ideal))
      = extui 32 (bitV fun b i => fFix x b i || fOff x b i) natLt_1_32 := by
  funext j
  obtain ⟨b, i, rfl⟩ : ∃ b i, j = ix2 b i := ⟨j 0, j 1, eq_ix2 j⟩
  pointwise [k1_pay47, k1_pay41, k1_pay42, k1_pay43, k1_pay44, ua0_apply h, ua1_apply h, uo0_apply h, uo1_apply h,
    w7_apply' h, h.f, h.a2, h.a3, h.o2, h.o3]
  simp only [Ideal.cmp_ogt, bitV, fFix, fOff, at'_val, ix2_0, ix2_1, WordCmp.ori_ofBool]

/-- The recurrence's first part. -/
theorem base_eq (h : Reads x f a0 a1 a2 a3 o0 o1 o2 o3 wa wo cs) :
    k1_pay49 (F := Ideal) (k1_pay46 a0 a1 a2 a3 o0 o1 o2 o3)
      (k1_pay47 f a0 a1 a2 a3 o0 o1 o2 o3 cs wa wo (Scalar.ofBits .f32 0x3F800000#32 : Ideal .f32)
        (k1_pay35 (F := Ideal))) = indV (base x) := by
  unfold k1_pay49
  rw [old_eq h, off_eq h]
  dsimp only
  rw [sitofp_bitV, sitofp_bitV, indV_zero]
  rw [back1, back2, fwd1, fwd2, indV_max, indV_max, indV_max]
  rfl

theorem q1_eq (h : Reads x f a0 a1 a2 a3 o0 o1 o2 o3 wa wo cs) :
    k1_pay50 (F := Ideal) (k1_pay45 f a0 a1 o0 o1 cs wa wo (Scalar.ofBits .f32 0x3F800000#32 : Ideal .f32)
      (k1_pay35 (F := Ideal))) = indV fun b => shift 1 false (fOn x b) := by
  unfold k1_pay50 k1_pay48
  rw [on_eq h]
  dsimp only
  rw [sitofp_bitV, indV_zero, fwd1]

theorem q2_eq (h : Reads x f a0 a1 a2 a3 o0 o1 o2 o3 wa wo cs) :
    k1_pay51 (F := Ideal) (k1_pay45 f a0 a1 o0 o1 cs wa wo (Scalar.ofBits .f32 0x3F800000#32 : Ideal .f32)
      (k1_pay35 (F := Ideal))) = indV fun b => shift 2 false (fOn x b) := by
  unfold k1_pay51 k1_pay48
  rw [on_eq h]
  dsimp only
  rw [sitofp_bitV, indV_zero, fwd2]

end Cert.KFlags

end
-- ==== Proof.KScan.lean ====
/-
  The values the kernel's scan computes, step by step. Given that the rows the scan starts from are arrays of flags
  (`Start`), every array the nine doubling steps compute is the array of flags of `rowsAt` after as many steps, or one
  of them moved to the right. One lemma per value the body names, each from the ones before it.
-/
module

public import proofs.«01_k».proof.Proof.Ind
public import proofs.«01_k».proof.Proof.Gen.KernelIdeal.Frame

@[expose] public section

noncomputable section

namespace Cert.KScan

open Idealize.ShloMosaic Cert.KernelIdeal Cert.KernelIdeal.Gen Cert.ScanMath Cert.Ind

variable {base q1 q2 : Fin 8 → ℕ → Bool}
variable {x0 : Vec Ideal S8x8x512 .f32} {x1 : Vec Ideal S4x8x512 .f32} {x2 : Vec Ideal S4x8x512 .f32}
  {x3 : Vec Ideal S8x512 .i32} {x4 : Vec Ideal S8x512 .i32} {x5 : Vec Ideal S8x512 .f32} {x6 : Vec Ideal S32x8 .f32}
  {x7 : Vec Ideal S32x1 .f32} {x8 : Vec Ideal S16x32 .f32} {x9 : Vec Ideal S16x1 .f32} {x10 : Vec Ideal S1x16 .f32}
  {x11 : Vec Ideal S1x1 .f32}

/-- What the scan starts from: the recurrence's first part and its two products, as flags. -/
structure Start (base q1 q2 : Fin 8 → ℕ → Bool) (x0 : Vec Ideal S8x8x512 .f32) (x1 : Vec Ideal S4x8x512 .f32)
    (x2 : Vec Ideal S4x8x512 .f32) (x3 : Vec Ideal S8x512 .i32) (x4 : Vec Ideal S8x512 .i32)
    (x5 : Vec Ideal S8x512 .f32) (x6 : Vec Ideal S32x8 .f32) (x7 : Vec Ideal S32x1 .f32)
    (x8 : Vec Ideal S16x32 .f32) (x9 : Vec Ideal S16x1 .f32) (x10 : Vec Ideal S1x16 .f32)
    (x11 : Vec Ideal S1x1 .f32) : Prop where
  s181 : k1_pay181 x0 x1 x2 x3 x4 x5 x6 x7 x8 x9 x10 x11 = indV base
  s182 : k1_pay182 x0 x1 x2 x3 x4 x5 x6 x7 x8 x9 x10 x11 = indV q1
  s183 : k1_pay183 x0 x1 x2 x3 x4 x5 x6 x7 x8 x9 x10 x11 = indV q2

/-- The positions along a row. -/
theorem lane_eq : k1_pay180 x0 x1 x2 x3 x4 x5 x6 x7 x8 x9 x10 x11
    = iota .tc S8x512 32 [1] iota_S8x512_d1_w32 := rfl

/-! The move to the right by each distance of the scan. -/

section
variable (α : Fin 8 → ℕ → Bool) (hi : S8x512.Iotas .tc 32 [1]) (hr : S8x512.Rotates 1 none)

theorem sh1t : select (cmpi .sge (iota .tc S8x512 32 (@List.cons (Fin 2) (1 : Fin S8x512.rank) (@List.nil (Fin 2))) hi)
      (broadcast S8x512 1#32)) (dynamicRotate 1 1#32 (@none (ℕ × Fin 2)) (indV α) hr) (indV fun _ _ => true) = indV fun b => shift 1 true (α b) :=
  indV_shift 1#32 (by decide) true α hi hr

theorem sh1f : select (cmpi .sge (iota .tc S8x512 32 (@List.cons (Fin 2) (1 : Fin S8x512.rank) (@List.nil (Fin 2))) hi)
      (broadcast S8x512 1#32)) (dynamicRotate 1 1#32 (@none (ℕ × Fin 2)) (indV α) hr) (indV fun _ _ => false) = indV fun b => shift 1 false (α b) :=
  indV_shift 1#32 (by decide) false α hi hr

theorem sh2t : select (cmpi .sge (iota .tc S8x512 32 (@List.cons (Fin 2) (1 : Fin S8x512.rank) (@List.nil (Fin 2))) hi)
      (broadcast S8x512 2#32)) (dynamicRotate 1 2#32 (@none (ℕ × Fin 2)) (indV α) hr) (indV fun _ _ => true) = indV fun b => shift 2 true (α b) :=
  indV_shift 2#32 (by decide) true α hi hr

theorem sh2f : select (cmpi .sge (iota .tc S8x512 32 (@List.cons (Fin 2) (1 : Fin S8x512.rank) (@List.nil (Fin 2))) hi)
      (broadcast S8x512 2#32)) (dynamicRotate 1 2#32 (@none (ℕ × Fin 2)) (indV α) hr) (indV fun _ _ => false) = indV fun b => shift 2 false (α b) :=
  indV_shift 2#32 (by decide) false α hi hr

theorem sh4t : select (cmpi .sge (iota .tc S8x512 32 (@List.cons (Fin 2) (1 : Fin S8x512.rank) (@List.nil (Fin 2))) hi)
      (broadcast S8x512 4#32)) (dynamicRotate 1 4#32 (@none (ℕ × Fin 2)) (indV α) hr) (indV fun _ _ => true) = indV fun b => shift 4 true (α b) :=
  indV_shift 4#32 (by decide) true α hi hr

theorem sh4f : select (cmpi .sge (iota .tc S8x512 32 (@List.cons (Fin 2) (1 : Fin S8x512.rank) (@List.nil (Fin 2))) hi)
      (broadcast S8x512 4#32)) (dynamicRotate 1 4#32 (@none (ℕ × Fin 2)) (indV α) hr) (indV fun _ _ => false) = indV fun b => shift 4 false (α b) :=
  indV_shift 4#32 (by decide) false α hi hr

theorem sh8t : select (cmpi .sge (iota .tc S8x512 32 (@List.cons (Fin 2) (1 : Fin S8x512.rank) (@List.nil (Fin 2))) hi)
      (broadcast S8x512 8#32)) (dynamicRotate 1 8#32 (@none (ℕ × Fin 2)) (indV α) hr) (indV fun _ _ => true) = indV fun b => shift 8 true (α b) :=
  indV_shift 8#32 (by decide) true α hi hr

theorem sh8f : select (cmpi .sge (iota .tc S8x512 32 (@List.cons (Fin 2) (1 : Fin S8x512.rank) (@List.nil (Fin 2))) hi)
      (broadcast S8x512 8#32)) (dynamicRotate 1 8#32 (@none (ℕ × Fin 2)) (indV α) hr) (indV fun _ _ => false) = indV fun b => shift 8 false (α b) :=
  indV_shift 8#32 (by decide) false α hi hr

theorem sh16t : select (cmpi .sge (iota .tc S8x512 32 (@List.cons (Fin 2) (1 : Fin S8x512.rank) (@List.nil (Fin 2))) hi)
      (broadcast S8x512 16#32)) (dynamicRotate 1 16#32 (@none (ℕ × Fin 2)) (indV α) hr) (indV fun _ _ => true) = indV fun b => shift 16 true (α b) :=
  indV_shift 16#32 (by decide) true α hi hr

theorem sh16f : select (cmpi .sge (iota .tc S8x512 32 (@List.cons (Fin 2) (1 : Fin S8x512.rank) (@List.nil (Fin 2))) hi)
      (broadcast S8x512 16#32)) (dynamicRotate 1 16#32 (@none (ℕ × Fin 2)) (indV α) hr) (indV fun _ _ => false) = indV fun b => shift 16 false (α b) :=
  indV_shift 16#32 (by decide) false α hi hr

theorem sh32t : select (cmpi .sge (iota .tc S8x512 32 (@List.cons (Fin 2) (1 : Fin S8x512.rank) (@List.nil (Fin 2))) hi)
      (broadcast S8x512 32#32)) (dynamicRotate 1 32#32 (@none (ℕ × Fin 2)) (indV α) hr) (indV fun _ _ => true) = indV fun b => shift 32 true (α b) :=
  indV_shift 32#32 (by decide) true α hi hr

theorem sh32f : select (cmpi .sge (iota .tc S8x512 32 (@List.cons (Fin 2) (1 : Fin S8x512.rank) (@List.nil (Fin 2))) hi)
      (broadcast S8x512 32#32)) (dynamicRotate 1 32#32 (@none (ℕ × Fin 2)) (indV α) hr) (indV fun _ _ => false) = indV fun b => shift 32 false (α b) :=
  indV_shift 32#32 (by decide) false α hi hr

theorem sh64t : select (cmpi .sge (iota .tc S8x512 32 (@List.cons (Fin 2) (1 : Fin S8x512.rank) (@List.nil (Fin 2))) hi)
      (broadcast S8x512 64#32)) (dynamicRotate 1 64#32 (@none (ℕ × Fin 2)) (indV α) hr) (indV fun _ _ => true) = indV fun b => shift 64 true (α b) :=
  indV_shift 64#32 (by decide) true α hi hr

theorem sh64f : select (cmpi .sge (iota .tc S8x512 32 (@List.cons (Fin 2) (1 : Fin S8x512.rank) (@List.nil (Fin 2))) hi)
      (broadcast S8x512 64#32)) (dynamicRotate 1 64#32 (@none (ℕ × Fin 2)) (indV α) hr) (indV fun _ _ => false) = indV fun b => shift 64 false (α b) :=
  indV_shift 64#32 (by decide) false α hi hr

theorem sh128t : select (cmpi .sge (iota .tc S8x512 32 (@List.cons (Fin 2) (1 : Fin S8x512.rank) (@List.nil (Fin 2))) hi)
      (broadcast S8x512 128#32)) (dynamicRotate 1 128#32 (@none (ℕ × Fin 2)) (indV α) hr) (indV fun _ _ => true) = indV fun b => shift 128 true (α b) :=
  indV_shift 128#32 (by decide) true α hi hr

theorem sh128f : select (cmpi .sge (iota .tc S8x512 32 (@List.cons (Fin 2) (1 : Fin S8x512.rank) (@List.nil (Fin 2))) hi)
      (broadcast S8x512 128#32)) (dynamicRotate 1 128#32 (@none (ℕ × Fin 2)) (indV α) hr) (indV fun _ _ => false) = indV fun b => shift 128 false (α b) :=
  indV_shift 128#32 (by decide) false α hi hr

theorem sh256t : select (cmpi .sge (iota .tc S8x512 32 (@List.cons (Fin 2) (1 : Fin S8x512.rank) (@List.nil (Fin 2))) hi)
      (broadcast S8x512 256#32)) (dynamicRotate 1 256#32 (@none (ℕ × Fin 2)) (indV α) hr) (indV fun _ _ => true) = indV fun b => shift 256 true (α b) :=
  indV_shift 256#32 (by decide) true α hi hr

theorem sh256f : select (cmpi .sge (iota .tc S8x512 32 (@List.cons (Fin 2) (1 : Fin S8x512.rank) (@List.nil (Fin 2))) hi)
      (broadcast S8x512 256#32)) (dynamicRotate 1 256#32 (@none (ℕ × Fin 2)) (indV α) hr) (indV fun _ _ => false) = indV fun b => shift 256 false (α b) :=
  indV_shift 256#32 (by decide) false α hi hr

end

/-! The values, in the body's order. -/

theorem s184 :
    k1_pay184 x0 x1 x2 x3 x4 x5 x6 x7 x8 x9 x10 x11 = indV fun _ _ => true := by
  simp only [k1_pay52, k1_pay184, indV_mul, indV_max, indV_one, indV_zero]

theorem s185 :
    k1_pay185 x0 x1 x2 x3 x4 x5 x6 x7 x8 x9 x10 x11 = indV fun _ _ => false := by
  simp only [k1_pay53, k1_pay185, indV_mul, indV_max, indV_one, indV_zero]

theorem s186 (h : Start base q1 q2 x0 x1 x2 x3 x4 x5 x6 x7 x8 x9 x10 x11) :
    k1_pay186 x0 x1 x2 x3 x4 x5 x6 x7 x8 x9 x10 x11 = indV fun b => shift 1 false (rowsAt (base b) (q1 b) (q2 b) 0).c1 := by
  simp only [k1_pay58, k1_pay186, lane_eq, h.s181, sh1t, sh1f, indV_mul, indV_max, indV_one, indV_zero]
  rfl

theorem s187 (h : Start base q1 q2 x0 x1 x2 x3 x4 x5 x6 x7 x8 x9 x10 x11) :
    k1_pay187 x0 x1 x2 x3 x4 x5 x6 x7 x8 x9 x10 x11 = indV fun b => shift 1 false (rowsAt (base b) (q1 b) (q2 b) 0).c2 := by
  simp only [k1_pay53, k1_pay59, k1_pay187, lane_eq, sh1t, sh1f, indV_mul, indV_max, indV_one, indV_zero]
  rfl

theorem s188 (h : Start base q1 q2 x0 x1 x2 x3 x4 x5 x6 x7 x8 x9 x10 x11) :
    k1_pay188 x0 x1 x2 x3 x4 x5 x6 x7 x8 x9 x10 x11 = indV fun b => (rowsAt (base b) (q1 b) (q2 b) 1).a11 := by
  simp only [k1_pay54, k1_pay56, k1_pay60, k1_pay188, lane_eq, h.s182, h.s183, s184, sh1t, sh1f, indV_mul, indV_max,
    indV_one, indV_zero]
  rfl

theorem s189 (h : Start base q1 q2 x0 x1 x2 x3 x4 x5 x6 x7 x8 x9 x10 x11) :
    k1_pay189 x0 x1 x2 x3 x4 x5 x6 x7 x8 x9 x10 x11 = indV fun b => (rowsAt (base b) (q1 b) (q2 b) 1).a12 := by
  simp only [k1_pay53, k1_pay55, k1_pay57, k1_pay61, k1_pay189, lane_eq, h.s182, h.s183, sh1t, sh1f, indV_mul,
    indV_max, indV_one, indV_zero]
  rfl

theorem s190 (h : Start base q1 q2 x0 x1 x2 x3 x4 x5 x6 x7 x8 x9 x10 x11) :
    k1_pay190 x0 x1 x2 x3 x4 x5 x6 x7 x8 x9 x10 x11 = indV fun b => (rowsAt (base b) (q1 b) (q2 b) 1).a21 := by
  simp only [k1_pay53, k1_pay54, k1_pay56, k1_pay62, k1_pay190, lane_eq, h.s182, s184, sh1t, sh1f, indV_mul, indV_max,
    indV_one, indV_zero]
  rfl

theorem s191 (h : Start base q1 q2 x0 x1 x2 x3 x4 x5 x6 x7 x8 x9 x10 x11) :
    k1_pay191 x0 x1 x2 x3 x4 x5 x6 x7 x8 x9 x10 x11 = indV fun b i => true && shift 1 false (q2 b) i := by
  simp only [k1_pay55, k1_pay63, k1_pay191, lane_eq, h.s183, s184, sh1t, sh1f, indV_mul, indV_max, indV_one, indV_zero]

theorem s192 (h : Start base q1 q2 x0 x1 x2 x3 x4 x5 x6 x7 x8 x9 x10 x11) :
    k1_pay192 x0 x1 x2 x3 x4 x5 x6 x7 x8 x9 x10 x11 = indV fun _ i => false && shift 1 true (fun _ => false) i := by
  simp only [k1_pay53, k1_pay57, k1_pay64, k1_pay192, lane_eq, sh1t, sh1f, indV_mul, indV_max, indV_one, indV_zero]

theorem s193 (h : Start base q1 q2 x0 x1 x2 x3 x4 x5 x6 x7 x8 x9 x10 x11) :
    k1_pay193 x0 x1 x2 x3 x4 x5 x6 x7 x8 x9 x10 x11 = indV fun b => (rowsAt (base b) (q1 b) (q2 b) 1).a22 := by
  simp only [k1_pay65, k1_pay193, s191 h, s192 h, sh1t, sh1f, indV_mul, indV_max, indV_one, indV_zero]
  rfl

theorem s194 (h : Start base q1 q2 x0 x1 x2 x3 x4 x5 x6 x7 x8 x9 x10 x11) :
    k1_pay194 x0 x1 x2 x3 x4 x5 x6 x7 x8 x9 x10 x11 = indV fun b => (rowsAt (base b) (q1 b) (q2 b) 1).c1 := by
  simp only [k1_pay66, k1_pay194, h.s181, h.s182, h.s183, s186 h, s187 h, sh1t, sh1f, indV_mul, indV_max, indV_one,
    indV_zero]
  rfl

theorem s195 (h : Start base q1 q2 x0 x1 x2 x3 x4 x5 x6 x7 x8 x9 x10 x11) :
    k1_pay195 x0 x1 x2 x3 x4 x5 x6 x7 x8 x9 x10 x11 = indV fun b => (rowsAt (base b) (q1 b) (q2 b) 1).c2 := by
  simp only [k1_pay67, k1_pay195, s184, s185, s186 h, s187 h, sh1t, sh1f, indV_mul, indV_max, indV_one, indV_zero]
  rfl

theorem s196 (h : Start base q1 q2 x0 x1 x2 x3 x4 x5 x6 x7 x8 x9 x10 x11) :
    k1_pay196 x0 x1 x2 x3 x4 x5 x6 x7 x8 x9 x10 x11 = indV fun b => shift 2 true (rowsAt (base b) (q1 b) (q2 b) 1).a11 := by
  simp only [k1_pay68, k1_pay196, lane_eq, s188 h, sh1t, sh1f, sh2t, sh2f, indV_mul, indV_max, indV_one, indV_zero]

theorem s197 (h : Start base q1 q2 x0 x1 x2 x3 x4 x5 x6 x7 x8 x9 x10 x11) :
    k1_pay197 x0 x1 x2 x3 x4 x5 x6 x7 x8 x9 x10 x11 = indV fun b => shift 2 false (rowsAt (base b) (q1 b) (q2 b) 1).a12 := by
  simp only [k1_pay69, k1_pay197, lane_eq, s189 h, sh1t, sh1f, sh2t, sh2f, indV_mul, indV_max, indV_one, indV_zero]

theorem s198 (h : Start base q1 q2 x0 x1 x2 x3 x4 x5 x6 x7 x8 x9 x10 x11) :
    k1_pay198 x0 x1 x2 x3 x4 x5 x6 x7 x8 x9 x10 x11 = indV fun b => shift 2 false (rowsAt (base b) (q1 b) (q2 b) 1).a21 := by
  simp only [k1_pay70, k1_pay198, lane_eq, s190 h, sh1t, sh1f, sh2t, sh2f, indV_mul, indV_max, indV_one, indV_zero]

theorem s199 (h : Start base q1 q2 x0 x1 x2 x3 x4 x5 x6 x7 x8 x9 x10 x11) :
    k1_pay199 x0 x1 x2 x3 x4 x5 x6 x7 x8 x9 x10 x11 = indV fun b => shift 2 true (rowsAt (base b) (q1 b) (q2 b) 1).a22 := by
  simp only [k1_pay65, k1_pay71, k1_pay199, lane_eq, s191 h, s192 h, sh1t, sh1f, sh2t, sh2f, indV_mul, indV_max,
    indV_one, indV_zero]
  rfl

theorem s200 (h : Start base q1 q2 x0 x1 x2 x3 x4 x5 x6 x7 x8 x9 x10 x11) :
    k1_pay200 x0 x1 x2 x3 x4 x5 x6 x7 x8 x9 x10 x11 = indV fun b => shift 2 false (rowsAt (base b) (q1 b) (q2 b) 1).c1 := by
  simp only [k1_pay66, k1_pay72, k1_pay200, lane_eq, h.s181, h.s182, h.s183, s186 h, s187 h, sh1t, sh1f, sh2t, sh2f,
    indV_mul, indV_max, indV_one, indV_zero]
  rfl

theorem s201 (h : Start base q1 q2 x0 x1 x2 x3 x4 x5 x6 x7 x8 x9 x10 x11) :
    k1_pay201 x0 x1 x2 x3 x4 x5 x6 x7 x8 x9 x10 x11 = indV fun b => shift 2 false (rowsAt (base b) (q1 b) (q2 b) 1).c2 := by
  simp only [k1_pay67, k1_pay73, k1_pay201, lane_eq, s184, s185, s186 h, s187 h, sh1t, sh1f, sh2t, sh2f, indV_mul,
    indV_max, indV_one, indV_zero]
  rfl

theorem s202 (h : Start base q1 q2 x0 x1 x2 x3 x4 x5 x6 x7 x8 x9 x10 x11) :
    k1_pay202 x0 x1 x2 x3 x4 x5 x6 x7 x8 x9 x10 x11 = indV fun b => (rowsAt (base b) (q1 b) (q2 b) 2).a11 := by
  simp only [k1_pay68, k1_pay70, k1_pay74, k1_pay202, lane_eq, s188 h, s189 h, s190 h, sh1t, sh1f, sh2t, sh2f,
    indV_mul, indV_max, indV_one, indV_zero]
  rfl

theorem s203 (h : Start base q1 q2 x0 x1 x2 x3 x4 x5 x6 x7 x8 x9 x10 x11) :
    k1_pay203 x0 x1 x2 x3 x4 x5 x6 x7 x8 x9 x10 x11 = indV fun b => (rowsAt (base b) (q1 b) (q2 b) 2).a12 := by
  simp only [k1_pay75, k1_pay203, s188 h, s189 h, s197 h, s199 h, sh1t, sh1f, sh2t, sh2f, indV_mul, indV_max,
    indV_one, indV_zero]
  rfl

theorem s204 (h : Start base q1 q2 x0 x1 x2 x3 x4 x5 x6 x7 x8 x9 x10 x11) :
    k1_pay204 x0 x1 x2 x3 x4 x5 x6 x7 x8 x9 x10 x11 = indV fun b => (rowsAt (base b) (q1 b) (q2 b) 2).a21 := by
  simp only [k1_pay76, k1_pay204, s190 h, s193 h, s196 h, s198 h, sh1t, sh1f, sh2t, sh2f, indV_mul, indV_max,
    indV_one, indV_zero]
  rfl

theorem s205 (h : Start base q1 q2 x0 x1 x2 x3 x4 x5 x6 x7 x8 x9 x10 x11) :
    k1_pay205 x0 x1 x2 x3 x4 x5 x6 x7 x8 x9 x10 x11 = indV fun b => (rowsAt (base b) (q1 b) (q2 b) 2).a22 := by
  simp only [k1_pay77, k1_pay205, s190 h, s193 h, s197 h, s199 h, sh1t, sh1f, sh2t, sh2f, indV_mul, indV_max,
    indV_one, indV_zero]
  rfl

theorem s206 (h : Start base q1 q2 x0 x1 x2 x3 x4 x5 x6 x7 x8 x9 x10 x11) :
    k1_pay206 x0 x1 x2 x3 x4 x5 x6 x7 x8 x9 x10 x11 = indV fun b => (rowsAt (base b) (q1 b) (q2 b) 2).c1 := by
  simp only [k1_pay78, k1_pay206, s188 h, s189 h, s194 h, s200 h, s201 h, sh1t, sh1f, sh2t, sh2f, indV_mul, indV_max,
    indV_one, indV_zero]
  rfl

theorem s207 (h : Start base q1 q2 x0 x1 x2 x3 x4 x5 x6 x7 x8 x9 x10 x11) :
    k1_pay207 x0 x1 x2 x3 x4 x5 x6 x7 x8 x9 x10 x11 = indV fun b => shift 4 true (rowsAt (base b) (q1 b) (q2 b) 2).a11 := by
  simp only [k1_pay80, k1_pay207, lane_eq, s202 h, sh2t, sh2f, sh4t, sh4f, indV_mul, indV_max, indV_one, indV_zero]

theorem s208 (h : Start base q1 q2 x0 x1 x2 x3 x4 x5 x6 x7 x8 x9 x10 x11) :
    k1_pay208 x0 x1 x2 x3 x4 x5 x6 x7 x8 x9 x10 x11 = indV fun b => shift 4 false (rowsAt (base b) (q1 b) (q2 b) 2).a12 := by
  simp only [k1_pay75, k1_pay81, k1_pay208, lane_eq, s188 h, s189 h, s197 h, s199 h, sh2t, sh2f, sh4t, sh4f, indV_mul,
    indV_max, indV_one, indV_zero]
  rfl

theorem s209 (h : Start base q1 q2 x0 x1 x2 x3 x4 x5 x6 x7 x8 x9 x10 x11) :
    k1_pay209 x0 x1 x2 x3 x4 x5 x6 x7 x8 x9 x10 x11 = indV fun b => shift 4 false (rowsAt (base b) (q1 b) (q2 b) 2).a21 := by
  simp only [k1_pay76, k1_pay82, k1_pay209, lane_eq, s190 h, s193 h, s196 h, s198 h, sh2t, sh2f, sh4t, sh4f, indV_mul,
    indV_max, indV_one, indV_zero]
  rfl

theorem s210 (h : Start base q1 q2 x0 x1 x2 x3 x4 x5 x6 x7 x8 x9 x10 x11) :
    k1_pay210 x0 x1 x2 x3 x4 x5 x6 x7 x8 x9 x10 x11 = indV fun b => shift 4 true (rowsAt (base b) (q1 b) (q2 b) 2).a22 := by
  simp only [k1_pay77, k1_pay83, k1_pay210, lane_eq, s190 h, s193 h, s197 h, s199 h, sh2t, sh2f, sh4t, sh4f, indV_mul,
    indV_max, indV_one, indV_zero]
  rfl

theorem s211 (h : Start base q1 q2 x0 x1 x2 x3 x4 x5 x6 x7 x8 x9 x10 x11) :
    k1_pay211 x0 x1 x2 x3 x4 x5 x6 x7 x8 x9 x10 x11 = indV fun b => shift 4 false (rowsAt (base b) (q1 b) (q2 b) 2).c1 := by
  simp only [k1_pay78, k1_pay84, k1_pay211, lane_eq, s188 h, s189 h, s194 h, s200 h, s201 h, sh2t, sh2f, sh4t, sh4f,
    indV_mul, indV_max, indV_one, indV_zero]
  rfl

theorem s213 (h : Start base q1 q2 x0 x1 x2 x3 x4 x5 x6 x7 x8 x9 x10 x11) :
    k1_pay213 x0 x1 x2 x3 x4 x5 x6 x7 x8 x9 x10 x11 = indV fun b => (rowsAt (base b) (q1 b) (q2 b) 3).a11 := by
  simp only [k1_pay87, k1_pay213, s202 h, s203 h, s207 h, s209 h, sh2t, sh2f, sh4t, sh4f, indV_mul, indV_max,
    indV_one, indV_zero]
  rfl

theorem s214 (h : Start base q1 q2 x0 x1 x2 x3 x4 x5 x6 x7 x8 x9 x10 x11) :
    k1_pay214 x0 x1 x2 x3 x4 x5 x6 x7 x8 x9 x10 x11 = indV fun b => (rowsAt (base b) (q1 b) (q2 b) 3).a12 := by
  simp only [k1_pay88, k1_pay214, s202 h, s203 h, s208 h, s210 h, sh2t, sh2f, sh4t, sh4f, indV_mul, indV_max,
    indV_one, indV_zero]
  rfl

theorem s215 (h : Start base q1 q2 x0 x1 x2 x3 x4 x5 x6 x7 x8 x9 x10 x11) :
    k1_pay215 x0 x1 x2 x3 x4 x5 x6 x7 x8 x9 x10 x11 = indV fun b => (rowsAt (base b) (q1 b) (q2 b) 3).a21 := by
  simp only [k1_pay89, k1_pay215, s204 h, s205 h, s207 h, s209 h, sh2t, sh2f, sh4t, sh4f, indV_mul, indV_max,
    indV_one, indV_zero]
  rfl

theorem s216 (h : Start base q1 q2 x0 x1 x2 x3 x4 x5 x6 x7 x8 x9 x10 x11) :
    k1_pay216 x0 x1 x2 x3 x4 x5 x6 x7 x8 x9 x10 x11 = indV fun b => (rowsAt (base b) (q1 b) (q2 b) 3).a22 := by
  simp only [k1_pay90, k1_pay216, s204 h, s205 h, s208 h, s210 h, sh2t, sh2f, sh4t, sh4f, indV_mul, indV_max,
    indV_one, indV_zero]
  rfl

theorem s217 (h : Start base q1 q2 x0 x1 x2 x3 x4 x5 x6 x7 x8 x9 x10 x11) :
    k1_pay217 x0 x1 x2 x3 x4 x5 x6 x7 x8 x9 x10 x11 = indV fun b => (rowsAt (base b) (q1 b) (q2 b) 3).c2 := by
  simp only [k1_pay79, k1_pay85, k1_pay86, k1_pay92, k1_pay212, k1_pay217, lane_eq, s190 h, s193 h, s195 h, s200 h,
    s201 h, s204 h, s205 h, s211 h, sh2t, sh2f, sh4t, sh4f, indV_mul, indV_max, indV_one, indV_zero]
  rfl

theorem s218 (h : Start base q1 q2 x0 x1 x2 x3 x4 x5 x6 x7 x8 x9 x10 x11) :
    k1_pay218 x0 x1 x2 x3 x4 x5 x6 x7 x8 x9 x10 x11 = indV fun b => shift 8 true (rowsAt (base b) (q1 b) (q2 b) 3).a11 := by
  simp only [k1_pay87, k1_pay93, k1_pay218, lane_eq, s202 h, s203 h, s207 h, s209 h, sh4t, sh4f, sh8t, sh8f, indV_mul,
    indV_max, indV_one, indV_zero]
  rfl

theorem s219 (h : Start base q1 q2 x0 x1 x2 x3 x4 x5 x6 x7 x8 x9 x10 x11) :
    k1_pay219 x0 x1 x2 x3 x4 x5 x6 x7 x8 x9 x10 x11 = indV fun b => shift 8 false (rowsAt (base b) (q1 b) (q2 b) 3).a12 := by
  simp only [k1_pay88, k1_pay94, k1_pay219, lane_eq, s202 h, s203 h, s208 h, s210 h, sh4t, sh4f, sh8t, sh8f, indV_mul,
    indV_max, indV_one, indV_zero]
  rfl

theorem s220 (h : Start base q1 q2 x0 x1 x2 x3 x4 x5 x6 x7 x8 x9 x10 x11) :
    k1_pay220 x0 x1 x2 x3 x4 x5 x6 x7 x8 x9 x10 x11 = indV fun b => shift 8 false (rowsAt (base b) (q1 b) (q2 b) 3).a21 := by
  simp only [k1_pay89, k1_pay95, k1_pay220, lane_eq, s204 h, s205 h, s207 h, s209 h, sh4t, sh4f, sh8t, sh8f, indV_mul,
    indV_max, indV_one, indV_zero]
  rfl

theorem s221 (h : Start base q1 q2 x0 x1 x2 x3 x4 x5 x6 x7 x8 x9 x10 x11) :
    k1_pay221 x0 x1 x2 x3 x4 x5 x6 x7 x8 x9 x10 x11 = indV fun b => shift 8 true (rowsAt (base b) (q1 b) (q2 b) 3).a22 := by
  simp only [k1_pay90, k1_pay96, k1_pay221, lane_eq, s204 h, s205 h, s208 h, s210 h, sh4t, sh4f, sh8t, sh8f, indV_mul,
    indV_max, indV_one, indV_zero]
  rfl

theorem s223 (h : Start base q1 q2 x0 x1 x2 x3 x4 x5 x6 x7 x8 x9 x10 x11) :
    k1_pay223 x0 x1 x2 x3 x4 x5 x6 x7 x8 x9 x10 x11 = indV fun b => (rowsAt (base b) (q1 b) (q2 b) 4).a11 := by
  simp only [k1_pay100, k1_pay223, s213 h, s214 h, s218 h, s220 h, sh4t, sh4f, sh8t, sh8f, indV_mul, indV_max,
    indV_one, indV_zero]
  rfl

theorem s224 (h : Start base q1 q2 x0 x1 x2 x3 x4 x5 x6 x7 x8 x9 x10 x11) :
    k1_pay224 x0 x1 x2 x3 x4 x5 x6 x7 x8 x9 x10 x11 = indV fun b => (rowsAt (base b) (q1 b) (q2 b) 4).a12 := by
  simp only [k1_pay101, k1_pay224, s213 h, s214 h, s219 h, s221 h, sh4t, sh4f, sh8t, sh8f, indV_mul, indV_max,
    indV_one, indV_zero]
  rfl

theorem s225 (h : Start base q1 q2 x0 x1 x2 x3 x4 x5 x6 x7 x8 x9 x10 x11) :
    k1_pay225 x0 x1 x2 x3 x4 x5 x6 x7 x8 x9 x10 x11 = indV fun b => (rowsAt (base b) (q1 b) (q2 b) 4).a21 := by
  simp only [k1_pay102, k1_pay225, s215 h, s216 h, s218 h, s220 h, sh4t, sh4f, sh8t, sh8f, indV_mul, indV_max,
    indV_one, indV_zero]
  rfl

theorem s226 (h : Start base q1 q2 x0 x1 x2 x3 x4 x5 x6 x7 x8 x9 x10 x11) :
    k1_pay226 x0 x1 x2 x3 x4 x5 x6 x7 x8 x9 x10 x11 = indV fun b => (rowsAt (base b) (q1 b) (q2 b) 4).a22 := by
  simp only [k1_pay103, k1_pay226, s215 h, s216 h, s219 h, s221 h, sh4t, sh4f, sh8t, sh8f, indV_mul, indV_max,
    indV_one, indV_zero]
  rfl

theorem s227 (h : Start base q1 q2 x0 x1 x2 x3 x4 x5 x6 x7 x8 x9 x10 x11) :
    k1_pay227 x0 x1 x2 x3 x4 x5 x6 x7 x8 x9 x10 x11 = indV fun b => (rowsAt (base b) (q1 b) (q2 b) 4).c1 := by
  simp only [k1_pay79, k1_pay85, k1_pay86, k1_pay91, k1_pay97, k1_pay98, k1_pay99, k1_pay104, k1_pay212, k1_pay222,
    k1_pay227, lane_eq, s190 h, s193 h, s195 h, s200 h, s201 h, s202 h, s203 h, s206 h, s211 h, s213 h,
    s214 h, s217 h, sh4t, sh4f, sh8t, sh8f, indV_mul, indV_max, indV_one, indV_zero]
  rfl

theorem s228 (h : Start base q1 q2 x0 x1 x2 x3 x4 x5 x6 x7 x8 x9 x10 x11) :
    k1_pay228 x0 x1 x2 x3 x4 x5 x6 x7 x8 x9 x10 x11 = indV fun b => (rowsAt (base b) (q1 b) (q2 b) 4).c2 := by
  simp only [k1_pay79, k1_pay85, k1_pay86, k1_pay91, k1_pay97, k1_pay98, k1_pay99, k1_pay105, k1_pay212, k1_pay222,
    k1_pay228, lane_eq, s190 h, s193 h, s195 h, s200 h, s201 h, s202 h, s203 h, s206 h, s211 h, s215 h,
    s216 h, s217 h, sh4t, sh4f, sh8t, sh8f, indV_mul, indV_max, indV_one, indV_zero]
  rfl

theorem s229 (h : Start base q1 q2 x0 x1 x2 x3 x4 x5 x6 x7 x8 x9 x10 x11) :
    k1_pay229 x0 x1 x2 x3 x4 x5 x6 x7 x8 x9 x10 x11 = indV fun b => shift 16 true (rowsAt (base b) (q1 b) (q2 b) 4).a11 := by
  simp only [k1_pay100, k1_pay106, k1_pay229, lane_eq, s213 h, s214 h, s218 h, s220 h, sh8t, sh8f, sh16t, sh16f,
    indV_mul, indV_max, indV_one, indV_zero]
  rfl

theorem s230 (h : Start base q1 q2 x0 x1 x2 x3 x4 x5 x6 x7 x8 x9 x10 x11) :
    k1_pay230 x0 x1 x2 x3 x4 x5 x6 x7 x8 x9 x10 x11 = indV fun b => shift 16 false (rowsAt (base b) (q1 b) (q2 b) 4).a12 := by
  simp only [k1_pay101, k1_pay107, k1_pay230, lane_eq, s213 h, s214 h, s219 h, s221 h, sh8t, sh8f, sh16t, sh16f,
    indV_mul, indV_max, indV_one, indV_zero]
  rfl

theorem s231 (h : Start base q1 q2 x0 x1 x2 x3 x4 x5 x6 x7 x8 x9 x10 x11) :
    k1_pay231 x0 x1 x2 x3 x4 x5 x6 x7 x8 x9 x10 x11 = indV fun b => shift 16 false (rowsAt (base b) (q1 b) (q2 b) 4).a21 := by
  simp only [k1_pay102, k1_pay108, k1_pay231, lane_eq, s215 h, s216 h, s218 h, s220 h, sh8t, sh8f, sh16t, sh16f,
    indV_mul, indV_max, indV_one, indV_zero]
  rfl

theorem s233 (h : Start base q1 q2 x0 x1 x2 x3 x4 x5 x6 x7 x8 x9 x10 x11) :
    k1_pay233 x0 x1 x2 x3 x4 x5 x6 x7 x8 x9 x10 x11 = indV fun b => (rowsAt (base b) (q1 b) (q2 b) 5).a11 := by
  simp only [k1_pay113, k1_pay233, s223 h, s224 h, s229 h, s231 h, sh8t, sh8f, sh16t, sh16f, indV_mul, indV_max,
    indV_one, indV_zero]
  rfl

theorem s234 (h : Start base q1 q2 x0 x1 x2 x3 x4 x5 x6 x7 x8 x9 x10 x11) :
    k1_pay234 x0 x1 x2 x3 x4 x5 x6 x7 x8 x9 x10 x11 = indV fun b => (rowsAt (base b) (q1 b) (q2 b) 5).a12 := by
  simp only [k1_pay103, k1_pay109, k1_pay110, k1_pay114, k1_pay232, k1_pay234, lane_eq, s215 h, s216 h, s219 h, s221
    h, s223 h, s224 h, s230 h, sh8t, sh8f, sh16t, sh16f, indV_mul, indV_max, indV_one, indV_zero]
  rfl

theorem s235 (h : Start base q1 q2 x0 x1 x2 x3 x4 x5 x6 x7 x8 x9 x10 x11) :
    k1_pay235 x0 x1 x2 x3 x4 x5 x6 x7 x8 x9 x10 x11 = indV fun b => (rowsAt (base b) (q1 b) (q2 b) 5).a21 := by
  simp only [k1_pay115, k1_pay235, s225 h, s226 h, s229 h, s231 h, sh8t, sh8f, sh16t, sh16f, indV_mul, indV_max,
    indV_one, indV_zero]
  rfl

theorem s236 (h : Start base q1 q2 x0 x1 x2 x3 x4 x5 x6 x7 x8 x9 x10 x11) :
    k1_pay236 x0 x1 x2 x3 x4 x5 x6 x7 x8 x9 x10 x11 = indV fun b => (rowsAt (base b) (q1 b) (q2 b) 5).a22 := by
  simp only [k1_pay103, k1_pay109, k1_pay110, k1_pay116, k1_pay232, k1_pay236, lane_eq, s215 h, s216 h, s219 h, s221
    h, s225 h, s226 h, s230 h, sh8t, sh8f, sh16t, sh16f, indV_mul, indV_max, indV_one, indV_zero]
  rfl

theorem s237 (h : Start base q1 q2 x0 x1 x2 x3 x4 x5 x6 x7 x8 x9 x10 x11) :
    k1_pay237 x0 x1 x2 x3 x4 x5 x6 x7 x8 x9 x10 x11 = indV fun b => (rowsAt (base b) (q1 b) (q2 b) 5).c1 := by
  simp only [k1_pay111, k1_pay112, k1_pay117, k1_pay237, lane_eq, s223 h, s224 h, s227 h, s228 h, sh8t, sh8f, sh16t,
    sh16f, indV_mul, indV_max, indV_one, indV_zero]
  rfl

theorem s238 (h : Start base q1 q2 x0 x1 x2 x3 x4 x5 x6 x7 x8 x9 x10 x11) :
    k1_pay238 x0 x1 x2 x3 x4 x5 x6 x7 x8 x9 x10 x11 = indV fun b => (rowsAt (base b) (q1 b) (q2 b) 5).c2 := by
  simp only [k1_pay111, k1_pay112, k1_pay118, k1_pay238, lane_eq, s225 h, s226 h, s227 h, s228 h, sh8t, sh8f, sh16t,
    sh16f, indV_mul, indV_max, indV_one, indV_zero]
  rfl

theorem s239 (h : Start base q1 q2 x0 x1 x2 x3 x4 x5 x6 x7 x8 x9 x10 x11) :
    k1_pay239 x0 x1 x2 x3 x4 x5 x6 x7 x8 x9 x10 x11 = indV fun b => shift 32 true (rowsAt (base b) (q1 b) (q2 b) 5).a11 := by
  simp only [k1_pay113, k1_pay119, k1_pay239, lane_eq, s223 h, s224 h, s229 h, s231 h, sh16t, sh16f, sh32t, sh32f,
    indV_mul, indV_max, indV_one, indV_zero]
  rfl

theorem s240 (h : Start base q1 q2 x0 x1 x2 x3 x4 x5 x6 x7 x8 x9 x10 x11) :
    k1_pay240 x0 x1 x2 x3 x4 x5 x6 x7 x8 x9 x10 x11 = indV fun b => shift 32 false (rowsAt (base b) (q1 b) (q2 b) 5).a12 := by
  simp only [k1_pay103, k1_pay109, k1_pay110, k1_pay114, k1_pay120, k1_pay232, k1_pay240, lane_eq, s215 h, s216 h,
    s219 h, s221 h, s223 h, s224 h, s230 h, sh16t, sh16f, sh32t, sh32f, indV_mul, indV_max, indV_one,
    indV_zero]
  rfl

theorem s242 (h : Start base q1 q2 x0 x1 x2 x3 x4 x5 x6 x7 x8 x9 x10 x11) :
    k1_pay242 x0 x1 x2 x3 x4 x5 x6 x7 x8 x9 x10 x11 = indV fun b => (rowsAt (base b) (q1 b) (q2 b) 6).a11 := by
  simp only [k1_pay115, k1_pay121, k1_pay122, k1_pay126, k1_pay241, k1_pay242, lane_eq, s225 h, s226 h, s229 h, s231
    h, s233 h, s234 h, s239 h, sh16t, sh16f, sh32t, sh32f, indV_mul, indV_max, indV_one, indV_zero]
  rfl

theorem s243 (h : Start base q1 q2 x0 x1 x2 x3 x4 x5 x6 x7 x8 x9 x10 x11) :
    k1_pay243 x0 x1 x2 x3 x4 x5 x6 x7 x8 x9 x10 x11 = indV fun b => (rowsAt (base b) (q1 b) (q2 b) 6).a12 := by
  simp only [k1_pay123, k1_pay127, k1_pay243, lane_eq, s233 h, s234 h, s236 h, s240 h, sh16t, sh16f, sh32t, sh32f,
    indV_mul, indV_max, indV_one, indV_zero]
  rfl

theorem s244 (h : Start base q1 q2 x0 x1 x2 x3 x4 x5 x6 x7 x8 x9 x10 x11) :
    k1_pay244 x0 x1 x2 x3 x4 x5 x6 x7 x8 x9 x10 x11 = indV fun b => (rowsAt (base b) (q1 b) (q2 b) 6).a21 := by
  simp only [k1_pay115, k1_pay121, k1_pay122, k1_pay128, k1_pay241, k1_pay244, lane_eq, s225 h, s226 h, s229 h, s231
    h, s235 h, s236 h, s239 h, sh16t, sh16f, sh32t, sh32f, indV_mul, indV_max, indV_one, indV_zero]
  rfl

theorem s245 (h : Start base q1 q2 x0 x1 x2 x3 x4 x5 x6 x7 x8 x9 x10 x11) :
    k1_pay245 x0 x1 x2 x3 x4 x5 x6 x7 x8 x9 x10 x11 = indV fun b => (rowsAt (base b) (q1 b) (q2 b) 6).a22 := by
  simp only [k1_pay123, k1_pay129, k1_pay245, lane_eq, s235 h, s236 h, s240 h, sh16t, sh16f, sh32t, sh32f, indV_mul,
    indV_max, indV_one, indV_zero]
  rfl

theorem s246 (h : Start base q1 q2 x0 x1 x2 x3 x4 x5 x6 x7 x8 x9 x10 x11) :
    k1_pay246 x0 x1 x2 x3 x4 x5 x6 x7 x8 x9 x10 x11 = indV fun b => (rowsAt (base b) (q1 b) (q2 b) 6).c1 := by
  simp only [k1_pay124, k1_pay125, k1_pay130, k1_pay246, lane_eq, s233 h, s234 h, s237 h, s238 h, sh16t, sh16f, sh32t,
    sh32f, indV_mul, indV_max, indV_one, indV_zero]
  rfl

theorem s247 (h : Start base q1 q2 x0 x1 x2 x3 x4 x5 x6 x7 x8 x9 x10 x11) :
    k1_pay247 x0 x1 x2 x3 x4 x5 x6 x7 x8 x9 x10 x11 = indV fun b => (rowsAt (base b) (q1 b) (q2 b) 6).c2 := by
  simp only [k1_pay124, k1_pay125, k1_pay131, k1_pay247, lane_eq, s235 h, s236 h, s237 h, s238 h, sh16t, sh16f, sh32t,
    sh32f, indV_mul, indV_max, indV_one, indV_zero]
  rfl

theorem s248 (h : Start base q1 q2 x0 x1 x2 x3 x4 x5 x6 x7 x8 x9 x10 x11) :
    k1_pay248 x0 x1 x2 x3 x4 x5 x6 x7 x8 x9 x10 x11 = indV fun b => shift 64 true (rowsAt (base b) (q1 b) (q2 b) 6).a11 := by
  simp only [k1_pay115, k1_pay121, k1_pay122, k1_pay126, k1_pay132, k1_pay241, k1_pay248, lane_eq, s225 h, s226 h,
    s229 h, s231 h, s233 h, s234 h, s239 h, sh32t, sh32f, sh64t, sh64f, indV_mul, indV_max, indV_one,
    indV_zero]
  rfl

theorem s250 (h : Start base q1 q2 x0 x1 x2 x3 x4 x5 x6 x7 x8 x9 x10 x11) :
    k1_pay250 x0 x1 x2 x3 x4 x5 x6 x7 x8 x9 x10 x11 = indV fun b => (rowsAt (base b) (q1 b) (q2 b) 7).a11 := by
  simp only [k1_pay135, k1_pay139, k1_pay250, lane_eq, s242 h, s243 h, s244 h, s248 h, sh32t, sh32f, sh64t, sh64f,
    indV_mul, indV_max, indV_one, indV_zero]
  rfl

theorem s251 (h : Start base q1 q2 x0 x1 x2 x3 x4 x5 x6 x7 x8 x9 x10 x11) :
    k1_pay251 x0 x1 x2 x3 x4 x5 x6 x7 x8 x9 x10 x11 = indV fun b => (rowsAt (base b) (q1 b) (q2 b) 7).a12 := by
  simp only [k1_pay123, k1_pay127, k1_pay133, k1_pay134, k1_pay136, k1_pay140, k1_pay249, k1_pay251, lane_eq, s233 h,
    s234 h, s236 h, s240 h, s242 h, s243 h, s245 h, sh32t, sh32f, sh64t, sh64f, indV_mul, indV_max,
    indV_one, indV_zero]
  rfl

theorem s252 (h : Start base q1 q2 x0 x1 x2 x3 x4 x5 x6 x7 x8 x9 x10 x11) :
    k1_pay252 x0 x1 x2 x3 x4 x5 x6 x7 x8 x9 x10 x11 = indV fun b => (rowsAt (base b) (q1 b) (q2 b) 7).a21 := by
  simp only [k1_pay135, k1_pay141, k1_pay252, lane_eq, s244 h, s245 h, s248 h, sh32t, sh32f, sh64t, sh64f, indV_mul,
    indV_max, indV_one, indV_zero]
  rfl

theorem s253 (h : Start base q1 q2 x0 x1 x2 x3 x4 x5 x6 x7 x8 x9 x10 x11) :
    k1_pay253 x0 x1 x2 x3 x4 x5 x6 x7 x8 x9 x10 x11 = indV fun b => (rowsAt (base b) (q1 b) (q2 b) 7).a22 := by
  simp only [k1_pay123, k1_pay127, k1_pay133, k1_pay134, k1_pay136, k1_pay142, k1_pay249, k1_pay253, lane_eq, s233 h,
    s234 h, s236 h, s240 h, s244 h, s245 h, sh32t, sh32f, sh64t, sh64f, indV_mul, indV_max, indV_one,
    indV_zero]
  rfl

theorem s254 (h : Start base q1 q2 x0 x1 x2 x3 x4 x5 x6 x7 x8 x9 x10 x11) :
    k1_pay254 x0 x1 x2 x3 x4 x5 x6 x7 x8 x9 x10 x11 = indV fun b => (rowsAt (base b) (q1 b) (q2 b) 7).c1 := by
  simp only [k1_pay137, k1_pay138, k1_pay143, k1_pay254, lane_eq, s242 h, s243 h, s246 h, s247 h, sh32t, sh32f, sh64t,
    sh64f, indV_mul, indV_max, indV_one, indV_zero]
  rfl

theorem s255 (h : Start base q1 q2 x0 x1 x2 x3 x4 x5 x6 x7 x8 x9 x10 x11) :
    k1_pay255 x0 x1 x2 x3 x4 x5 x6 x7 x8 x9 x10 x11 = indV fun b => (rowsAt (base b) (q1 b) (q2 b) 7).c2 := by
  simp only [k1_pay137, k1_pay138, k1_pay144, k1_pay255, lane_eq, s244 h, s245 h, s246 h, s247 h, sh32t, sh32f, sh64t,
    sh64f, indV_mul, indV_max, indV_one, indV_zero]
  rfl

theorem s256 (h : Start base q1 q2 x0 x1 x2 x3 x4 x5 x6 x7 x8 x9 x10 x11) :
    k1_pay256 x0 x1 x2 x3 x4 x5 x6 x7 x8 x9 x10 x11 = indV fun b => (rowsAt (base b) (q1 b) (q2 b) 8).a11 := by
  simp only [k1_pay135, k1_pay139, k1_pay145, k1_pay148, k1_pay256, lane_eq, s242 h, s243 h, s244 h, s248 h, s250 h,
    s251 h, s252 h, sh64t, sh64f, sh128t, sh128f, indV_mul, indV_max, indV_one, indV_zero]
  rfl

theorem s257 (h : Start base q1 q2 x0 x1 x2 x3 x4 x5 x6 x7 x8 x9 x10 x11) :
    k1_pay257 x0 x1 x2 x3 x4 x5 x6 x7 x8 x9 x10 x11 = indV fun b => (rowsAt (base b) (q1 b) (q2 b) 8).a12 := by
  simp only [k1_pay149, k1_pay257, lane_eq, s250 h, s251 h, s253 h, sh64t, sh64f, sh128t, sh128f, indV_mul, indV_max,
    indV_one, indV_zero]
  rfl

theorem s258 (h : Start base q1 q2 x0 x1 x2 x3 x4 x5 x6 x7 x8 x9 x10 x11) :
    k1_pay258 x0 x1 x2 x3 x4 x5 x6 x7 x8 x9 x10 x11 = indV fun b => (rowsAt (base b) (q1 b) (q2 b) 8).c1 := by
  simp only [k1_pay146, k1_pay147, k1_pay150, k1_pay258, lane_eq, s250 h, s251 h, s254 h, s255 h, sh64t, sh64f,
    sh128t, sh128f, indV_mul, indV_max, indV_one, indV_zero]
  rfl

theorem s259 (h : Start base q1 q2 x0 x1 x2 x3 x4 x5 x6 x7 x8 x9 x10 x11) :
    k1_pay259 x0 x1 x2 x3 x4 x5 x6 x7 x8 x9 x10 x11 = indV fun b => (rowsAt (base b) (q1 b) (q2 b) 8).c2 := by
  simp only [k1_pay146, k1_pay147, k1_pay151, k1_pay259, lane_eq, s252 h, s253 h, s254 h, s255 h, sh64t, sh64f,
    sh128t, sh128f, indV_mul, indV_max, indV_one, indV_zero]
  rfl

/-- The first row of the vector after the ninth step, as the last payloads compute it, against one half: the flag. -/
theorem iso_eq (h : Start base q1 q2 x0 x1 x2 x3 x4 x5 x6 x7 x8 x9 x10 x11) :
    k1_pay152 (k1_pay180 x0 x1 x2 x3 x4 x5 x6 x7 x8 x9 x10 x11) (k1_pay256 x0 x1 x2 x3 x4 x5 x6 x7 x8 x9 x10 x11)
      (k1_pay257 x0 x1 x2 x3 x4 x5 x6 x7 x8 x9 x10 x11) (k1_pay258 x0 x1 x2 x3 x4 x5 x6 x7 x8 x9 x10 x11)
      (k1_pay259 x0 x1 x2 x3 x4 x5 x6 x7 x8 x9 x10 x11) 256#32
      = select (cmpf .ogt (indV fun b => (rowsAt (base b) (q1 b) (q2 b) 9).c1)
          (broadcast S8x512 (Scalar.ofBits .f32 0x3F000000#32 : Ideal .f32)))
          (broadcast S8x512 (Scalar.ofBits .f32 0x3F800000#32 : Ideal .f32))
          (broadcast S8x512 (Scalar.ofBits .f32 0x3DCCCCCD#32 : Ideal .f32)) := by
  simp only [k1_pay152, lane_eq, s256 h, s257 h, s258 h, s259 h, indV_zero, sh256f, indV_mul, indV_max]
  rfl

end Cert.KScan

end
-- ==== Proof.KOut.lean ====
/-
  The two blocks the kernel's second region stores, index by index: the recursion's new channels.
-/
module

public import Idealize.ShloMosaic.Lib.Pointwise
public import Idealize.ShloMosaic.Lib.Pipeline.ValueKit
public import proofs.«01_k».proof.Proof.KFlags
public import proofs.«01_k».proof.Proof.KScan

@[expose] public section

set_option maxRecDepth 16384

noncomputable section

namespace Cert.KOut

open Idealize.ShloMosaic Cert.KernelIdeal Cert.KernelIdeal.Gen Cert.ScanMath Cert.Ind Cert.Spec Cert.KFlags Cert.KScan

variable {x : Ctx}
variable {x0 : Vec Ideal S8x8x512 .f32} {x1 : Vec Ideal S4x8x512 .f32} {x2 : Vec Ideal S4x8x512 .f32}
  {x3 : Vec Ideal S8x512 .i32} {x4 : Vec Ideal S8x512 .i32} {x5 : Vec Ideal S8x512 .f32} {x6 : Vec Ideal S32x8 .f32}
  {x7 : Vec Ideal S32x1 .f32} {x8 : Vec Ideal S16x32 .f32} {x9 : Vec Ideal S16x1 .f32} {x10 : Vec Ideal S1x16 .f32}
  {x11 : Vec Ideal S1x1 .f32}

/-- The scan starts from the recursion's flags. -/
theorem start (h : Reads x (k1_pay164 x0 x1 x2 x3 x4 x5 x6 x7 x8 x9 x10 x11) (k1_pay165 x0 x1 x2 x3 x4 x5 x6 x7 x8 x9 x10 x11) (k1_pay166 x0 x1 x2 x3 x4 x5 x6 x7 x8 x9 x10 x11)
    (k1_pay167 x0 x1 x2 x3 x4 x5 x6 x7 x8 x9 x10 x11) (k1_pay168 x0 x1 x2 x3 x4 x5 x6 x7 x8 x9 x10 x11)
    (k1_pay170 x0 x1 x2 x3 x4 x5 x6 x7 x8 x9 x10 x11) (k1_pay171 x0 x1 x2 x3 x4 x5 x6 x7 x8 x9 x10 x11)
    (k1_pay172 x0 x1 x2 x3 x4 x5 x6 x7 x8 x9 x10 x11) (k1_pay173 x0 x1 x2 x3 x4 x5 x6 x7 x8 x9 x10 x11)
    (k1_pay175 x0 x1 x2 x3 x4 x5 x6 x7 x8 x9 x10 x11) (k1_pay176 x0 x1 x2 x3 x4 x5 x6 x7 x8 x9 x10 x11)
    (k1_pay174 x0 x1 x2 x3 x4 x5 x6 x7 x8 x9 x10 x11)) :
    Start (base x) (fun b => shift 1 false (fOn x b)) (fun b => shift 2 false (fOn x b)) x0 x1 x2 x3 x4 x5 x6 x7 x8 x9 x10 x11 :=
  ⟨base_eq h, q1_eq h, q2_eq h⟩

/-- The neighbourhood's weight. -/
theorem iso_apply (h : Reads x (k1_pay164 x0 x1 x2 x3 x4 x5 x6 x7 x8 x9 x10 x11) (k1_pay165 x0 x1 x2 x3 x4 x5 x6 x7 x8 x9 x10 x11) (k1_pay166 x0 x1 x2 x3 x4 x5 x6 x7 x8 x9 x10 x11)
    (k1_pay167 x0 x1 x2 x3 x4 x5 x6 x7 x8 x9 x10 x11) (k1_pay168 x0 x1 x2 x3 x4 x5 x6 x7 x8 x9 x10 x11)
    (k1_pay170 x0 x1 x2 x3 x4 x5 x6 x7 x8 x9 x10 x11) (k1_pay171 x0 x1 x2 x3 x4 x5 x6 x7 x8 x9 x10 x11)
    (k1_pay172 x0 x1 x2 x3 x4 x5 x6 x7 x8 x9 x10 x11) (k1_pay173 x0 x1 x2 x3 x4 x5 x6 x7 x8 x9 x10 x11)
    (k1_pay175 x0 x1 x2 x3 x4 x5 x6 x7 x8 x9 x10 x11) (k1_pay176 x0 x1 x2 x3 x4 x5 x6 x7 x8 x9 x10 x11)
    (k1_pay174 x0 x1 x2 x3 x4 x5 x6 x7 x8 x9 x10 x11))
    (b : Fin 8) (i : Fin 512) :
    k1_pay152 (k1_pay180 x0 x1 x2 x3 x4 x5 x6 x7 x8 x9 x10 x11) (k1_pay256 x0 x1 x2 x3 x4 x5 x6 x7 x8 x9 x10 x11)
      (k1_pay257 x0 x1 x2 x3 x4 x5 x6 x7 x8 x9 x10 x11) (k1_pay258 x0 x1 x2 x3 x4 x5 x6 x7 x8 x9 x10 x11)
      (k1_pay259 x0 x1 x2 x3 x4 x5 x6 x7 x8 x9 x10 x11) 256#32 (ix2 b i) = iso (act x b i.val) := by
  rw [iso_eq (start h)]
  pointwise [indV_apply]
  rw [scan_flags _ _ _ _ i.isLt]
  unfold act
  generalize (flags (base x b) (shift 1 false (fOn x b)) (shift 2 false (fOn x b)) i.val).1 = t
  cases t
  · rw [ind_false, if_neg (not_lt.mpr half_pos.le)]
    rfl
  · rw [ind_true, if_pos half_lt_one]
    rfl

/-- The shared value of the last weight. -/
theorem w7_shared (h : Reads x (k1_pay164 x0 x1 x2 x3 x4 x5 x6 x7 x8 x9 x10 x11) (k1_pay165 x0 x1 x2 x3 x4 x5 x6 x7 x8 x9 x10 x11) (k1_pay166 x0 x1 x2 x3 x4 x5 x6 x7 x8 x9 x10 x11)
    (k1_pay167 x0 x1 x2 x3 x4 x5 x6 x7 x8 x9 x10 x11) (k1_pay168 x0 x1 x2 x3 x4 x5 x6 x7 x8 x9 x10 x11)
    (k1_pay170 x0 x1 x2 x3 x4 x5 x6 x7 x8 x9 x10 x11) (k1_pay171 x0 x1 x2 x3 x4 x5 x6 x7 x8 x9 x10 x11)
    (k1_pay172 x0 x1 x2 x3 x4 x5 x6 x7 x8 x9 x10 x11) (k1_pay173 x0 x1 x2 x3 x4 x5 x6 x7 x8 x9 x10 x11)
    (k1_pay175 x0 x1 x2 x3 x4 x5 x6 x7 x8 x9 x10 x11) (k1_pay176 x0 x1 x2 x3 x4 x5 x6 x7 x8 x9 x10 x11)
    (k1_pay174 x0 x1 x2 x3 x4 x5 x6 x7 x8 x9 x10 x11))
    (b : Fin 8) (i : Fin 512) : (k1_pay178 x0 x1 x2 x3 x4 x5 x6 x7 x8 x9 x10 x11) (ix2 b i) = wt c07 (x.cs b i) :=
  w7_apply h b i

/-- The first kind's block. -/
theorem out12_apply (h : Reads x (k1_pay164 x0 x1 x2 x3 x4 x5 x6 x7 x8 x9 x10 x11) (k1_pay165 x0 x1 x2 x3 x4 x5 x6 x7 x8 x9 x10 x11) (k1_pay166 x0 x1 x2 x3 x4 x5 x6 x7 x8 x9 x10 x11)
    (k1_pay167 x0 x1 x2 x3 x4 x5 x6 x7 x8 x9 x10 x11) (k1_pay168 x0 x1 x2 x3 x4 x5 x6 x7 x8 x9 x10 x11)
    (k1_pay170 x0 x1 x2 x3 x4 x5 x6 x7 x8 x9 x10 x11) (k1_pay171 x0 x1 x2 x3 x4 x5 x6 x7 x8 x9 x10 x11)
    (k1_pay172 x0 x1 x2 x3 x4 x5 x6 x7 x8 x9 x10 x11) (k1_pay173 x0 x1 x2 x3 x4 x5 x6 x7 x8 x9 x10 x11)
    (k1_pay175 x0 x1 x2 x3 x4 x5 x6 x7 x8 x9 x10 x11) (k1_pay176 x0 x1 x2 x3 x4 x5 x6 x7 x8 x9 x10 x11)
    (k1_pay174 x0 x1 x2 x3 x4 x5 x6 x7 x8 x9 x10 x11))
    (c : Fin 4) (b : Fin 8) (i : Fin 512) :
    out1_12 x0 x1 x2 x3 x4 x5 x6 x7 x8 x9 x10 x11 (ix3 c b i) = outA x (act x b i.val) b i c := by
  unfold out1_12
  canon_tiles y e
  · obtain rfl : c = 3 := Fin.ext (by simp at e0 e1 e2 y0_lt y1_lt y2_lt ⊢; omega)
    obtain rfl : y = ix3 0 b i := by
      rw [eq_ix3 y]; congr 1 <;> apply Fin.ext <;> simp at e0 e1 e2 y0_lt y1_lt y2_lt ⊢ <;> omega
    pointwise [k1_pay156, k1_pay42, h.f, h.a3, outA]
  · obtain rfl : c = 2 := Fin.ext (by simp at e0 e1 e2 y0_lt y1_lt y2_lt ⊢; omega)
    obtain rfl : y = ix3 0 b i := by
      rw [eq_ix3 y]; congr 1 <;> apply Fin.ext <;> simp at e0 e1 e2 y0_lt y1_lt y2_lt ⊢ <;> omega
    pointwise [k1_pay155, k1_pay41, h.f, h.a2, outA]
  · obtain rfl : c = 1 := Fin.ext (by simp at e0 e1 e2 y0_lt y1_lt y2_lt ⊢; omega)
    obtain rfl : y = ix3 0 b i := by
      rw [eq_ix3 y]; congr 1 <;> apply Fin.ext <;> simp at e0 e1 e2 y0_lt y1_lt y2_lt ⊢ <;> omega
    pointwise [k1_pay154, iso_apply h, ua1_apply h, w7_shared h, outA]
  · obtain rfl : c = 0 := Fin.ext (by simp at e0 e1 e2 y0_lt y1_lt y2_lt ⊢; omega)
    obtain rfl : y = ix3 0 b i := by
      rw [eq_ix3 y]; congr 1 <;> apply Fin.ext <;> simp at e0 e1 e2 y0_lt y1_lt y2_lt ⊢ <;> omega
    pointwise [k1_pay153, iso_apply h, ua0_apply h, w7_shared h, outA]

/-- The second kind's block. -/
theorem out13_apply (h : Reads x (k1_pay164 x0 x1 x2 x3 x4 x5 x6 x7 x8 x9 x10 x11) (k1_pay165 x0 x1 x2 x3 x4 x5 x6 x7 x8 x9 x10 x11) (k1_pay166 x0 x1 x2 x3 x4 x5 x6 x7 x8 x9 x10 x11)
    (k1_pay167 x0 x1 x2 x3 x4 x5 x6 x7 x8 x9 x10 x11) (k1_pay168 x0 x1 x2 x3 x4 x5 x6 x7 x8 x9 x10 x11)
    (k1_pay170 x0 x1 x2 x3 x4 x5 x6 x7 x8 x9 x10 x11) (k1_pay171 x0 x1 x2 x3 x4 x5 x6 x7 x8 x9 x10 x11)
    (k1_pay172 x0 x1 x2 x3 x4 x5 x6 x7 x8 x9 x10 x11) (k1_pay173 x0 x1 x2 x3 x4 x5 x6 x7 x8 x9 x10 x11)
    (k1_pay175 x0 x1 x2 x3 x4 x5 x6 x7 x8 x9 x10 x11) (k1_pay176 x0 x1 x2 x3 x4 x5 x6 x7 x8 x9 x10 x11)
    (k1_pay174 x0 x1 x2 x3 x4 x5 x6 x7 x8 x9 x10 x11))
    (c : Fin 4) (b : Fin 8) (i : Fin 512) :
    out1_13 x0 x1 x2 x3 x4 x5 x6 x7 x8 x9 x10 x11 (ix3 c b i) = outO x (act x b i.val) b i c := by
  unfold out1_13
  canon_tiles y e
  · obtain rfl : c = 3 := Fin.ext (by simp at e0 e1 e2 y0_lt y1_lt y2_lt ⊢; omega)
    obtain rfl : y = ix3 0 b i := by
      rw [eq_ix3 y]; congr 1 <;> apply Fin.ext <;> simp at e0 e1 e2 y0_lt y1_lt y2_lt ⊢ <;> omega
    pointwise [k1_pay4, k1_pay44, h.f, h.o3, outO]
  · obtain rfl : c = 2 := Fin.ext (by simp at e0 e1 e2 y0_lt y1_lt y2_lt ⊢; omega)
    obtain rfl : y = ix3 0 b i := by
      rw [eq_ix3 y]; congr 1 <;> apply Fin.ext <;> simp at e0 e1 e2 y0_lt y1_lt y2_lt ⊢ <;> omega
    pointwise [k1_pay3, k1_pay43, h.f, h.o2, outO]
  · obtain rfl : c = 1 := Fin.ext (by simp at e0 e1 e2 y0_lt y1_lt y2_lt ⊢; omega)
    obtain rfl : y = ix3 0 b i := by
      rw [eq_ix3 y]; congr 1 <;> apply Fin.ext <;> simp at e0 e1 e2 y0_lt y1_lt y2_lt ⊢ <;> omega
    pointwise [k1_pay2, iso_apply h, uo1_apply h, outO]
  · obtain rfl : c = 0 := Fin.ext (by simp at e0 e1 e2 y0_lt y1_lt y2_lt ⊢; omega)
    obtain rfl : y = ix3 0 b i := by
      rw [eq_ix3 y]; congr 1 <;> apply Fin.ext <;> simp at e0 e1 e2 y0_lt y1_lt y2_lt ⊢ <;> omega
    pointwise [k1_pay1, k1_pay157, iso_apply h, uo0_apply h, outO]

end Cert.KOut

end
-- ==== Proof.KPrep.lean ====
/-
  The kernel's second region reads the recursion's data: each array the scan's prologue computes is the channel or the
  weight of `Spec.ctx`, index by index.
-/
module

public import Idealize.ShloMosaic.Lib.Pointwise
public import proofs.«01_k».proof.Proof.KOut

@[expose] public section

noncomputable section

namespace Cert.KPrep

open Idealize.ShloMosaic Cert.KernelIdeal Cert.KernelIdeal.Gen Cert.Ind Cert.Spec Cert.KFlags

variable {A0 A1 : Fin 8 → Fin 512 → Fin 4 → EReal} {A2 : Fin 8 → Fin 512 → Fin 512 → Fin 4 → EReal}
  {E3 E4 : Fin 8 → Fin 512 → BitVec 32}
  {W1 : Fin 8 → Fin 32 → EReal} {b1 : Fin 32 → EReal} {W2 : Fin 32 → Fin 16 → EReal}
  {b2 : Fin 16 → EReal} {W3 : Fin 16 → EReal} {b3 : EReal}
variable {x0 : Vec Ideal S8x8x512 .f32} {x1 : Vec Ideal S4x8x512 .f32} {x2 : Vec Ideal S4x8x512 .f32}
  {x3 : Vec Ideal S8x512 .i32} {x4 : Vec Ideal S8x512 .i32} {x5 : Vec Ideal S8x512 .f32} {x6 : Vec Ideal S32x8 .f32}
  {x7 : Vec Ideal S32x1 .f32} {x8 : Vec Ideal S16x32 .f32} {x9 : Vec Ideal S16x1 .f32} {x10 : Vec Ideal S1x16 .f32}
  {x11 : Vec Ideal S1x1 .f32}

/-- What the region's input arrays hold, of the arguments. -/
structure Ins (A0 A1 : Fin 8 → Fin 512 → Fin 4 → EReal) (A2 : Fin 8 → Fin 512 → Fin 512 → Fin 4 → EReal)
    (E3 E4 : Fin 8 → Fin 512 → BitVec 32) (W1 : Fin 8 → Fin 32 → EReal) (b1 : Fin 32 → EReal)
    (W2 : Fin 32 → Fin 16 → EReal) (b2 : Fin 16 → EReal) (W3 : Fin 16 → EReal) (b3 : EReal)
    (x0 : Vec Ideal S8x8x512 .f32) (x1 x2 : Vec Ideal S4x8x512 .f32) (x3 x4 : Vec Ideal S8x512 .i32)
    (x5 : Vec Ideal S8x512 .f32) (x6 : Vec Ideal S32x8 .f32) (x7 : Vec Ideal S32x1 .f32) (x8 : Vec Ideal S16x32 .f32)
    (x9 : Vec Ideal S16x1 .f32) (x10 : Vec Ideal S1x16 .f32) (x11 : Vec Ideal S1x1 .f32) : Prop where
  h0 : ∀ b m i, x0 (ix3 b m i) = both (A0 b i) (A1 b i) m
  h1 : ∀ c b i, x1 (ix3 c b i) = A0 b i c
  h2 : ∀ c b i, x2 (ix3 c b i) = A1 b i c
  h3 : ∀ b i, x3 (ix2 b i) = E3 b i
  h4 : ∀ b i, x4 (ix2 b i) = E4 b i
  h5 : ∀ b i, x5 (ix2 b i) = ind (caus (A2 b) i)
  h6 : ∀ l m, x6 (ix2 l m) = W1 m l
  h7 : ∀ l, x7 (ix2 l 0) = b1 l
  h8 : ∀ k l, x8 (ix2 k l) = W2 l k
  h9 : ∀ k, x9 (ix2 k 0) = b2 k
  h10 : ∀ k, x10 (ix2 0 k) = W3 k
  h11 : x11 (ix2 0 0) = b3

/-- The three layers with each product's factors exchanged. -/
theorem mlp_comm (X : Fin 8 → EReal) :
    (∑ k, W3 k * max ((∑ l, W2 l k * max ((∑ m, W1 m l * X m) + b1 l) 0) + b2 k) 0) + b3
      = mlp X W1 b1 W2 b2 W3 b3 := by
  unfold mlp
  congr 1
  refine Finset.sum_congr rfl fun k _ => ?_
  rw [mul_comm]
  congr 3
  refine Finset.sum_congr rfl fun l _ => ?_
  rw [mul_comm]
  congr 3
  exact Finset.sum_congr rfl fun m _ => mul_comm _ _

theorem row0 (h : Ins A0 A1 A2 E3 E4 W1 b1 W2 b2 W3 b3 x0 x1 x2 x3 x4 x5 x6 x7 x8 x9 x10 x11) (i : Fin 512) :
    (k1_pay11 (View.ld x6 r1_0) (View.ld x8 r1_1) (View.ld x10 r1_2) (View.ld x7 r1_3) (View.ld x9 r1_4) (View.ld x11 r1_5) (View.ld x0 r1_6)) (ix2 0 i)
      = mlp (both (A0 0 i) (A1 0 i)) W1 b1 W2 b2 W3 b3 := by
  pointwise [k1_pay11, k1_pay158, k1_pay159, k1_pay160, k1_pay161, k1_pay162, k1_pay163, k1_pay5, k1_pay6, k1_pay7, k1_pay8, k1_pay9,
    k1_pay10, h.h0, h.h6, h.h7, h.h8, h.h9, h.h10, h.h11]
  simp only [mlp_comm]

theorem row1 (h : Ins A0 A1 A2 E3 E4 W1 b1 W2 b2 W3 b3 x0 x1 x2 x3 x4 x5 x6 x7 x8 x9 x10 x11) (i : Fin 512) :
    (k1_pay13 (k1_pay159 x0 x1 x2 x3 x4 x5 x6 x7 x8 x9 x10 x11) (k1_pay160 x0 x1 x2 x3 x4 x5 x6 x7 x8 x9 x10 x11) (k1_pay162 x0 x1 x2 x3 x4 x5 x6 x7 x8 x9 x10 x11) (k1_pay163 x0 x1 x2 x3 x4 x5 x6 x7 x8 x9 x10 x11) (k1_pay12 (View.ld x6 r1_0) (View.ld x7 r1_3) (View.ld x0 r1_7)) (constant S16x512 .f32 0x00000000#32)) (ix2 0 i)
      = mlp (both (A0 1 i) (A1 1 i)) W1 b1 W2 b2 W3 b3 := by
  pointwise [k1_pay12, k1_pay13, k1_pay158, k1_pay159, k1_pay160, k1_pay161, k1_pay162, k1_pay163, k1_pay5, k1_pay6, k1_pay7, k1_pay8, k1_pay9,
    k1_pay10, h.h0, h.h6, h.h7, h.h8, h.h9, h.h10, h.h11]
  simp only [mlp_comm]

theorem row2 (h : Ins A0 A1 A2 E3 E4 W1 b1 W2 b2 W3 b3 x0 x1 x2 x3 x4 x5 x6 x7 x8 x9 x10 x11) (i : Fin 512) :
    (k1_pay14 (k1_pay158 x0 x1 x2 x3 x4 x5 x6 x7 x8 x9 x10 x11) (k1_pay159 x0 x1 x2 x3 x4 x5 x6 x7 x8 x9 x10 x11) (k1_pay160 x0 x1 x2 x3 x4 x5 x6 x7 x8 x9 x10 x11) (k1_pay161 x0 x1 x2 x3 x4 x5 x6 x7 x8 x9 x10 x11) (k1_pay162 x0 x1 x2 x3 x4 x5 x6 x7 x8 x9 x10 x11) (k1_pay163 x0 x1 x2 x3 x4 x5 x6 x7 x8 x9 x10 x11) (View.ld x0 r1_8)) (ix2 0 i)
      = mlp (both (A0 2 i) (A1 2 i)) W1 b1 W2 b2 W3 b3 := by
  pointwise [k1_pay14, k1_pay158, k1_pay159, k1_pay160, k1_pay161, k1_pay162, k1_pay163, k1_pay5, k1_pay6, k1_pay7, k1_pay8, k1_pay9,
    k1_pay10, h.h0, h.h6, h.h7, h.h8, h.h9, h.h10, h.h11]
  simp only [mlp_comm]

theorem row3 (h : Ins A0 A1 A2 E3 E4 W1 b1 W2 b2 W3 b3 x0 x1 x2 x3 x4 x5 x6 x7 x8 x9 x10 x11) (i : Fin 512) :
    (k1_pay15 (k1_pay158 x0 x1 x2 x3 x4 x5 x6 x7 x8 x9 x10 x11) (k1_pay159 x0 x1 x2 x3 x4 x5 x6 x7 x8 x9 x10 x11) (k1_pay160 x0 x1 x2 x3 x4 x5 x6 x7 x8 x9 x10 x11) (k1_pay161 x0 x1 x2 x3 x4 x5 x6 x7 x8 x9 x10 x11) (k1_pay162 x0 x1 x2 x3 x4 x5 x6 x7 x8 x9 x10 x11) (k1_pay163 x0 x1 x2 x3 x4 x5 x6 x7 x8 x9 x10 x11) (View.ld x0 r1_9)) (ix2 0 i)
      = mlp (both (A0 3 i) (A1 3 i)) W1 b1 W2 b2 W3 b3 := by
  pointwise [k1_pay15, k1_pay158, k1_pay159, k1_pay160, k1_pay161, k1_pay162, k1_pay163, k1_pay5, k1_pay6, k1_pay7, k1_pay8, k1_pay9,
    k1_pay10, h.h0, h.h6, h.h7, h.h8, h.h9, h.h10, h.h11]
  simp only [mlp_comm]

theorem row4 (h : Ins A0 A1 A2 E3 E4 W1 b1 W2 b2 W3 b3 x0 x1 x2 x3 x4 x5 x6 x7 x8 x9 x10 x11) (i : Fin 512) :
    (k1_pay16 (k1_pay158 x0 x1 x2 x3 x4 x5 x6 x7 x8 x9 x10 x11) (k1_pay159 x0 x1 x2 x3 x4 x5 x6 x7 x8 x9 x10 x11) (k1_pay160 x0 x1 x2 x3 x4 x5 x6 x7 x8 x9 x10 x11) (k1_pay161 x0 x1 x2 x3 x4 x5 x6 x7 x8 x9 x10 x11) (k1_pay162 x0 x1 x2 x3 x4 x5 x6 x7 x8 x9 x10 x11) (k1_pay163 x0 x1 x2 x3 x4 x5 x6 x7 x8 x9 x10 x11) (View.ld x0 r1_10)) (ix2 0 i)
      = mlp (both (A0 4 i) (A1 4 i)) W1 b1 W2 b2 W3 b3 := by
  pointwise [k1_pay16, k1_pay158, k1_pay159, k1_pay160, k1_pay161, k1_pay162, k1_pay163, k1_pay5, k1_pay6, k1_pay7, k1_pay8, k1_pay9,
    k1_pay10, h.h0, h.h6, h.h7, h.h8, h.h9, h.h10, h.h11]
  simp only [mlp_comm]

theorem row5 (h : Ins A0 A1 A2 E3 E4 W1 b1 W2 b2 W3 b3 x0 x1 x2 x3 x4 x5 x6 x7 x8 x9 x10 x11) (i : Fin 512) :
    (k1_pay17 (k1_pay158 x0 x1 x2 x3 x4 x5 x6 x7 x8 x9 x10 x11) (k1_pay159 x0 x1 x2 x3 x4 x5 x6 x7 x8 x9 x10 x11) (k1_pay160 x0 x1 x2 x3 x4 x5 x6 x7 x8 x9 x10 x11) (k1_pay161 x0 x1 x2 x3 x4 x5 x6 x7 x8 x9 x10 x11) (k1_pay162 x0 x1 x2 x3 x4 x5 x6 x7 x8 x9 x10 x11) (k1_pay163 x0 x1 x2 x3 x4 x5 x6 x7 x8 x9 x10 x11) (View.ld x0 r1_11)) (ix2 0 i)
      = mlp (both (A0 5 i) (A1 5 i)) W1 b1 W2 b2 W3 b3 := by
  pointwise [k1_pay17, k1_pay158, k1_pay159, k1_pay160, k1_pay161, k1_pay162, k1_pay163, k1_pay5, k1_pay6, k1_pay7, k1_pay8, k1_pay9,
    k1_pay10, h.h0, h.h6, h.h7, h.h8, h.h9, h.h10, h.h11]
  simp only [mlp_comm]

set_option maxHeartbeats 1600000 in
/-- The factor of eight rows of scores, six of them given and two computed. -/
theorem pay20_apply (Z : Fin 8 → Fin 512 → EReal) (v1 : FVec Ideal S32x8 .f32) (v3 : FVec Ideal S16x32 .f32)
    (v5 : FVec Ideal S1x16 .f32) (v7 : FVec Ideal S32x1 .f32) (v9 : FVec Ideal S16x1 .f32) (v11 : FVec Ideal S1x1 .f32)
    (v26 v41 v56 v71 v86 v101 : FVec Ideal S1x512 .f32) (v111 v112 : FVec Ideal S16x512 .f32)
    (v117 : Vec Ideal S1x8x512 .f32)
    (h0 : ∀ i, v26 (ix2 0 i) = Z 0 i) (h1 : ∀ i, v41 (ix2 0 i) = Z 1 i) (h2 : ∀ i, v56 (ix2 0 i) = Z 2 i) (h3 : ∀ i, v71 (ix2 0 i) = Z 3 i) (h4 : ∀ i, v86 (ix2 0 i) = Z 4 i) (h5 : ∀ i, v101 (ix2 0 i) = Z 5 i)
    (h6 : ∀ i, (∑ k, v5 (ix2 0 k) * max (v111 (ix2 k i)) (v112 (ix2 k i))) + v11 (ix2 0 0) = Z 6 i)
    (h7 : ∀ i, (∑ k, v5 (ix2 0 k) * max ((∑ l, v3 (ix2 k l) * max ((∑ m, v1 (ix2 l m) * v117 (ix3 0 m i))
      + v7 (ix2 l 0)) 0) + v9 (ix2 k 0)) 0) + v11 (ix2 0 0) = Z 7 i) (b : Fin 8) (i : Fin 512) :
    k1_pay20 v1 v3 v5 v7 v9 v11 v26 v41 v56 v71 v86 v101 v111 v112 v117 (ix2 b i)
      = factor (Ideal.logistic (Z b i)) := by
  pointwise [k1_pay20]
  have hb : b = 0 ∨ b = 1 ∨ b = 2 ∨ b = 3 ∨ b = 4 ∨ b = 5 ∨ b = 6 ∨ b = 7 := by omega
  rcases hb with rfl | rfl | rfl | rfl | rfl | rfl | rfl | rfl
  · exact congrArg (fun s => factor (Ideal.logistic s)) (h0 i)
  · exact congrArg (fun s => factor (Ideal.logistic s)) (h1 i)
  · exact congrArg (fun s => factor (Ideal.logistic s)) (h2 i)
  · exact congrArg (fun s => factor (Ideal.logistic s)) (h3 i)
  · exact congrArg (fun s => factor (Ideal.logistic s)) (h4 i)
  · exact congrArg (fun s => factor (Ideal.logistic s)) (h5 i)
  · exact congrArg (fun s => factor (Ideal.logistic s)) (h6 i)
  · exact congrArg (fun s => factor (Ideal.logistic s)) (h7 i)

theorem f_apply (h : Ins A0 A1 A2 E3 E4 W1 b1 W2 b2 W3 b3 x0 x1 x2 x3 x4 x5 x6 x7 x8 x9 x10 x11) (b : Fin 8) (i : Fin 512) :
    k1_pay164 x0 x1 x2 x3 x4 x5 x6 x7 x8 x9 x10 x11 (ix2 b i)
      = factor (Ideal.logistic (mlp (both (A0 b i) (A1 b i)) W1 b1 W2 b2 W3 b3)) := by
  unfold k1_pay164
  refine pay20_apply (fun b i => mlp (both (A0 b i) (A1 b i)) W1 b1 W2 b2 W3 b3) _ _ _ _ _ _ _ _ _ _ _ _ _ _ _
    (row0 h) (row1 h) (row2 h) (row3 h) (row4 h) (row5 h) ?_ ?_ b i
  · intro i
    pointwise [k1_pay18, k1_pay19, k1_pay158, k1_pay159, k1_pay160, k1_pay161, k1_pay162, k1_pay163, k1_pay5, k1_pay6, k1_pay7, k1_pay8, k1_pay9,
    k1_pay10, h.h0, h.h6, h.h7, h.h8, h.h9, h.h10, h.h11]
    simp only [mlp_comm]
  · intro i
    pointwise [k1_pay158, k1_pay159, k1_pay160, k1_pay161, k1_pay162, k1_pay163, k1_pay5, k1_pay6, k1_pay7, k1_pay8, k1_pay9,
    k1_pay10, h.h0, h.h6, h.h7, h.h8, h.h9, h.h10, h.h11]
    simp only [mlp_comm]

theorem cs_apply (h : Ins A0 A1 A2 E3 E4 W1 b1 W2 b2 W3 b3 x0 x1 x2 x3 x4 x5 x6 x7 x8 x9 x10 x11) (b : Fin 8) (i : Fin 512) :
    k1_pay174 x0 x1 x2 x3 x4 x5 x6 x7 x8 x9 x10 x11 (ix2 b i) = BitVec.ofBool (caus (A2 b) i) := by
  unfold k1_pay174
  pointwise [k1_pay32, h.h5]
  generalize caus (A2 b) i = t
  cases t
  · rw [ind_false, decide_eq_false (not_lt.mpr half_pos.le)]
  · rw [ind_true, decide_eq_true half_lt_one]

/-- A bit widened to a word, as a number. -/
theorem sitofp_bit (t : Bool) :
    (FloatOps.sitofp (F := Ideal) .f32 (BitVec.setWidth 32 (BitVec.ofBool t)) : EReal) = ind t := by
  cases t
  · show (((0#32 : BitVec 32).toInt : ℝ) : EReal) = ind false
    simp [ind]
  · show (((1#32 : BitVec 32).toInt : ℝ) : EReal) = ind true
    simp [ind]

/-- A small number's word against three. -/
theorem cmp3 (d : ℕ) (hd : d < 512) : IntOp.cmpi .sle (BitVec.ofNat 32 d) 3#32 = BitVec.ofBool (decide (d ≤ 3)) := by
  have h1 : (BitVec.ofNat 32 d).toInt = d := by
    rw [BitVec.toInt_eq_toNat_of_lt] <;> simp <;> omega
  show BitVec.ofBool (decide ((BitVec.ofNat 32 d).toInt ≤ 3)) = _
  rw [h1]
  congr 1
  rw [decide_eq_decide]
  omega

/-- The two words' distance, in absolute value, against three. -/
theorem band_iff (k i : Fin 512) :
    IntOp.cmpi .sle (IntOp.absi (IntOp.subi (BitVec.ofNat 32 k.val) (BitVec.ofNat 32 i.val))) 3#32
      = BitVec.ofBool (decide (k.val ≤ i.val + 3 ∧ i.val ≤ k.val + 3)) := by
  have hk := k.isLt
  have hi := i.isLt
  rcases le_or_gt i.val k.val with hle | hlt
  · have hx : IntOp.subi (BitVec.ofNat 32 k.val) (BitVec.ofNat 32 i.val) = BitVec.ofNat 32 (k.val - i.val) := by
      show BitVec.ofNat 32 k.val - BitVec.ofNat 32 i.val = _
      apply BitVec.eq_of_toNat_eq
      simp only [BitVec.toNat_sub, BitVec.toNat_ofNat]
      omega
    have hm : (BitVec.ofNat 32 (k.val - i.val)).msb = false := by
      rw [BitVec.msb_eq_false_iff_two_mul_lt]
      simp only [BitVec.toNat_ofNat]
      omega
    rw [hx, IntOp.absi, hm, if_neg (by simp), cmp3 _ (by omega)]
    congr 1
    rw [decide_eq_decide]
    omega
  · have hx : IntOp.subi (BitVec.ofNat 32 k.val) (BitVec.ofNat 32 i.val) = -BitVec.ofNat 32 (i.val - k.val) := by
      show BitVec.ofNat 32 k.val - BitVec.ofNat 32 i.val = _
      apply BitVec.eq_of_toNat_eq
      simp only [BitVec.toNat_sub, BitVec.toNat_neg, BitVec.toNat_ofNat]
      omega
    have hm : (-BitVec.ofNat 32 (i.val - k.val)).msb = true := by
      rw [BitVec.msb_eq_true_iff_two_mul_ge]
      simp only [BitVec.toNat_neg, BitVec.toNat_ofNat]
      omega
    rw [hx, IntOp.absi, hm, if_pos rfl, BitVec.neg_neg, cmp3 _ (by omega)]
    congr 1
    rw [decide_eq_decide]
    omega

theorem band_apply (k i : Fin 512) :
    k1_pay31 (F := Ideal) (k1_pay169 x0 x1 x2 x3 x4 x5 x6 x7 x8 x9 x10 x11) (ix2 k i)
      = ind (decide (k.val ≤ i.val + 3 ∧ i.val ≤ k.val + 3)) := by
  unfold k1_pay169
  pointwise [k1_pay31]
  rw [band_iff, sitofp_bit]

theorem sgt_zero (e : BitVec 32) : IntOp.cmpi .sgt e 0#32 = BitVec.ofBool (decide (0 < e.toInt)) := rfl

theorem sum_ind_pos (p : Fin 512 → Bool) : 0 < ∑ k, ind (p k) ↔ ∃ k, p k = true := by
  constructor
  · intro h
    by_contra hn
    push Not at hn
    have h0 : ∑ k, ind (p k) = 0 := Finset.sum_eq_zero fun k _ => by
      rw [Bool.eq_false_iff.mpr (hn k)]
      rfl
    exact absurd h0 h.ne'
  · rintro ⟨k, hk⟩
    have h1 : ind (p k) ≤ ∑ k, ind (p k) :=
      Finset.single_le_sum (fun j _ => ind_nonneg (p j)) (Finset.mem_univ k)
    rw [hk, ind_true] at h1
    exact lt_of_lt_of_le zero_lt_one h1

/-- The marks' product with the band, against zero. -/
theorem near_iff (e : Fin 512 → BitVec 32) (i : Fin 512) :
    decide (0 < ∑ k : Fin 512, ind (decide (0 < (e k).toInt)) * ind (decide (k.val ≤ i.val + 3 ∧ i.val ≤ k.val + 3)))
      = near e i := by
  unfold near
  rw [decide_eq_decide]
  simp only [ind_mul]
  rw [sum_ind_pos]
  simp only [Bool.and_eq_true, decide_eq_true_eq]

theorem wa_apply (h : Ins A0 A1 A2 E3 E4 W1 b1 W2 b2 W3 b3 x0 x1 x2 x3 x4 x5 x6 x7 x8 x9 x10 x11) (b : Fin 8) (i : Fin 512) :
    k1_pay175 x0 x1 x2 x3 x4 x5 x6 x7 x8 x9 x10 x11 (ix2 b i) = wt c03 (soft (A0 b i) && !near (E4 b) i) := by
  unfold k1_pay175
  pointwise [k1_pay33, k1_pay29, k1_pay165, k1_pay166, k1_pay167, k1_pay168, k1_pay21, k1_pay22, k1_pay23,
    k1_pay24, h.h1, h.h4, band_apply, sgt_zero, sitofp_bit, near_iff]
  change Scalar.select (IntOp.andi (BitVec.ofBool (soft (A0 b i))) _) _ _ = _
  generalize soft (A0 b i) = s
  generalize near (E4 b) i = t
  cases s <;> cases t <;> rfl

theorem wo_apply (h : Ins A0 A1 A2 E3 E4 W1 b1 W2 b2 W3 b3 x0 x1 x2 x3 x4 x5 x6 x7 x8 x9 x10 x11) (b : Fin 8) (i : Fin 512) :
    k1_pay176 x0 x1 x2 x3 x4 x5 x6 x7 x8 x9 x10 x11 (ix2 b i) = wt c03 (soft (A1 b i) && !near (E3 b) i) := by
  unfold k1_pay176
  pointwise [k1_pay34, k1_pay30, k1_pay25, k1_pay26, k1_pay27, k1_pay28, h.h2, h.h3, band_apply, sgt_zero,
    sitofp_bit, near_iff]
  change Scalar.select (IntOp.andi (BitVec.ofBool (soft (A1 b i))) _) _ _ = _
  generalize soft (A1 b i) = s
  generalize near (E3 b) i = t
  cases s <;> cases t <;> rfl

/-- The region reads the recursion's data. -/
theorem reads (h : Ins A0 A1 A2 E3 E4 W1 b1 W2 b2 W3 b3 x0 x1 x2 x3 x4 x5 x6 x7 x8 x9 x10 x11) :
    Reads (ctx A0 A1 A2 E3 E4 W1 b1 W2 b2 W3 b3) (k1_pay164 x0 x1 x2 x3 x4 x5 x6 x7 x8 x9 x10 x11) (k1_pay165 x0 x1 x2 x3 x4 x5 x6 x7 x8 x9 x10 x11) (k1_pay166 x0 x1 x2 x3 x4 x5 x6 x7 x8 x9 x10 x11)
    (k1_pay167 x0 x1 x2 x3 x4 x5 x6 x7 x8 x9 x10 x11) (k1_pay168 x0 x1 x2 x3 x4 x5 x6 x7 x8 x9 x10 x11)
    (k1_pay170 x0 x1 x2 x3 x4 x5 x6 x7 x8 x9 x10 x11) (k1_pay171 x0 x1 x2 x3 x4 x5 x6 x7 x8 x9 x10 x11)
    (k1_pay172 x0 x1 x2 x3 x4 x5 x6 x7 x8 x9 x10 x11) (k1_pay173 x0 x1 x2 x3 x4 x5 x6 x7 x8 x9 x10 x11)
    (k1_pay175 x0 x1 x2 x3 x4 x5 x6 x7 x8 x9 x10 x11) (k1_pay176 x0 x1 x2 x3 x4 x5 x6 x7 x8 x9 x10 x11)
    (k1_pay174 x0 x1 x2 x3 x4 x5 x6 x7 x8 x9 x10 x11) where
  f := f_apply h
  a0 b i := by pointwise [k1_pay165, k1_pay21, h.h1, ctx]
  a1 b i := by pointwise [k1_pay166, k1_pay22, h.h1, ctx]
  a2 b i := by pointwise [k1_pay167, k1_pay23, h.h1, ctx]
  a3 b i := by pointwise [k1_pay168, k1_pay24, h.h1, ctx]
  o0 b i := by pointwise [k1_pay170, k1_pay25, h.h2, ctx]
  o1 b i := by pointwise [k1_pay171, k1_pay26, h.h2, ctx]
  o2 b i := by pointwise [k1_pay172, k1_pay27, h.h2, ctx]
  o3 b i := by pointwise [k1_pay173, k1_pay28, h.h2, ctx]
  wa := wa_apply h
  wo := wo_apply h
  cs := cs_apply h

end Cert.KPrep

end
-- ==== Proof.KCaus.lean ====
/- What the first call computes of a block: whether an earlier position is related to a position, as one or zero. -/
module

public import proofs.«01_k».proof.Proof.KPrep

@[expose] public section

noncomputable section

namespace Cert.KCaus

open Idealize.ShloMosaic Cert.KernelIdeal Cert.KernelIdeal.Gen Cert.Ind Cert.Spec

/-- Minus infinity. -/
theorem bot_bits : Ideal.ofBits .f32 0xFF800000#32 = (⊥ : EReal) := by
  simp [Ideal.ofBits, Ideal.ieee]

/-- A column's number shifted right by two is its quotient by four. -/
theorem shr_two : ∀ k : Fin 2048, IntOp.shrsi ArithUnit.vector (BitVec.ofNat 32 k.val) 2#32 = BitVec.ofNat 32 (k.val / 4) := by
  decide +kernel

/-- The largest of ones and zeros is positive where there is a one. -/
theorem fold_max_pos {n : ℕ} (p : Fin n → Bool) :
    0 < Finset.fold max (⊥ : EReal) (fun k => ind (p k)) Finset.univ ↔ ∃ k, p k = true := by
  rw [Finset.lt_fold_max]
  constructor
  · rintro (h | ⟨k, -, hk⟩)
    · exact absurd h (by simp)
    · refine ⟨k, ?_⟩
      by_contra hn
      rw [Bool.eq_false_iff.mpr hn] at hk
      exact absurd hk (by simp [ind])
  · rintro ⟨k, hk⟩
    exact Or.inr ⟨k, Finset.mem_univ _, by rw [hk]; simp [ind]⟩

theorem pay1_apply (v : Vec Ideal S1x512x2048 .f32) (i : Fin 512) :
    k0_pay1 v (ix3 0 i 0) = ind (decide (∃ k : Fin 2048, (decide (half < v (ix3 0 i k)) && decide (k.val / 4 < i.val)) = true)) := by
  pointwise [k0_pay1]
  rw [KPrep.sitofp_bit]
  congr 1
  have e : (fun k : Fin 2048 => (Scalar.select
      (IntOp.andi (BitVec.ofBool (decide (Ideal.ofBits FTy.f32 1056964608#32 < v (ix3 0 i k))))
        (IntOp.cmpi CmpIPredicate.slt (IntOp.shrsi ArithUnit.vector (BitVec.ofNat 32 k.val) 2#32) (BitVec.ofNat 32 i.val)))
      1 0 : EReal)) = fun k => ind (decide (half < v (ix3 0 i k)) && decide (k.val / 4 < i.val)) := by
    funext k
    have hk := k.isLt
    have hi := i.isLt
    rw [shr_two, WordCmp.cmpi_slt_ofNat (by omega) (by omega), WordCmp.andi_ofBool, WordCmp.select_ofBool]
    rfl
  refine decide_eq_decide.mpr ?_
  rw [bot_bits]
  refine Iff.trans ?_ (fold_max_pos fun k => decide (half < v (ix3 0 i k)) && decide (k.val / 4 < i.val))
  rw [← e]
  exact Iff.rfl

/-- The columns of a row are the channels of the other positions, four to each. -/
theorem caus_of_cols (r : Fin 512 → Fin 512 → Fin 4 → EReal) (i : Fin 512) (f : Fin 2048 → EReal)
    (hf : ∀ k : Fin 2048, f k = r i ⟨k.val / 4, by have := k.isLt; omega⟩ ⟨k.val % 4, by omega⟩) :
    decide (∃ k : Fin 2048, (decide (half < f k) && decide (k.val / 4 < i.val)) = true) = caus r i := by
  unfold caus
  refine decide_eq_decide.mpr ⟨?_, ?_⟩
  · rintro ⟨k, hk⟩
    rw [Bool.and_eq_true, decide_eq_true_eq, decide_eq_true_eq, hf] at hk
    exact ⟨_, _, hk⟩
  · rintro ⟨j, c, h, hj⟩
    have h4 : (4 * j.val + c.val) / 4 = j.val := by have := c.isLt; omega
    have h5 : (4 * j.val + c.val) % 4 = c.val := by have := c.isLt; omega
    refine ⟨⟨4 * j.val + c.val, by have := c.isLt; have := j.isLt; omega⟩, ?_⟩
    rw [Bool.and_eq_true, decide_eq_true_eq, decide_eq_true_eq, hf]
    simp only [h4, h5]
    exact ⟨h, hj⟩

/-- The first call's block: the relation's flag of every position. -/
theorem out_apply (x : Vec Ideal S1x512x2048 .f32) (r : Fin 512 → Fin 512 → Fin 4 → EReal)
    (hx : ∀ i (k : Fin 2048), x (ix3 0 i k) = r i ⟨k.val / 4, by have := k.isLt; omega⟩ ⟨k.val % 4, by omega⟩)
    (i : Fin 512) : out0_1 x (ix3 0 i 0) = ind (caus r i) := by
  unfold out0_1
  have hp : ∀ (v : Vec Ideal S1x512x2048 .f32), v = x → k0_pay1 v (ix3 0 i 0) = ind (caus r i) := by
    rintro v rfl
    rw [pay1_apply]
    congr 1
    exact caus_of_cols r i _ (hx i)
  have hl : View.ld x r0_0 = x := by
    funext j
    obtain ⟨a, b, c, rfl⟩ : ∃ a b c, j = ix3 a b c := ⟨j 0, j 1, j 2, eq_ix3 j⟩
    obtain rfl : a = 0 := Subsingleton.elim _ _
    pointwise []
  rw [hl]
  canon_tiles y e
  obtain rfl : y = ix3 0 i 0 := by
    rw [eq_ix3 y]; congr 1 <;> apply Fin.ext <;> simp at e0 e1 e2 y0_lt y1_lt y2_lt ⊢ <;> omega
  exact hp _ rfl

end Cert.KCaus

end
-- ==== Proof.KVals.lean ====
/- The arrays of the kernel's run: what each of the two calls is given, and what it leaves. -/
module

public import proofs.«01_k».proof.Proof.KCaus
public import proofs.«01_k».proof.Proof.Gen.KernelIdeal.Frame
public import Idealize.ShloMosaic.Lib.Pipeline.ValueKit
public import Idealize.ShloMosaic.Lib.StableHlo.ReadAt
public import Idealize.ShloMosaic.Lib.Pointwise

@[expose] public section

noncomputable section

namespace Cert.KVals

open Idealize.ShloMosaic Idealize.ShloMosaic.TcCoe Idealize.SL.Sem
open Idealize.ShloMosaic.Pipeline (Dat)
open Cert.KernelIdeal Cert.KernelIdeal.Gen Cert.Ind Cert.Spec

variable (m : (ℓ : Loc nD τ sig) → Buf (Elt Ideal) ℓ) (ρ : Dev nD → PrngReg) (c : Dev nD)

/-- The relation as launched. -/
abbrev rel (b : Fin 8) (i j : Fin 512) (k : Fin 4) : EReal :=
  (m ((c : Thread nD τ).loc main_arg2) : Vec Ideal S8x512x512x4 .f32) (ix4 b i j k)

/-- The relation with its last two axes as one. -/
theorem v0_apply (b : Fin 8) (i : Fin 512) (k : Fin 2048) :
    (W1 m ρ c (Proc.devRef .tc main_v0) : Vec Ideal S8x512x2048 .f32) (ix3 b i k)
      = rel m c b i ⟨k.val / 4, by have := k.isLt; omega⟩ ⟨k.val % 4, by omega⟩ := by
  after_reads_at

/-- The blocks' places at each point of the first call. -/
theorem idx0 : ∀ t : Fin cfg0.N, win0_0.index t = ![t.val, 0, 0] ∧ win0_1.index t = ![t.val, 0, 0] :=
  (by decide +kernel : ∀ t : Fin grid0.N, _)

/-- The first call's points are the batch's rows. -/
def row (t : Fin cfg0.N) : Fin 8 := ⟨t.val, t.isLt⟩

/-- The first call's block at a point is the point's row of the relation. -/
theorem iblk0_apply (t : Fin cfg0.N) (i : Fin 512) (k : Fin 2048) :
    (iblk0 (V1 m ρ) c 0 t : Vec Ideal S1x512x2048 .f32) (ix3 0 i k)
      = (V1 m ρ c main_v0 : Vec Ideal S8x512x2048 .f32) (ix3 (row t) i k) := by
  blk_ext [iblk0, row, idx0 t]

/-- An index of a block of one column. -/
theorem column (y : S1x512x1.Idx) : ∃ i : Fin 512, y = ix3 0 i 0 := ⟨y 1, by
  refine (eq_ix3 y).trans ?_
  have h0 : y 0 = (0 : Fin 1) := Subsingleton.elim (α := Fin 1) _ _
  have h2 : y 2 = (0 : Fin 1) := Subsingleton.elim (α := Fin 1) _ _
  rw [h0, h2]⟩

/-- The flags' array, as the first call leaves it. -/
def flags : Vec Ideal S8x512x1 .f32 := fun j => ind (caus (rel m c (j 0)) (j 1))

theorem arr0 : (dat0 (V1 m ρ) c).arrAt 1 cfg0.N = flags m c := by
  refine (dat0 (V1 m ρ) c).arrAt_eq_of_covers 1 _ (by decide +kernel) fun t hf y => ?_
  blk_simp
  rw [after0_1]
  obtain ⟨i, hy⟩ : ∃ i : Fin 512, (y : S1x512x1.Idx) = ix3 0 i 0 := column y
  have he : (win0_1.blk t).view.emb y = ix3 (row t) i 0 := by
    rw [hy]
    blk_ext [row, idx0 t]
  rw [he, hy]
  refine (KCaus.out_apply _ (rel m c (row t)) (fun i k => ?_) i).trans rfl
  rw [iblk0_apply]
  exact v0_apply m ρ c _ _ _

/-- The blocks' places at the second call's one point. -/
theorem idx1 : ∀ t : Fin cfg1.N, win1_0.index t = ![0, 0, 0] ∧ win1_1.index t = ![0, 0, 0] ∧ win1_2.index t = ![0, 0, 0]
    ∧ win1_3.index t = ![0, 0] ∧ win1_4.index t = ![0, 0] ∧ win1_5.index t = ![0, 0] ∧ win1_6.index t = ![0, 0]
    ∧ win1_7.index t = ![0, 0] ∧ win1_8.index t = ![0, 0] ∧ win1_9.index t = ![0, 0] ∧ win1_10.index t = ![0, 0]
    ∧ win1_11.index t = ![0, 0] ∧ win1_12.index t = ![0, 0, 0] ∧ win1_13.index t = ![0, 0, 0] :=
  (by decide +kernel : ∀ t : Fin grid1.N, _)

theorem b0 (t : Fin cfg1.N) : iblk1 (V3 m ρ) c 0 t = V3 m ρ c main_v6 := by blk_ext! [iblk1, idx1 t]
theorem b1 (t : Fin cfg1.N) : iblk1 (V3 m ρ) c 1 t = V3 m ρ c main_v3 := by blk_ext! [iblk1, idx1 t]
theorem b2 (t : Fin cfg1.N) : iblk1 (V3 m ρ) c 2 t = V3 m ρ c main_v4 := by blk_ext! [iblk1, idx1 t]
theorem b3 (t : Fin cfg1.N) : iblk1 (V3 m ρ) c 3 t = V3 m ρ c main_arg3 := by blk_ext! [iblk1, idx1 t]
theorem b4 (t : Fin cfg1.N) : iblk1 (V3 m ρ) c 4 t = V3 m ρ c main_arg4 := by blk_ext! [iblk1, idx1 t]
theorem b5 (t : Fin cfg1.N) : iblk1 (V3 m ρ) c 5 t = V3 m ρ c main_v2 := by blk_ext! [iblk1, idx1 t]
theorem b6 (t : Fin cfg1.N) : iblk1 (V3 m ρ) c 6 t = V3 m ρ c main_v7 := by blk_ext! [iblk1, idx1 t]
theorem b7 (t : Fin cfg1.N) : iblk1 (V3 m ρ) c 7 t = V3 m ρ c main_v10 := by blk_ext! [iblk1, idx1 t]
theorem b8 (t : Fin cfg1.N) : iblk1 (V3 m ρ) c 8 t = V3 m ρ c main_v8 := by blk_ext! [iblk1, idx1 t]
theorem b9 (t : Fin cfg1.N) : iblk1 (V3 m ρ) c 9 t = V3 m ρ c main_v11 := by blk_ext! [iblk1, idx1 t]
theorem b10 (t : Fin cfg1.N) : iblk1 (V3 m ρ) c 10 t = V3 m ρ c main_v9 := by blk_ext! [iblk1, idx1 t]
theorem b11 (t : Fin cfg1.N) : iblk1 (V3 m ρ) c 11 t = V3 m ρ c main_v12 := by blk_ext! [iblk1, idx1 t]

/-- The second call's first result, of the arrays it is given. -/
theorem arr12 : (dat1 (V3 m ρ) c).arrAt 12 cfg1.N = out1_12 (V3 m ρ c main_v6) (V3 m ρ c main_v3) (V3 m ρ c main_v4)
    (V3 m ρ c main_arg3) (V3 m ρ c main_arg4) (V3 m ρ c main_v2) (V3 m ρ c main_v7) (V3 m ρ c main_v10)
    (V3 m ρ c main_v8) (V3 m ρ c main_v11) (V3 m ρ c main_v9) (V3 m ρ c main_v12) := by
  refine (dat1 (V3 m ρ) c).arrAt_eq_of_covers 12 _ (by decide +kernel) fun t hf y => ?_
  blk_simp
  rw [after1_12, b0, b1, b2, b3, b4, b5, b6, b7, b8, b9, b10, b11]
  have he : (win1_12.blk t).view.emb y = y := by blk_ext [idx1 t]
  rw [he]

/-- The second call's second result, of the arrays it is given. -/
theorem arr13 : (dat1 (V3 m ρ) c).arrAt 13 cfg1.N = out1_13 (V3 m ρ c main_v6) (V3 m ρ c main_v3) (V3 m ρ c main_v4)
    (V3 m ρ c main_arg3) (V3 m ρ c main_arg4) (V3 m ρ c main_v2) (V3 m ρ c main_v7) (V3 m ρ c main_v10)
    (V3 m ρ c main_v8) (V3 m ρ c main_v11) (V3 m ρ c main_v9) (V3 m ρ c main_v12) := by
  refine (dat1 (V3 m ρ) c).arrAt_eq_of_covers 13 _ (by decide +kernel) fun t hf y => ?_
  blk_simp
  rw [after1_13, b0, b1, b2, b3, b4, b5, b6, b7, b8, b9, b10, b11]
  have he : (win1_13.blk t).view.emb y = y := by blk_ext [idx1 t]
  rw [he]

theorem w2_v1 : W2 m ρ c (Proc.devRef .tc main_v1) = flags m c := (W2_arr m ρ c 1).trans (arr0 m ρ c)

/-- The flags as a table. -/
theorem v2_apply (b : Fin 8) (i : Fin 512) :
    (V3 m ρ c main_v2 : Vec Ideal S8x512 .f32) (ix2 b i) = ind (caus (rel m c b) i) := by
  unfold V3 W3
  after_reads_at
  rw [w2_v1]
  rfl

/-- The first kind, channels first. -/
theorem v3_apply (k : Fin 4) (b : Fin 8) (i : Fin 512) :
    (V3 m ρ c main_v3 : Vec Ideal S4x8x512 .f32) (ix3 k b i)
      = (m ((c : Thread nD τ).loc main_arg0) : Vec Ideal S8x512x4 .f32) (ix3 b i k) := by
  unfold V3 W3
  after_reads_at
  rw [W2_args m ρ c main_arg0 (by decide)]

/-- The second kind, channels first. -/
theorem v4_apply (k : Fin 4) (b : Fin 8) (i : Fin 512) :
    (V3 m ρ c main_v4 : Vec Ideal S4x8x512 .f32) (ix3 k b i)
      = (m ((c : Thread nD τ).loc main_arg1) : Vec Ideal S8x512x4 .f32) (ix3 b i k) := by
  unfold V3 W3
  after_reads_at
  rw [W2_args m ρ c main_arg1 (by decide)]

/-- Both kinds' channels one after the other, before the positions. -/
theorem v6_apply (b k : Fin 8) (i : Fin 512) :
    (V3 m ρ c main_v6 : Vec Ideal S8x8x512 .f32) (ix3 b k i)
      = both (fun k => (m ((c : Thread nD τ).loc main_arg0) : Vec Ideal S8x512x4 .f32) (ix3 b i k))
         (fun k => (m ((c : Thread nD τ).loc main_arg1) : Vec Ideal S8x512x4 .f32) (ix3 b i k)) k := by
  have e0 : StableHlo.upto hostOps1 (W2 m ρ c) 3 (Proc.devRef .tc main_arg0) = m ((c : Thread nD τ).loc main_arg0) := by
    after_reads_simp
    exact W2_args m ρ c main_arg0 (by decide)
  have e1 : StableHlo.upto hostOps1 (W2 m ρ c) 3 (Proc.devRef .tc main_arg1) = m ((c : Thread nD τ).loc main_arg1) := by
    after_reads_simp
    exact W2_args m ρ c main_arg1 (by decide)
  unfold V3 W3
  after_reads_at
  rw [e0, e1]
  rfl

/-- The first layer, transposed. -/
theorem v7_apply (l : Fin 32) (k : Fin 8) :
    (V3 m ρ c main_v7 : Vec Ideal S32x8 .f32) (ix2 l k)
      = (m ((c : Thread nD τ).loc main_arg5) : Vec Ideal S8x32 .f32) (ix2 k l) := by
  unfold V3 W3
  after_reads_at
  rw [W2_args m ρ c main_arg5 (by decide)]

/-- The second layer, transposed. -/
theorem v8_apply (k : Fin 16) (l : Fin 32) :
    (V3 m ρ c main_v8 : Vec Ideal S16x32 .f32) (ix2 k l)
      = (m ((c : Thread nD τ).loc main_arg7) : Vec Ideal S32x16 .f32) (ix2 l k) := by
  unfold V3 W3
  after_reads_at
  rw [W2_args m ρ c main_arg7 (by decide)]

/-- The third layer, transposed. -/
theorem v9_apply (k : Fin 16) :
    (V3 m ρ c main_v9 : Vec Ideal S1x16 .f32) (ix2 0 k)
      = (m ((c : Thread nD τ).loc main_arg9) : Vec Ideal S16x1 .f32) (ix2 k 0) := by
  unfold V3 W3
  after_reads_at
  rw [W2_args m ρ c main_arg9 (by decide)]

/-- The first layer's constants, as a column. -/
theorem v10_apply (l : Fin 32) :
    (V3 m ρ c main_v10 : Vec Ideal S32x1 .f32) (ix2 l 0)
      = (m ((c : Thread nD τ).loc main_arg6) : Vec Ideal S32 .f32) (ix1 l) := by
  unfold V3 W3
  after_reads_at
  rw [W2_args m ρ c main_arg6 (by decide)]

/-- The second layer's constants, as a column. -/
theorem v11_apply (k : Fin 16) :
    (V3 m ρ c main_v11 : Vec Ideal S16x1 .f32) (ix2 k 0)
      = (m ((c : Thread nD τ).loc main_arg8) : Vec Ideal S16 .f32) (ix1 k) := by
  unfold V3 W3
  after_reads_at
  rw [W2_args m ρ c main_arg8 (by decide)]

/-- The third layer's constant. -/
theorem v12_apply  :
    (V3 m ρ c main_v12 : Vec Ideal S1x1 .f32) (ix2 0 0)
      = (m ((c : Thread nD τ).loc main_arg10) : Vec Ideal S1 .f32) (ix1 0) := by
  unfold V3 W3
  after_reads_at
  rw [W2_args m ρ c main_arg10 (by decide)]

/-- The recursion's data, of the arguments as launched. -/
abbrev data : Ctx := ctx (fun b i k => (m ((c : Thread nD τ).loc main_arg0) : Vec Ideal S8x512x4 .f32) (ix3 b i k))
  (fun b i k => (m ((c : Thread nD τ).loc main_arg1) : Vec Ideal S8x512x4 .f32) (ix3 b i k)) (rel m c)
  (fun b i => (m ((c : Thread nD τ).loc main_arg3) : Vec Ideal S8x512 .i32) (ix2 b i))
  (fun b i => (m ((c : Thread nD τ).loc main_arg4) : Vec Ideal S8x512 .i32) (ix2 b i))
  (fun k l => (m ((c : Thread nD τ).loc main_arg5) : Vec Ideal S8x32 .f32) (ix2 k l))
  (fun l => (m ((c : Thread nD τ).loc main_arg6) : Vec Ideal S32 .f32) (ix1 l))
  (fun l k => (m ((c : Thread nD τ).loc main_arg7) : Vec Ideal S32x16 .f32) (ix2 l k))
  (fun k => (m ((c : Thread nD τ).loc main_arg8) : Vec Ideal S16 .f32) (ix1 k))
  (fun k => (m ((c : Thread nD τ).loc main_arg9) : Vec Ideal S16x1 .f32) (ix2 k 0))
  ((m ((c : Thread nD τ).loc main_arg10) : Vec Ideal S1 .f32) (ix1 0))

/-- The second call is given the recursion's data. -/
theorem ins : KPrep.Ins (fun b i k => (m ((c : Thread nD τ).loc main_arg0) : Vec Ideal S8x512x4 .f32) (ix3 b i k))
    (fun b i k => (m ((c : Thread nD τ).loc main_arg1) : Vec Ideal S8x512x4 .f32) (ix3 b i k)) (rel m c)
    (fun b i => (m ((c : Thread nD τ).loc main_arg3) : Vec Ideal S8x512 .i32) (ix2 b i))
    (fun b i => (m ((c : Thread nD τ).loc main_arg4) : Vec Ideal S8x512 .i32) (ix2 b i))
    (fun k l => (m ((c : Thread nD τ).loc main_arg5) : Vec Ideal S8x32 .f32) (ix2 k l))
    (fun l => (m ((c : Thread nD τ).loc main_arg6) : Vec Ideal S32 .f32) (ix1 l))
    (fun l k => (m ((c : Thread nD τ).loc main_arg7) : Vec Ideal S32x16 .f32) (ix2 l k))
    (fun k => (m ((c : Thread nD τ).loc main_arg8) : Vec Ideal S16 .f32) (ix1 k))
    (fun k => (m ((c : Thread nD τ).loc main_arg9) : Vec Ideal S16x1 .f32) (ix2 k 0))
    ((m ((c : Thread nD τ).loc main_arg10) : Vec Ideal S1 .f32) (ix1 0))
    (V3 m ρ c main_v6) (V3 m ρ c main_v3) (V3 m ρ c main_v4) (V3 m ρ c main_arg3) (V3 m ρ c main_arg4) (V3 m ρ c main_v2)
    (V3 m ρ c main_v7) (V3 m ρ c main_v10) (V3 m ρ c main_v8) (V3 m ρ c main_v11) (V3 m ρ c main_v9) (V3 m ρ c main_v12) :=
  { h0 := fun b k i => v6_apply m ρ c b k i
    h1 := fun k b i => v3_apply m ρ c k b i
    h2 := fun k b i => v4_apply m ρ c k b i
    h3 := fun b i => congrFun (W3_args m ρ c main_arg3 (by decide)) (ix2 b i)
    h4 := fun b i => congrFun (W3_args m ρ c main_arg4 (by decide)) (ix2 b i)
    h5 := fun b i => v2_apply m ρ c b i
    h6 := fun l k => v7_apply m ρ c l k
    h7 := fun l => v10_apply m ρ c l
    h8 := fun k l => v8_apply m ρ c k l
    h9 := fun k => v11_apply m ρ c k
    h10 := fun k => v9_apply m ρ c k
    h11 := v12_apply m ρ c }

/-- The first result. -/
theorem res0_apply (b : Fin 8) (i : Fin 512) (k : Fin 4) :
    (W5 m ρ c (Proc.devRef .tc main_v14) : Vec Ideal S8x512x4 .f32) (ix3 b i k)
      = outA (data m c) (act (data m c) b i.val) b i k := by
  have e : W4 m ρ c (Proc.devRef .tc main_v13_0) = _ := (W4_arr m ρ c 12).trans (arr12 m ρ c)
  unfold W5
  after_reads_at
  rw [e]
  exact KOut.out12_apply (KPrep.reads (ins m ρ c)) k b i

/-- The second result. -/
theorem res1_apply (b : Fin 8) (i : Fin 512) (k : Fin 4) :
    (W5 m ρ c (Proc.devRef .tc main_v15) : Vec Ideal S8x512x4 .f32) (ix3 b i k)
      = outO (data m c) (act (data m c) b i.val) b i k := by
  have e : W4 m ρ c (Proc.devRef .tc main_v13_1) = _ := (W4_arr m ρ c 13).trans (arr13 m ρ c)
  unfold W5
  after_reads_at
  rw [e]
  exact KOut.out13_apply (KPrep.reads (ins m ρ c)) k b i

end Cert.KVals

end
-- ==== Proof.KRun.lean ====
/- The kernel's run: it ends with its two results at the contents after the last host stretch, its arguments as launched. -/
module

public import proofs.«01_k».proof.Proof.Gen.KernelIdeal.Frame

@[expose] public section

set_option maxRecDepth 16384

noncomputable section

namespace Cert.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run lemma's implicit arguments are found by unifying its conclusion with this one, which unfolds plain definitions
set_option backward.isDefEq.respectTransparency.types false in
/-- The run with its results: the segments' run as for the frame, every buffer read at the last boundary's contents. -/
theorem run : θ_run defs (onTc (τ := τ) (main (F := F))) ⟨m, fun _ => 0, ρ⟩ (fun r => ∀ c : Dev nD,
      r.2.mem ((c.tc : Thread nD τ).loc main_v14) = W5 m ρ c (Proc.devRef .tc main_v14)
      ∧ r.2.mem ((c.tc : Thread nD τ).loc main_v15) = W5 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v14 (by decide)), h c _ (mem_uc main_v15 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KRun

end
-- ==== Proof.RefTrip.lean ====
/- One trip of the reference's loop as a function of a state: the values before the loop (`A_…` of the arguments,
   `K_…` of none), the trip's values `b0` to `b138` one after the other, and the step from state to state. The text
   follows the generated module of the same content, whose last two lemmas are proved here by simplification. -/
module

public import proofs.«01_k».proof.ReferenceIdeal
public import proofs.«01_k».proof.Proof.Gen.ReferenceIdeal

@[expose] public section

noncomputable section

namespace Cert.ReferenceIdeal.Step

open Idealize.ShloMosaic Cert.ReferenceIdeal Cert.ReferenceIdeal.Gen

variable {F : FTy → Type} [FloatOps F]

/-- What a trip hands the next. -/
structure State (F : FTy → Type) [FloatOps F] where
  main_v126_9 : (⟨S8x512x4, .f32⟩ : BufTy).Contents (Elt F)
  main_v126_10 : (⟨S8x512x4, .f32⟩ : BufTy).Contents (Elt F)
  main_v126_1 : (⟨S512x8x4, .f32⟩ : BufTy).Contents (Elt F)
  main_v126_2 : (⟨S512x8x4, .f32⟩ : BufTy).Contents (Elt F)
  main_v126_3 : (⟨S512x8, .f32⟩ : BufTy).Contents (Elt F)
  main_v126_4 : (⟨S512x8, .i1⟩ : BufTy).Contents (Elt F)
  main_v126_5 : (⟨S512x8, .i1⟩ : BufTy).Contents (Elt F)
  main_v126_6 : (⟨S512x8, .i1⟩ : BufTy).Contents (Elt F)

/-! What @main computes before the loop without reading an argument. -/

def K_main_call0_cst : (⟨S_, .f32⟩ : BufTy).Contents (Elt F) := constant S_ .f32 0x00000000#32
def K_main_call0_v0 : (⟨S8x512x32, .f32⟩ : BufTy).Contents (Elt F) := broadcastInDim S8x512x32 ![] bcast_S_S8x512x32 ((K_main_call0_cst (F := F)))
def K_main_call1_cst : (⟨S_, .f32⟩ : BufTy).Contents (Elt F) := constant S_ .f32 0x00000000#32
def K_main_call1_v0 : (⟨S8x512x16, .f32⟩ : BufTy).Contents (Elt F) := broadcastInDim S8x512x16 ![] bcast_S_S8x512x16 ((K_main_call1_cst (F := F)))
def K_main_cst : (⟨S_, .f32⟩ : BufTy).Contents (Elt F) := constant S_ .f32 0x3F800000#32
def K_main_v17 : (⟨S8x512x1, .f32⟩ : BufTy).Contents (Elt F) := broadcastInDim S8x512x1 ![] bcast_S_S8x512x1 ((K_main_cst (F := F)))
def K_main_cst_0 : (⟨S_, .f32⟩ : BufTy).Contents (Elt F) := constant S_ .f32 0x3F800000#32
def K_main_v19 : (⟨S8x512x1, .f32⟩ : BufTy).Contents (Elt F) := broadcastInDim S8x512x1 ![] bcast_S_S8x512x1 ((K_main_cst_0 (F := F)))
def K_main_cst_1 : (⟨S_, .f32⟩ : BufTy).Contents (Elt F) := constant S_ .f32 0x3F000000#32
def K_main_v22 : (⟨S8x512, .f32⟩ : BufTy).Contents (Elt F) := broadcastInDim S8x512 ![] bcast_S_S8x512 ((K_main_cst_1 (F := F)))
def K_main_cst_2 : (⟨S_, .f32⟩ : BufTy).Contents (Elt F) := constant S_ .f32 0x40000000#32
def K_main_v24 : (⟨S8x512, .f32⟩ : BufTy).Contents (Elt F) := broadcastInDim S8x512 ![] bcast_S_S8x512 ((K_main_cst_2 (F := F)))
def K_main_cst_3 : (⟨S_, .f32⟩ : BufTy).Contents (Elt F) := constant S_ .f32 0x3F800000#32
def K_main_call2_v0 : (⟨S_, .f32⟩ : BufTy).Contents (Elt F) := id ((K_main_cst_3 (F := F)))
def K_main_call2_v1 : (⟨S8x512, .f32⟩ : BufTy).Contents (Elt F) := broadcastInDim S8x512 ![] bcast_S_S8x512 ((K_main_call2_v0 (F := F)))
def K_main_c : (⟨S_, .i32⟩ : BufTy).Contents (Elt F) := constantI S_ 32 0#32
def K_main_v27 : (⟨S8x512, .i32⟩ : BufTy).Contents (Elt F) := broadcastInDim S8x512 ![] bcast_S_S8x512 ((K_main_c (F := F)))
def K_main_c_4 : (⟨S_, .i32⟩ : BufTy).Contents (Elt F) := constantI S_ 32 0#32
def K_main_call3_c : (⟨S_, .i32⟩ : BufTy).Contents (Elt F) := constantI S_ 32 0#32
def K_main_call3_v0 : (⟨S_, .i32⟩ : BufTy).Contents (Elt F) := broadcastInDim S_ ![] bcast_S_S_ ((K_main_call3_c (F := F)))
def K_main_call3_v1 : (⟨S_, .i1⟩ : BufTy).Contents (Elt F) := cmpi .ne ((K_main_c_4 (F := F))) ((K_main_call3_v0 (F := F)))
def K_main_call3_v2 : (⟨S_, .i1⟩ : BufTy).Contents (Elt F) := id ((K_main_call3_v1 (F := F)))
def K_main_c_5 : (⟨S_, .i1⟩ : BufTy).Contents (Elt F) := constantI S_ 1 0#1
def K_main_v30 : (⟨S8x512, .i1⟩ : BufTy).Contents (Elt F) := broadcastInDim S8x512 ![] bcast_S_S8x512 ((K_main_c_5 (F := F)))
def K_main_c_6 : (⟨S_, .i32⟩ : BufTy).Contents (Elt F) := constantI S_ 32 0#32
def K_main_v45 : (⟨S8x512, .i32⟩ : BufTy).Contents (Elt F) := broadcastInDim S8x512 ![] bcast_S_S8x512 ((K_main_c_6 (F := F)))
def K_main_c_7 : (⟨S_, .i32⟩ : BufTy).Contents (Elt F) := constantI S_ 32 0#32
def K_main_call4_c : (⟨S_, .i32⟩ : BufTy).Contents (Elt F) := constantI S_ 32 0#32
def K_main_call4_v0 : (⟨S_, .i32⟩ : BufTy).Contents (Elt F) := broadcastInDim S_ ![] bcast_S_S_ ((K_main_call4_c (F := F)))
def K_main_call4_v1 : (⟨S_, .i1⟩ : BufTy).Contents (Elt F) := cmpi .ne ((K_main_c_7 (F := F))) ((K_main_call4_v0 (F := F)))
def K_main_call4_v2 : (⟨S_, .i1⟩ : BufTy).Contents (Elt F) := id ((K_main_call4_v1 (F := F)))
def K_main_c_8 : (⟨S_, .i1⟩ : BufTy).Contents (Elt F) := constantI S_ 1 0#1
def K_main_v48 : (⟨S8x512, .i1⟩ : BufTy).Contents (Elt F) := broadcastInDim S8x512 ![] bcast_S_S8x512 ((K_main_c_8 (F := F)))
def K_main_cst_9 : (⟨S_, .f32⟩ : BufTy).Contents (Elt F) := constant S_ .f32 0xFF800000#32
def K_main_cst_10 : (⟨S_, .f32⟩ : BufTy).Contents (Elt F) := constant S_ .f32 0xFF800000#32
def K_main_v64 : (⟨S8x512, .f32⟩ : BufTy).Contents (Elt F) := broadcastInDim S8x512 ![] bcast_S_S8x512 ((K_main_cst_10 (F := F)))
def K_main_cst_11 : (⟨S_, .f32⟩ : BufTy).Contents (Elt F) := constant S_ .f32 0x00000000#32
def K_main_cst_12 : (⟨S_, .f32⟩ : BufTy).Contents (Elt F) := constant S_ .f32 0x00000000#32
def K_main_cst_13 : (⟨S_, .f32⟩ : BufTy).Contents (Elt F) := constant S_ .f32 0x3F000000#32
def K_main_v76 : (⟨S8x512, .f32⟩ : BufTy).Contents (Elt F) := broadcastInDim S8x512 ![] bcast_S_S8x512 ((K_main_cst_13 (F := F)))
def K_main_cst_14 : (⟨S_, .f32⟩ : BufTy).Contents (Elt F) := constant S_ .f32 0xFF800000#32
def K_main_cst_15 : (⟨S_, .f32⟩ : BufTy).Contents (Elt F) := constant S_ .f32 0xFF800000#32
def K_main_v79 : (⟨S8x512, .f32⟩ : BufTy).Contents (Elt F) := broadcastInDim S8x512 ![] bcast_S_S8x512 ((K_main_cst_15 (F := F)))
def K_main_cst_16 : (⟨S_, .f32⟩ : BufTy).Contents (Elt F) := constant S_ .f32 0x00000000#32
def K_main_cst_17 : (⟨S_, .f32⟩ : BufTy).Contents (Elt F) := constant S_ .f32 0x00000000#32
def K_main_cst_18 : (⟨S_, .f32⟩ : BufTy).Contents (Elt F) := constant S_ .f32 0x3F000000#32
def K_main_v91 : (⟨S8x512, .f32⟩ : BufTy).Contents (Elt F) := broadcastInDim S8x512 ![] bcast_S_S8x512 ((K_main_cst_18 (F := F)))
def K_main_cst_19 : (⟨S_, .f32⟩ : BufTy).Contents (Elt F) := constant S_ .f32 0x3F000000#32
def K_main_v97 : (⟨S8x512x512x4, .f32⟩ : BufTy).Contents (Elt F) := broadcastInDim S8x512x512x4 ![] bcast_S_S8x512x512x4 ((K_main_cst_19 (F := F)))
def K_main_c_20 : (⟨S_, .i1⟩ : BufTy).Contents (Elt F) := constantI S_ 1 0#1
def K_main_v100 : (⟨S512, .i32⟩ : BufTy).Contents (Elt F) := iotaInDim S512 32 0
def K_main_v101 : (⟨S1x512, .i32⟩ : BufTy).Contents (Elt F) := broadcastInDim S1x512 ![1] bcast_S512_S1x512_1 ((K_main_v100 (F := F)))
def K_main_v102 : (⟨S512, .i32⟩ : BufTy).Contents (Elt F) := iotaInDim S512 32 0
def K_main_v103 : (⟨S512x1, .i32⟩ : BufTy).Contents (Elt F) := broadcastInDim S512x1 ![0] bcast_S512_S512x1_0 ((K_main_v102 (F := F)))
def K_main_v104 : (⟨S512x512, .i32⟩ : BufTy).Contents (Elt F) := broadcastInDim S512x512 ![0, 1] bcast_S1x512_S512x512_0_1 ((K_main_v101 (F := F)))
def K_main_v105 : (⟨S512x512, .i32⟩ : BufTy).Contents (Elt F) := broadcastInDim S512x512 ![0, 1] bcast_S512x1_S512x512_0_1 ((K_main_v103 (F := F)))
def K_main_v106 : (⟨S512x512, .i1⟩ : BufTy).Contents (Elt F) := cmpi .slt ((K_main_v104 (F := F))) ((K_main_v105 (F := F)))
def K_main_v107 : (⟨S1x512x512, .i1⟩ : BufTy).Contents (Elt F) := broadcastInDim S1x512x512 ![1, 2] bcast_S512x512_S1x512x512_1_2 ((K_main_v106 (F := F)))
def K_main_v108 : (⟨S8x512x512, .i1⟩ : BufTy).Contents (Elt F) := broadcastInDim S8x512x512 ![0, 1, 2] bcast_S1x512x512_S8x512x512_0_1_2 ((K_main_v107 (F := F)))
def K_main_c_21 : (⟨S_, .i1⟩ : BufTy).Contents (Elt F) := constantI S_ 1 0#1
def K_main_v111 : (⟨S4, .i32⟩ : BufTy).Contents (Elt F) := iotaInDim S4 32 0
def K_main_c_22 : (⟨S_, .i32⟩ : BufTy).Contents (Elt F) := constantI S_ 32 2#32
def K_main_v112 : (⟨S4, .i32⟩ : BufTy).Contents (Elt F) := broadcastInDim S4 ![] bcast_S_S4 ((K_main_c_22 (F := F)))
def K_main_v113 : (⟨S4, .i1⟩ : BufTy).Contents (Elt F) := cmpi .slt ((K_main_v111 (F := F))) ((K_main_v112 (F := F)))
def K_main_c_23 : (⟨S_, .i32⟩ : BufTy).Contents (Elt F) := constantI S_ 32 2#32
def K_main_v114 : (⟨S4, .i32⟩ : BufTy).Contents (Elt F) := broadcastInDim S4 ![] bcast_S_S4 ((K_main_c_23 (F := F)))
def K_main_v115 : (⟨S4, .i32⟩ : BufTy).Contents (Elt F) := subi ((K_main_v111 (F := F))) ((K_main_v114 (F := F)))
def K_main_c_24 : (⟨S_, .i32⟩ : BufTy).Contents (Elt F) := constantI S_ 32 1#32
def K_main_v116 : (⟨S4, .i32⟩ : BufTy).Contents (Elt F) := broadcastInDim S4 ![] bcast_S_S4 ((K_main_c_24 (F := F)))
def K_main_v117 : (⟨S4, .i32⟩ : BufTy).Contents (Elt F) := subi ((K_main_v111 (F := F))) ((K_main_v116 (F := F)))
def K_main_v118 : (⟨S4, .i32⟩ : BufTy).Contents (Elt F) := select ((K_main_v113 (F := F))) ((K_main_v115 (F := F))) ((K_main_v117 (F := F)))
def K_main_v119 : (⟨S512, .i32⟩ : BufTy).Contents (Elt F) := iotaInDim S512 32 0
def K_main_c_25 : (⟨S_, .i32⟩ : BufTy).Contents (Elt F) := constantI S_ 32 0#32

/-! What @main computes before the loop from its arguments, as functions of them. -/

def A_main_v0 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x8, .f32⟩ : BufTy).Contents (Elt F) := concatenate S8x512x8 2 [⟨S8x512x4, (main_arg0)⟩, ⟨S8x512x4, (main_arg1)⟩] concatenates_S8x512x4_S8x512x4_S8x512x8_d2
def A_main_v1 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x32, .f32⟩ : BufTy).Contents (Elt F) := Host.dotGeneral dot_S8x512x8_S8x32_S8x512x32_2_0_01_1_n_n none ((A_main_v0 main_arg0 main_arg1 main_arg2 main_arg3 main_arg4 main_arg5 main_arg6 main_arg7 main_arg8 main_arg9 main_arg10)) (main_arg5)
def A_main_v2 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S1x1x32, .f32⟩ : BufTy).Contents (Elt F) := broadcastInDim S1x1x32 ![2] bcast_S32_S1x1x32_2 (main_arg6)
def A_main_v3 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x32, .f32⟩ : BufTy).Contents (Elt F) := broadcastInDim S8x512x32 ![0, 1, 2] bcast_S1x1x32_S8x512x32_0_1_2 ((A_main_v2 main_arg0 main_arg1 main_arg2 main_arg3 main_arg4 main_arg5 main_arg6 main_arg7 main_arg8 main_arg9 main_arg10))
def A_main_v4 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x32, .f32⟩ : BufTy).Contents (Elt F) := addf ((A_main_v1 main_arg0 main_arg1 main_arg2 main_arg3 main_arg4 main_arg5 main_arg6 main_arg7 main_arg8 main_arg9 main_arg10)) ((A_main_v3 main_arg0 main_arg1 main_arg2 main_arg3 main_arg4 main_arg5 main_arg6 main_arg7 main_arg8 main_arg9 main_arg10))
def A_main_v5 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x32, .f32⟩ : BufTy).Contents (Elt F) := maximumf ((A_main_v4 main_arg0 main_arg1 main_arg2 main_arg3 main_arg4 main_arg5 main_arg6 main_arg7 main_arg8 main_arg9 main_arg10)) ((K_main_call0_v0 (F := F)))
def A_main_v6 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x16, .f32⟩ : BufTy).Contents (Elt F) := Host.dotGeneral dot_S8x512x32_S32x16_S8x512x16_2_0_01_1_n_n none ((A_main_v5 main_arg0 main_arg1 main_arg2 main_arg3 main_arg4 main_arg5 main_arg6 main_arg7 main_arg8 main_arg9 main_arg10)) (main_arg7)
def A_main_v7 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S1x1x16, .f32⟩ : BufTy).Contents (Elt F) := broadcastInDim S1x1x16 ![2] bcast_S16_S1x1x16_2 (main_arg8)
def A_main_v8 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x16, .f32⟩ : BufTy).Contents (Elt F) := broadcastInDim S8x512x16 ![0, 1, 2] bcast_S1x1x16_S8x512x16_0_1_2 ((A_main_v7 main_arg0 main_arg1 main_arg2 main_arg3 main_arg4 main_arg5 main_arg6 main_arg7 main_arg8 main_arg9 main_arg10))
def A_main_v9 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x16, .f32⟩ : BufTy).Contents (Elt F) := addf ((A_main_v6 main_arg0 main_arg1 main_arg2 main_arg3 main_arg4 main_arg5 main_arg6 main_arg7 main_arg8 main_arg9 main_arg10)) ((A_main_v8 main_arg0 main_arg1 main_arg2 main_arg3 main_arg4 main_arg5 main_arg6 main_arg7 main_arg8 main_arg9 main_arg10))
def A_main_v10 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x16, .f32⟩ : BufTy).Contents (Elt F) := maximumf ((A_main_v9 main_arg0 main_arg1 main_arg2 main_arg3 main_arg4 main_arg5 main_arg6 main_arg7 main_arg8 main_arg9 main_arg10)) ((K_main_call1_v0 (F := F)))
def A_main_v11 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x1, .f32⟩ : BufTy).Contents (Elt F) := Host.dotGeneral dot_S8x512x16_S16x1_S8x512x1_2_0_01_1_n_n none ((A_main_v10 main_arg0 main_arg1 main_arg2 main_arg3 main_arg4 main_arg5 main_arg6 main_arg7 main_arg8 main_arg9 main_arg10)) (main_arg9)
def A_main_v12 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S1x1x1, .f32⟩ : BufTy).Contents (Elt F) := broadcastInDim S1x1x1 ![2] bcast_S1_S1x1x1_2 (main_arg10)
def A_main_v13 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x1, .f32⟩ : BufTy).Contents (Elt F) := broadcastInDim S8x512x1 ![0, 1, 2] bcast_S1x1x1_S8x512x1_0_1_2 ((A_main_v12 main_arg0 main_arg1 main_arg2 main_arg3 main_arg4 main_arg5 main_arg6 main_arg7 main_arg8 main_arg9 main_arg10))
def A_main_v14 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x1, .f32⟩ : BufTy).Contents (Elt F) := addf ((A_main_v11 main_arg0 main_arg1 main_arg2 main_arg3 main_arg4 main_arg5 main_arg6 main_arg7 main_arg8 main_arg9 main_arg10)) ((A_main_v13 main_arg0 main_arg1 main_arg2 main_arg3 main_arg4 main_arg5 main_arg6 main_arg7 main_arg8 main_arg9 main_arg10))
def A_main_v15 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x1, .f32⟩ : BufTy).Contents (Elt F) := Host.negf ((A_main_v14 main_arg0 main_arg1 main_arg2 main_arg3 main_arg4 main_arg5 main_arg6 main_arg7 main_arg8 main_arg9 main_arg10))
def A_main_v16 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x1, .f32⟩ : BufTy).Contents (Elt F) := Host.exp ((A_main_v15 main_arg0 main_arg1 main_arg2 main_arg3 main_arg4 main_arg5 main_arg6 main_arg7 main_arg8 main_arg9 main_arg10))
def A_main_v18 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x1, .f32⟩ : BufTy).Contents (Elt F) := addf ((K_main_v17 (F := F))) ((A_main_v16 main_arg0 main_arg1 main_arg2 main_arg3 main_arg4 main_arg5 main_arg6 main_arg7 main_arg8 main_arg9 main_arg10))
def A_main_v20 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x1, .f32⟩ : BufTy).Contents (Elt F) := Host.divf ((K_main_v19 (F := F))) ((A_main_v18 main_arg0 main_arg1 main_arg2 main_arg3 main_arg4 main_arg5 main_arg6 main_arg7 main_arg8 main_arg9 main_arg10))
def A_main_v21 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .f32⟩ : BufTy).Contents (Elt F) := shapeCast _ ((A_main_v20 main_arg0 main_arg1 main_arg2 main_arg3 main_arg4 main_arg5 main_arg6 main_arg7 main_arg8 main_arg9 main_arg10)) shapeCasts_S8x512x1_S8x512
def A_main_v23 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := cmpf .olt ((A_main_v21 main_arg0 main_arg1 main_arg2 main_arg3 main_arg4 main_arg5 main_arg6 main_arg7 main_arg8 main_arg9 main_arg10)) ((K_main_v22 (F := F)))
def A_main_v25 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .f32⟩ : BufTy).Contents (Elt F) := mulf ((K_main_v24 (F := F))) ((A_main_v21 main_arg0 main_arg1 main_arg2 main_arg3 main_arg4 main_arg5 main_arg6 main_arg7 main_arg8 main_arg9 main_arg10))
def A_main_v26 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .f32⟩ : BufTy).Contents (Elt F) := select ((A_main_v23 main_arg0 main_arg1 main_arg2 main_arg3 main_arg4 main_arg5 main_arg6 main_arg7 main_arg8 main_arg9 main_arg10)) ((A_main_v25 main_arg0 main_arg1 main_arg2 main_arg3 main_arg4 main_arg5 main_arg6 main_arg7 main_arg8 main_arg9 main_arg10)) ((K_main_call2_v1 (F := F)))
def A_main_v28 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := cmpi .sgt (main_arg4) ((K_main_v27 (F := F)))
def A_main_v29 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x518, .i1⟩ : BufTy).Contents (Elt F) := pad S8x518 ![0, 3] ![0, 3] ![0, 0] ((A_main_v28 main_arg0 main_arg1 main_arg2 main_arg3 main_arg4 main_arg5 main_arg6 main_arg7 main_arg8 main_arg9 main_arg10)) ((K_main_call3_v2 (F := F))) pads_S8x512_S8x518_000_330 h_S_
def A_main_v31 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := extractStridedSlice S8x512 ![0, 0] ((A_main_v29 main_arg0 main_arg1 main_arg2 main_arg3 main_arg4 main_arg5 main_arg6 main_arg7 main_arg8 main_arg9 main_arg10)) slices_S8x518_S8x512_0_0
def A_main_v32 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := ori ((K_main_v30 (F := F))) ((A_main_v31 main_arg0 main_arg1 main_arg2 main_arg3 main_arg4 main_arg5 main_arg6 main_arg7 main_arg8 main_arg9 main_arg10))
def A_main_v33 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := extractStridedSlice S8x512 ![0, 1] ((A_main_v29 main_arg0 main_arg1 main_arg2 main_arg3 main_arg4 main_arg5 main_arg6 main_arg7 main_arg8 main_arg9 main_arg10)) slices_S8x518_S8x512_0_1
def A_main_v34 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := ori ((A_main_v32 main_arg0 main_arg1 main_arg2 main_arg3 main_arg4 main_arg5 main_arg6 main_arg7 main_arg8 main_arg9 main_arg10)) ((A_main_v33 main_arg0 main_arg1 main_arg2 main_arg3 main_arg4 main_arg5 main_arg6 main_arg7 main_arg8 main_arg9 main_arg10))
def A_main_v35 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := extractStridedSlice S8x512 ![0, 2] ((A_main_v29 main_arg0 main_arg1 main_arg2 main_arg3 main_arg4 main_arg5 main_arg6 main_arg7 main_arg8 main_arg9 main_arg10)) slices_S8x518_S8x512_0_2
def A_main_v36 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := ori ((A_main_v34 main_arg0 main_arg1 main_arg2 main_arg3 main_arg4 main_arg5 main_arg6 main_arg7 main_arg8 main_arg9 main_arg10)) ((A_main_v35 main_arg0 main_arg1 main_arg2 main_arg3 main_arg4 main_arg5 main_arg6 main_arg7 main_arg8 main_arg9 main_arg10))
def A_main_v37 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := extractStridedSlice S8x512 ![0, 3] ((A_main_v29 main_arg0 main_arg1 main_arg2 main_arg3 main_arg4 main_arg5 main_arg6 main_arg7 main_arg8 main_arg9 main_arg10)) slices_S8x518_S8x512_0_3
def A_main_v38 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := ori ((A_main_v36 main_arg0 main_arg1 main_arg2 main_arg3 main_arg4 main_arg5 main_arg6 main_arg7 main_arg8 main_arg9 main_arg10)) ((A_main_v37 main_arg0 main_arg1 main_arg2 main_arg3 main_arg4 main_arg5 main_arg6 main_arg7 main_arg8 main_arg9 main_arg10))
def A_main_v39 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := extractStridedSlice S8x512 ![0, 4] ((A_main_v29 main_arg0 main_arg1 main_arg2 main_arg3 main_arg4 main_arg5 main_arg6 main_arg7 main_arg8 main_arg9 main_arg10)) slices_S8x518_S8x512_0_4
def A_main_v40 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := ori ((A_main_v38 main_arg0 main_arg1 main_arg2 main_arg3 main_arg4 main_arg5 main_arg6 main_arg7 main_arg8 main_arg9 main_arg10)) ((A_main_v39 main_arg0 main_arg1 main_arg2 main_arg3 main_arg4 main_arg5 main_arg6 main_arg7 main_arg8 main_arg9 main_arg10))
def A_main_v41 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := extractStridedSlice S8x512 ![0, 5] ((A_main_v29 main_arg0 main_arg1 main_arg2 main_arg3 main_arg4 main_arg5 main_arg6 main_arg7 main_arg8 main_arg9 main_arg10)) slices_S8x518_S8x512_0_5
def A_main_v42 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := ori ((A_main_v40 main_arg0 main_arg1 main_arg2 main_arg3 main_arg4 main_arg5 main_arg6 main_arg7 main_arg8 main_arg9 main_arg10)) ((A_main_v41 main_arg0 main_arg1 main_arg2 main_arg3 main_arg4 main_arg5 main_arg6 main_arg7 main_arg8 main_arg9 main_arg10))
def A_main_v43 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := extractStridedSlice S8x512 ![0, 6] ((A_main_v29 main_arg0 main_arg1 main_arg2 main_arg3 main_arg4 main_arg5 main_arg6 main_arg7 main_arg8 main_arg9 main_arg10)) slices_S8x518_S8x512_0_6
def A_main_v44 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := ori ((A_main_v42 main_arg0 main_arg1 main_arg2 main_arg3 main_arg4 main_arg5 main_arg6 main_arg7 main_arg8 main_arg9 main_arg10)) ((A_main_v43 main_arg0 main_arg1 main_arg2 main_arg3 main_arg4 main_arg5 main_arg6 main_arg7 main_arg8 main_arg9 main_arg10))
def A_main_v46 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := cmpi .sgt (main_arg3) ((K_main_v45 (F := F)))
def A_main_v47 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x518, .i1⟩ : BufTy).Contents (Elt F) := pad S8x518 ![0, 3] ![0, 3] ![0, 0] ((A_main_v46 main_arg0 main_arg1 main_arg2 main_arg3 main_arg4 main_arg5 main_arg6 main_arg7 main_arg8 main_arg9 main_arg10)) ((K_main_call4_v2 (F := F))) pads_S8x512_S8x518_000_330 h_S_
def A_main_v49 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := extractStridedSlice S8x512 ![0, 0] ((A_main_v47 main_arg0 main_arg1 main_arg2 main_arg3 main_arg4 main_arg5 main_arg6 main_arg7 main_arg8 main_arg9 main_arg10)) slices_S8x518_S8x512_0_0
def A_main_v50 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := ori ((K_main_v48 (F := F))) ((A_main_v49 main_arg0 main_arg1 main_arg2 main_arg3 main_arg4 main_arg5 main_arg6 main_arg7 main_arg8 main_arg9 main_arg10))
def A_main_v51 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := extractStridedSlice S8x512 ![0, 1] ((A_main_v47 main_arg0 main_arg1 main_arg2 main_arg3 main_arg4 main_arg5 main_arg6 main_arg7 main_arg8 main_arg9 main_arg10)) slices_S8x518_S8x512_0_1
def A_main_v52 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := ori ((A_main_v50 main_arg0 main_arg1 main_arg2 main_arg3 main_arg4 main_arg5 main_arg6 main_arg7 main_arg8 main_arg9 main_arg10)) ((A_main_v51 main_arg0 main_arg1 main_arg2 main_arg3 main_arg4 main_arg5 main_arg6 main_arg7 main_arg8 main_arg9 main_arg10))
def A_main_v53 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := extractStridedSlice S8x512 ![0, 2] ((A_main_v47 main_arg0 main_arg1 main_arg2 main_arg3 main_arg4 main_arg5 main_arg6 main_arg7 main_arg8 main_arg9 main_arg10)) slices_S8x518_S8x512_0_2
def A_main_v54 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := ori ((A_main_v52 main_arg0 main_arg1 main_arg2 main_arg3 main_arg4 main_arg5 main_arg6 main_arg7 main_arg8 main_arg9 main_arg10)) ((A_main_v53 main_arg0 main_arg1 main_arg2 main_arg3 main_arg4 main_arg5 main_arg6 main_arg7 main_arg8 main_arg9 main_arg10))
def A_main_v55 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := extractStridedSlice S8x512 ![0, 3] ((A_main_v47 main_arg0 main_arg1 main_arg2 main_arg3 main_arg4 main_arg5 main_arg6 main_arg7 main_arg8 main_arg9 main_arg10)) slices_S8x518_S8x512_0_3
def A_main_v56 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := ori ((A_main_v54 main_arg0 main_arg1 main_arg2 main_arg3 main_arg4 main_arg5 main_arg6 main_arg7 main_arg8 main_arg9 main_arg10)) ((A_main_v55 main_arg0 main_arg1 main_arg2 main_arg3 main_arg4 main_arg5 main_arg6 main_arg7 main_arg8 main_arg9 main_arg10))
def A_main_v57 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := extractStridedSlice S8x512 ![0, 4] ((A_main_v47 main_arg0 main_arg1 main_arg2 main_arg3 main_arg4 main_arg5 main_arg6 main_arg7 main_arg8 main_arg9 main_arg10)) slices_S8x518_S8x512_0_4
def A_main_v58 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := ori ((A_main_v56 main_arg0 main_arg1 main_arg2 main_arg3 main_arg4 main_arg5 main_arg6 main_arg7 main_arg8 main_arg9 main_arg10)) ((A_main_v57 main_arg0 main_arg1 main_arg2 main_arg3 main_arg4 main_arg5 main_arg6 main_arg7 main_arg8 main_arg9 main_arg10))
def A_main_v59 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := extractStridedSlice S8x512 ![0, 5] ((A_main_v47 main_arg0 main_arg1 main_arg2 main_arg3 main_arg4 main_arg5 main_arg6 main_arg7 main_arg8 main_arg9 main_arg10)) slices_S8x518_S8x512_0_5
def A_main_v60 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := ori ((A_main_v58 main_arg0 main_arg1 main_arg2 main_arg3 main_arg4 main_arg5 main_arg6 main_arg7 main_arg8 main_arg9 main_arg10)) ((A_main_v59 main_arg0 main_arg1 main_arg2 main_arg3 main_arg4 main_arg5 main_arg6 main_arg7 main_arg8 main_arg9 main_arg10))
def A_main_v61 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := extractStridedSlice S8x512 ![0, 6] ((A_main_v47 main_arg0 main_arg1 main_arg2 main_arg3 main_arg4 main_arg5 main_arg6 main_arg7 main_arg8 main_arg9 main_arg10)) slices_S8x518_S8x512_0_6
def A_main_v62 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := ori ((A_main_v60 main_arg0 main_arg1 main_arg2 main_arg3 main_arg4 main_arg5 main_arg6 main_arg7 main_arg8 main_arg9 main_arg10)) ((A_main_v61 main_arg0 main_arg1 main_arg2 main_arg3 main_arg4 main_arg5 main_arg6 main_arg7 main_arg8 main_arg9 main_arg10))
def A_main_v63 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .f32⟩ : BufTy).Contents (Elt F) := Host.reduce FloatOps.maximumf (main_arg0) ((K_main_cst_9 (F := F))) reducesTo_S8x512x4_S8x512_d2 h_S_
def A_main_v65 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .f32⟩ : BufTy).Contents (Elt F) := maximumf ((K_main_v64 (F := F))) ((A_main_v63 main_arg0 main_arg1 main_arg2 main_arg3 main_arg4 main_arg5 main_arg6 main_arg7 main_arg8 main_arg9 main_arg10))
def A_main_v66 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x1, .f32⟩ : BufTy).Contents (Elt F) := broadcastInDim S8x512x1 ![0, 1] bcast_S8x512_S8x512x1_0_1 ((A_main_v65 main_arg0 main_arg1 main_arg2 main_arg3 main_arg4 main_arg5 main_arg6 main_arg7 main_arg8 main_arg9 main_arg10))
def A_main_v67 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x4, .f32⟩ : BufTy).Contents (Elt F) := broadcastInDim S8x512x4 ![0, 1, 2] bcast_S8x512x1_S8x512x4_0_1_2 ((A_main_v66 main_arg0 main_arg1 main_arg2 main_arg3 main_arg4 main_arg5 main_arg6 main_arg7 main_arg8 main_arg9 main_arg10))
def A_main_v68 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x4, .f32⟩ : BufTy).Contents (Elt F) := subf (main_arg0) ((A_main_v67 main_arg0 main_arg1 main_arg2 main_arg3 main_arg4 main_arg5 main_arg6 main_arg7 main_arg8 main_arg9 main_arg10))
def A_main_v69 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x4, .f32⟩ : BufTy).Contents (Elt F) := Host.exp ((A_main_v68 main_arg0 main_arg1 main_arg2 main_arg3 main_arg4 main_arg5 main_arg6 main_arg7 main_arg8 main_arg9 main_arg10))
def A_main_v70 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .f32⟩ : BufTy).Contents (Elt F) := Host.reduceAdd ((A_main_v69 main_arg0 main_arg1 main_arg2 main_arg3 main_arg4 main_arg5 main_arg6 main_arg7 main_arg8 main_arg9 main_arg10)) ((K_main_cst_11 (F := F))) reducesTo_S8x512x4_S8x512_d2 h_S_
def A_main_v71 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x1, .f32⟩ : BufTy).Contents (Elt F) := broadcastInDim S8x512x1 ![0, 1] bcast_S8x512_S8x512x1_0_1 ((A_main_v70 main_arg0 main_arg1 main_arg2 main_arg3 main_arg4 main_arg5 main_arg6 main_arg7 main_arg8 main_arg9 main_arg10))
def A_main_v72 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x4, .f32⟩ : BufTy).Contents (Elt F) := broadcastInDim S8x512x4 ![0, 1, 2] bcast_S8x512x1_S8x512x4_0_1_2 ((A_main_v71 main_arg0 main_arg1 main_arg2 main_arg3 main_arg4 main_arg5 main_arg6 main_arg7 main_arg8 main_arg9 main_arg10))
def A_main_v73 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x4, .f32⟩ : BufTy).Contents (Elt F) := Host.divf ((A_main_v69 main_arg0 main_arg1 main_arg2 main_arg3 main_arg4 main_arg5 main_arg6 main_arg7 main_arg8 main_arg9 main_arg10)) ((A_main_v72 main_arg0 main_arg1 main_arg2 main_arg3 main_arg4 main_arg5 main_arg6 main_arg7 main_arg8 main_arg9 main_arg10))
def A_main_v74 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x2, .f32⟩ : BufTy).Contents (Elt F) := extractStridedSlice S8x512x2 ![0, 0, 0] ((A_main_v73 main_arg0 main_arg1 main_arg2 main_arg3 main_arg4 main_arg5 main_arg6 main_arg7 main_arg8 main_arg9 main_arg10)) slices_S8x512x4_S8x512x2_0_0_0
def A_main_v75 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .f32⟩ : BufTy).Contents (Elt F) := Host.reduceAdd ((A_main_v74 main_arg0 main_arg1 main_arg2 main_arg3 main_arg4 main_arg5 main_arg6 main_arg7 main_arg8 main_arg9 main_arg10)) ((K_main_cst_12 (F := F))) reducesTo_S8x512x2_S8x512_d2 h_S_
def A_main_v77 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := cmpf .ogt ((A_main_v75 main_arg0 main_arg1 main_arg2 main_arg3 main_arg4 main_arg5 main_arg6 main_arg7 main_arg8 main_arg9 main_arg10)) ((K_main_v76 (F := F)))
def A_main_v78 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .f32⟩ : BufTy).Contents (Elt F) := Host.reduce FloatOps.maximumf (main_arg1) ((K_main_cst_14 (F := F))) reducesTo_S8x512x4_S8x512_d2 h_S_
def A_main_v80 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .f32⟩ : BufTy).Contents (Elt F) := maximumf ((K_main_v79 (F := F))) ((A_main_v78 main_arg0 main_arg1 main_arg2 main_arg3 main_arg4 main_arg5 main_arg6 main_arg7 main_arg8 main_arg9 main_arg10))
def A_main_v81 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x1, .f32⟩ : BufTy).Contents (Elt F) := broadcastInDim S8x512x1 ![0, 1] bcast_S8x512_S8x512x1_0_1 ((A_main_v80 main_arg0 main_arg1 main_arg2 main_arg3 main_arg4 main_arg5 main_arg6 main_arg7 main_arg8 main_arg9 main_arg10))
def A_main_v82 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x4, .f32⟩ : BufTy).Contents (Elt F) := broadcastInDim S8x512x4 ![0, 1, 2] bcast_S8x512x1_S8x512x4_0_1_2 ((A_main_v81 main_arg0 main_arg1 main_arg2 main_arg3 main_arg4 main_arg5 main_arg6 main_arg7 main_arg8 main_arg9 main_arg10))
def A_main_v83 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x4, .f32⟩ : BufTy).Contents (Elt F) := subf (main_arg1) ((A_main_v82 main_arg0 main_arg1 main_arg2 main_arg3 main_arg4 main_arg5 main_arg6 main_arg7 main_arg8 main_arg9 main_arg10))
def A_main_v84 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x4, .f32⟩ : BufTy).Contents (Elt F) := Host.exp ((A_main_v83 main_arg0 main_arg1 main_arg2 main_arg3 main_arg4 main_arg5 main_arg6 main_arg7 main_arg8 main_arg9 main_arg10))
def A_main_v85 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .f32⟩ : BufTy).Contents (Elt F) := Host.reduceAdd ((A_main_v84 main_arg0 main_arg1 main_arg2 main_arg3 main_arg4 main_arg5 main_arg6 main_arg7 main_arg8 main_arg9 main_arg10)) ((K_main_cst_16 (F := F))) reducesTo_S8x512x4_S8x512_d2 h_S_
def A_main_v86 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x1, .f32⟩ : BufTy).Contents (Elt F) := broadcastInDim S8x512x1 ![0, 1] bcast_S8x512_S8x512x1_0_1 ((A_main_v85 main_arg0 main_arg1 main_arg2 main_arg3 main_arg4 main_arg5 main_arg6 main_arg7 main_arg8 main_arg9 main_arg10))
def A_main_v87 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x4, .f32⟩ : BufTy).Contents (Elt F) := broadcastInDim S8x512x4 ![0, 1, 2] bcast_S8x512x1_S8x512x4_0_1_2 ((A_main_v86 main_arg0 main_arg1 main_arg2 main_arg3 main_arg4 main_arg5 main_arg6 main_arg7 main_arg8 main_arg9 main_arg10))
def A_main_v88 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x4, .f32⟩ : BufTy).Contents (Elt F) := Host.divf ((A_main_v84 main_arg0 main_arg1 main_arg2 main_arg3 main_arg4 main_arg5 main_arg6 main_arg7 main_arg8 main_arg9 main_arg10)) ((A_main_v87 main_arg0 main_arg1 main_arg2 main_arg3 main_arg4 main_arg5 main_arg6 main_arg7 main_arg8 main_arg9 main_arg10))
def A_main_v89 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x2, .f32⟩ : BufTy).Contents (Elt F) := extractStridedSlice S8x512x2 ![0, 0, 0] ((A_main_v88 main_arg0 main_arg1 main_arg2 main_arg3 main_arg4 main_arg5 main_arg6 main_arg7 main_arg8 main_arg9 main_arg10)) slices_S8x512x4_S8x512x2_0_0_0
def A_main_v90 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .f32⟩ : BufTy).Contents (Elt F) := Host.reduceAdd ((A_main_v89 main_arg0 main_arg1 main_arg2 main_arg3 main_arg4 main_arg5 main_arg6 main_arg7 main_arg8 main_arg9 main_arg10)) ((K_main_cst_17 (F := F))) reducesTo_S8x512x2_S8x512_d2 h_S_
def A_main_v92 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := cmpf .ogt ((A_main_v90 main_arg0 main_arg1 main_arg2 main_arg3 main_arg4 main_arg5 main_arg6 main_arg7 main_arg8 main_arg9 main_arg10)) ((K_main_v91 (F := F)))
def A_main_v93 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := noti ((A_main_v44 main_arg0 main_arg1 main_arg2 main_arg3 main_arg4 main_arg5 main_arg6 main_arg7 main_arg8 main_arg9 main_arg10))
def A_main_v94 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := andi ((A_main_v77 main_arg0 main_arg1 main_arg2 main_arg3 main_arg4 main_arg5 main_arg6 main_arg7 main_arg8 main_arg9 main_arg10)) ((A_main_v93 main_arg0 main_arg1 main_arg2 main_arg3 main_arg4 main_arg5 main_arg6 main_arg7 main_arg8 main_arg9 main_arg10))
def A_main_v95 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := noti ((A_main_v62 main_arg0 main_arg1 main_arg2 main_arg3 main_arg4 main_arg5 main_arg6 main_arg7 main_arg8 main_arg9 main_arg10))
def A_main_v96 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := andi ((A_main_v92 main_arg0 main_arg1 main_arg2 main_arg3 main_arg4 main_arg5 main_arg6 main_arg7 main_arg8 main_arg9 main_arg10)) ((A_main_v95 main_arg0 main_arg1 main_arg2 main_arg3 main_arg4 main_arg5 main_arg6 main_arg7 main_arg8 main_arg9 main_arg10))
def A_main_v98 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x512x4, .i1⟩ : BufTy).Contents (Elt F) := cmpf .ogt (main_arg2) ((K_main_v97 (F := F)))
def A_main_v99 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x512, .i1⟩ : BufTy).Contents (Elt F) := Host.reduce IntOp.ori ((A_main_v98 main_arg0 main_arg1 main_arg2 main_arg3 main_arg4 main_arg5 main_arg6 main_arg7 main_arg8 main_arg9 main_arg10)) ((K_main_c_20 (F := F))) reducesTo_S8x512x512x4_S8x512x512_d3 h_S_
def A_main_v109 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512x512, .i1⟩ : BufTy).Contents (Elt F) := andi ((A_main_v99 main_arg0 main_arg1 main_arg2 main_arg3 main_arg4 main_arg5 main_arg6 main_arg7 main_arg8 main_arg9 main_arg10)) ((K_main_v108 (F := F)))
def A_main_v110 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S8x512, .i1⟩ : BufTy).Contents (Elt F) := Host.reduce IntOp.ori ((A_main_v109 main_arg0 main_arg1 main_arg2 main_arg3 main_arg4 main_arg5 main_arg6 main_arg7 main_arg8 main_arg9 main_arg10)) ((K_main_c_21 (F := F))) reducesTo_S8x512x512_S8x512_d2 h_S_
def A_main_v120 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S512x8x4, .f32⟩ : BufTy).Contents (Elt F) := transpose S512x8x4 [1, 0, 2] (main_arg0) transposes_S8x512x4_S512x8x4_1_0_2
def A_main_v121 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S512x8x4, .f32⟩ : BufTy).Contents (Elt F) := transpose S512x8x4 [1, 0, 2] (main_arg1) transposes_S8x512x4_S512x8x4_1_0_2
def A_main_v122 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S512x8, .f32⟩ : BufTy).Contents (Elt F) := transpose S512x8 [1, 0] ((A_main_v26 main_arg0 main_arg1 main_arg2 main_arg3 main_arg4 main_arg5 main_arg6 main_arg7 main_arg8 main_arg9 main_arg10)) transposes_S8x512_S512x8_1_0
def A_main_v123 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S512x8, .i1⟩ : BufTy).Contents (Elt F) := transpose S512x8 [1, 0] ((A_main_v94 main_arg0 main_arg1 main_arg2 main_arg3 main_arg4 main_arg5 main_arg6 main_arg7 main_arg8 main_arg9 main_arg10)) transposes_S8x512_S512x8_1_0
def A_main_v124 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S512x8, .i1⟩ : BufTy).Contents (Elt F) := transpose S512x8 [1, 0] ((A_main_v96 main_arg0 main_arg1 main_arg2 main_arg3 main_arg4 main_arg5 main_arg6 main_arg7 main_arg8 main_arg9 main_arg10)) transposes_S8x512_S512x8_1_0
def A_main_v125 (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : (⟨S512x8, .i1⟩ : BufTy).Contents (Elt F) := transpose S512x8 [1, 0] ((A_main_v110 main_arg0 main_arg1 main_arg2 main_arg3 main_arg4 main_arg5 main_arg6 main_arg7 main_arg8 main_arg9 main_arg10)) transposes_S8x512_S512x8_1_0

/-! One trip's values, in the body's order. -/

def b0 (j : ℕ) (s : State F) : (⟨S1, .i32⟩ : BufTy).Contents (Elt F) :=
  Host.dynamicSlice S1 ((K_main_v119 (F := F))) (fun k => (((![(constantI S_ 32 (BitVec.ofNat 32 j) : (⟨S_, .i32⟩ : BufTy).Contents (Elt F))] : Fin 1 → (⟨S_, .i32⟩ : BufTy).Contents (Elt F))) k (Shape.Idx.first h_S_)).toInt) sliceFits_S512_S1
def b1 (j : ℕ) (s : State F) : (⟨S_, .i32⟩ : BufTy).Contents (Elt F) :=
  shapeCast S_ ((b0 j s)) shapeCasts_S1_S_
def b2 (j : ℕ) (s : State F) : (⟨S_, .i32⟩ : BufTy).Contents (Elt F) :=
  constantI S_ 32 0#32
def b3 (j : ℕ) (s : State F) : (⟨S_, .i32⟩ : BufTy).Contents (Elt F) :=
  constantI S_ 32 0#32
def b4 (j : ℕ) (s : State F) : (⟨S1x8x4, .f32⟩ : BufTy).Contents (Elt F) :=
  Host.dynamicSlice S1x8x4 (s.main_v126_1) (fun k => (((![(constantI S_ 32 (BitVec.ofNat 32 j) : (⟨S_, .i32⟩ : BufTy).Contents (Elt F)), (b2 j s), (b3 j s)] : Fin 3 → (⟨S_, .i32⟩ : BufTy).Contents (Elt F))) k (Shape.Idx.first h_S_)).toInt) sliceFits_S512x8x4_S1x8x4
def b5 (j : ℕ) (s : State F) : (⟨S8x4, .f32⟩ : BufTy).Contents (Elt F) :=
  shapeCast S8x4 ((b4 j s)) shapeCasts_S1x8x4_S8x4
def b6 (j : ℕ) (s : State F) : (⟨S_, .i32⟩ : BufTy).Contents (Elt F) :=
  constantI S_ 32 0#32
def b7 (j : ℕ) (s : State F) : (⟨S_, .i32⟩ : BufTy).Contents (Elt F) :=
  constantI S_ 32 0#32
def b8 (j : ℕ) (s : State F) : (⟨S1x8x4, .f32⟩ : BufTy).Contents (Elt F) :=
  Host.dynamicSlice S1x8x4 (s.main_v126_2) (fun k => (((![(constantI S_ 32 (BitVec.ofNat 32 j) : (⟨S_, .i32⟩ : BufTy).Contents (Elt F)), (b6 j s), (b7 j s)] : Fin 3 → (⟨S_, .i32⟩ : BufTy).Contents (Elt F))) k (Shape.Idx.first h_S_)).toInt) sliceFits_S512x8x4_S1x8x4
def b9 (j : ℕ) (s : State F) : (⟨S8x4, .f32⟩ : BufTy).Contents (Elt F) :=
  shapeCast S8x4 ((b8 j s)) shapeCasts_S1x8x4_S8x4
def b10 (j : ℕ) (s : State F) : (⟨S_, .i32⟩ : BufTy).Contents (Elt F) :=
  constantI S_ 32 0#32
def b11 (j : ℕ) (s : State F) : (⟨S1x8, .f32⟩ : BufTy).Contents (Elt F) :=
  Host.dynamicSlice S1x8 (s.main_v126_3) (fun k => (((![(constantI S_ 32 (BitVec.ofNat 32 j) : (⟨S_, .i32⟩ : BufTy).Contents (Elt F)), (b10 j s)] : Fin 2 → (⟨S_, .i32⟩ : BufTy).Contents (Elt F))) k (Shape.Idx.first h_S_)).toInt) sliceFits_S512x8_S1x8
def b12 (j : ℕ) (s : State F) : (⟨S8, .f32⟩ : BufTy).Contents (Elt F) :=
  shapeCast S8 ((b11 j s)) shapeCasts_S1x8_S8
def b13 (j : ℕ) (s : State F) : (⟨S_, .i32⟩ : BufTy).Contents (Elt F) :=
  constantI S_ 32 0#32
def b14 (j : ℕ) (s : State F) : (⟨S1x8, .i1⟩ : BufTy).Contents (Elt F) :=
  Host.dynamicSlice S1x8 (s.main_v126_4) (fun k => (((![(constantI S_ 32 (BitVec.ofNat 32 j) : (⟨S_, .i32⟩ : BufTy).Contents (Elt F)), (b13 j s)] : Fin 2 → (⟨S_, .i32⟩ : BufTy).Contents (Elt F))) k (Shape.Idx.first h_S_)).toInt) sliceFits_S512x8_S1x8
def b15 (j : ℕ) (s : State F) : (⟨S8, .i1⟩ : BufTy).Contents (Elt F) :=
  shapeCast S8 ((b14 j s)) shapeCasts_S1x8_S8
def b16 (j : ℕ) (s : State F) : (⟨S_, .i32⟩ : BufTy).Contents (Elt F) :=
  constantI S_ 32 0#32
def b17 (j : ℕ) (s : State F) : (⟨S1x8, .i1⟩ : BufTy).Contents (Elt F) :=
  Host.dynamicSlice S1x8 (s.main_v126_5) (fun k => (((![(constantI S_ 32 (BitVec.ofNat 32 j) : (⟨S_, .i32⟩ : BufTy).Contents (Elt F)), (b16 j s)] : Fin 2 → (⟨S_, .i32⟩ : BufTy).Contents (Elt F))) k (Shape.Idx.first h_S_)).toInt) sliceFits_S512x8_S1x8
def b18 (j : ℕ) (s : State F) : (⟨S8, .i1⟩ : BufTy).Contents (Elt F) :=
  shapeCast S8 ((b17 j s)) shapeCasts_S1x8_S8
def b19 (j : ℕ) (s : State F) : (⟨S_, .i32⟩ : BufTy).Contents (Elt F) :=
  constantI S_ 32 0#32
def b20 (j : ℕ) (s : State F) : (⟨S1x8, .i1⟩ : BufTy).Contents (Elt F) :=
  Host.dynamicSlice S1x8 (s.main_v126_6) (fun k => (((![(constantI S_ 32 (BitVec.ofNat 32 j) : (⟨S_, .i32⟩ : BufTy).Contents (Elt F)), (b19 j s)] : Fin 2 → (⟨S_, .i32⟩ : BufTy).Contents (Elt F))) k (Shape.Idx.first h_S_)).toInt) sliceFits_S512x8_S1x8
def b21 (j : ℕ) (s : State F) : (⟨S8, .i1⟩ : BufTy).Contents (Elt F) :=
  shapeCast S8 ((b20 j s)) shapeCasts_S1x8_S8
def b22 (j : ℕ) (s : State F) : (⟨S8x1, .f32⟩ : BufTy).Contents (Elt F) :=
  broadcastInDim S8x1 ![0] bcast_S8_S8x1_0 ((b12 j s))
def b23 (j : ℕ) (s : State F) : (⟨S8x4, .f32⟩ : BufTy).Contents (Elt F) :=
  broadcastInDim S8x4 ![0, 1] bcast_S8x1_S8x4_0_1 ((b22 j s))
def b24 (j : ℕ) (s : State F) : (⟨S8x4, .f32⟩ : BufTy).Contents (Elt F) :=
  mulf ((b5 j s)) ((b23 j s))
def b25 (j : ℕ) (s : State F) : (⟨S8x1, .f32⟩ : BufTy).Contents (Elt F) :=
  broadcastInDim S8x1 ![0] bcast_S8_S8x1_0 ((b12 j s))
def b26 (j : ℕ) (s : State F) : (⟨S8x4, .f32⟩ : BufTy).Contents (Elt F) :=
  broadcastInDim S8x4 ![0, 1] bcast_S8x1_S8x4_0_1 ((b25 j s))
def b27 (j : ℕ) (s : State F) : (⟨S8x4, .f32⟩ : BufTy).Contents (Elt F) :=
  mulf ((b9 j s)) ((b26 j s))
def b28 (j : ℕ) (s : State F) : (⟨S8x2, .f32⟩ : BufTy).Contents (Elt F) :=
  extractStridedSlice S8x2 ![0, 0] ((b24 j s)) slices_S8x4_S8x2_0_0
def b29 (j : ℕ) (s : State F) : (⟨S_, .f32⟩ : BufTy).Contents (Elt F) :=
  constant S_ .f32 0x3E99999A#32
def b30 (j : ℕ) (s : State F) : (⟨S_, .f32⟩ : BufTy).Contents (Elt F) :=
  constant S_ .f32 0x3F800000#32
def b31 (j : ℕ) (s : State F) : (⟨S8, .f32⟩ : BufTy).Contents (Elt F) :=
  broadcastInDim S8 ![] bcast_S_S8 ((b29 j s))
def b32 (j : ℕ) (s : State F) : (⟨S8, .f32⟩ : BufTy).Contents (Elt F) :=
  broadcastInDim S8 ![] bcast_S_S8 ((b30 j s))
def b33 (j : ℕ) (s : State F) : (⟨S8, .f32⟩ : BufTy).Contents (Elt F) :=
  select ((b15 j s)) ((b31 j s)) ((b32 j s))
def b34 (j : ℕ) (s : State F) : (⟨S8x1, .f32⟩ : BufTy).Contents (Elt F) :=
  broadcastInDim S8x1 ![0] bcast_S8_S8x1_0 ((b33 j s))
def b35 (j : ℕ) (s : State F) : (⟨S8x1, .f32⟩ : BufTy).Contents (Elt F) := b34 j s
theorem b35_id (j : ℕ) (s : State F) : b35 j s = b34 j s := rfl
def b36 (j : ℕ) (s : State F) : (⟨S8x2, .f32⟩ : BufTy).Contents (Elt F) :=
  broadcastInDim S8x2 ![0, 1] bcast_S8x1_S8x2_0_1 ((b35 j s))
def b37 (j : ℕ) (s : State F) : (⟨S8x2, .f32⟩ : BufTy).Contents (Elt F) :=
  mulf ((b28 j s)) ((b36 j s))
def b38 (j : ℕ) (s : State F) : (⟨S8x2, .f32⟩ : BufTy).Contents (Elt F) :=
  extractStridedSlice S8x2 ![0, 0] ((b27 j s)) slices_S8x4_S8x2_0_0
def b39 (j : ℕ) (s : State F) : (⟨S_, .f32⟩ : BufTy).Contents (Elt F) :=
  constant S_ .f32 0x3E99999A#32
def b40 (j : ℕ) (s : State F) : (⟨S_, .f32⟩ : BufTy).Contents (Elt F) :=
  constant S_ .f32 0x3F800000#32
def b41 (j : ℕ) (s : State F) : (⟨S8, .f32⟩ : BufTy).Contents (Elt F) :=
  broadcastInDim S8 ![] bcast_S_S8 ((b39 j s))
def b42 (j : ℕ) (s : State F) : (⟨S8, .f32⟩ : BufTy).Contents (Elt F) :=
  broadcastInDim S8 ![] bcast_S_S8 ((b40 j s))
def b43 (j : ℕ) (s : State F) : (⟨S8, .f32⟩ : BufTy).Contents (Elt F) :=
  select ((b18 j s)) ((b41 j s)) ((b42 j s))
def b44 (j : ℕ) (s : State F) : (⟨S8x1, .f32⟩ : BufTy).Contents (Elt F) :=
  broadcastInDim S8x1 ![0] bcast_S8_S8x1_0 ((b43 j s))
def b45 (j : ℕ) (s : State F) : (⟨S8x1, .f32⟩ : BufTy).Contents (Elt F) := b44 j s
theorem b45_id (j : ℕ) (s : State F) : b45 j s = b44 j s := rfl
def b46 (j : ℕ) (s : State F) : (⟨S8x2, .f32⟩ : BufTy).Contents (Elt F) :=
  broadcastInDim S8x2 ![0, 1] bcast_S8x1_S8x2_0_1 ((b45 j s))
def b47 (j : ℕ) (s : State F) : (⟨S8x2, .f32⟩ : BufTy).Contents (Elt F) :=
  mulf ((b38 j s)) ((b46 j s))
def b48 (j : ℕ) (s : State F) : (⟨S4, .i32⟩ : BufTy).Contents (Elt F) :=
  broadcastInDim S4 ![] bcast_S_S4 ((b1 j s))
def b49 (j : ℕ) (s : State F) : (⟨S4, .i32⟩ : BufTy).Contents (Elt F) :=
  addi ((b48 j s)) ((K_main_v118 (F := F)))
def b50 (j : ℕ) (s : State F) : (⟨S_, .i32⟩ : BufTy).Contents (Elt F) :=
  constantI S_ 32 0#32
def b51 (j : ℕ) (s : State F) : (⟨S4, .i32⟩ : BufTy).Contents (Elt F) :=
  broadcastInDim S4 ![] bcast_S_S4 ((b50 j s))
def b52 (j : ℕ) (s : State F) : (⟨S4, .i1⟩ : BufTy).Contents (Elt F) :=
  cmpi .sge ((b49 j s)) ((b51 j s))
def b53 (j : ℕ) (s : State F) : (⟨S_, .i32⟩ : BufTy).Contents (Elt F) :=
  constantI S_ 32 512#32
def b54 (j : ℕ) (s : State F) : (⟨S4, .i32⟩ : BufTy).Contents (Elt F) :=
  broadcastInDim S4 ![] bcast_S_S4 ((b53 j s))
def b55 (j : ℕ) (s : State F) : (⟨S4, .i1⟩ : BufTy).Contents (Elt F) :=
  cmpi .slt ((b49 j s)) ((b54 j s))
def b56 (j : ℕ) (s : State F) : (⟨S4, .i1⟩ : BufTy).Contents (Elt F) :=
  andi ((b52 j s)) ((b55 j s))
def b57 (j : ℕ) (s : State F) : (⟨S_, .i32⟩ : BufTy).Contents (Elt F) :=
  constantI S_ 32 0#32
def b58 (j : ℕ) (s : State F) : (⟨S_, .i32⟩ : BufTy).Contents (Elt F) :=
  constantI S_ 32 511#32
def b59 (j : ℕ) (s : State F) : (⟨S_, .i32⟩ : BufTy).Contents (Elt F) := b57 j s
theorem b59_id (j : ℕ) (s : State F) : b59 j s = b57 j s := rfl
def b60 (j : ℕ) (s : State F) : (⟨S4, .i32⟩ : BufTy).Contents (Elt F) :=
  broadcastInDim S4 ![] bcast_S_S4 ((b59 j s))
def b61 (j : ℕ) (s : State F) : (⟨S4, .i32⟩ : BufTy).Contents (Elt F) :=
  maxsi ((b60 j s)) ((b49 j s))
def b62 (j : ℕ) (s : State F) : (⟨S_, .i32⟩ : BufTy).Contents (Elt F) := b58 j s
theorem b62_id (j : ℕ) (s : State F) : b62 j s = b58 j s := rfl
def b63 (j : ℕ) (s : State F) : (⟨S4, .i32⟩ : BufTy).Contents (Elt F) :=
  broadcastInDim S4 ![] bcast_S_S4 ((b62 j s))
def b64 (j : ℕ) (s : State F) : (⟨S4, .i32⟩ : BufTy).Contents (Elt F) :=
  minsi ((b63 j s)) ((b61 j s))
def b65 (j : ℕ) (s : State F) : (⟨S_, .i32⟩ : BufTy).Contents (Elt F) :=
  constantI S_ 32 0#32
def b66 (j : ℕ) (s : State F) : (⟨S4, .i32⟩ : BufTy).Contents (Elt F) :=
  broadcastInDim S4 ![] bcast_S_S4 ((b65 j s))
def b67 (j : ℕ) (s : State F) : (⟨S4, .i1⟩ : BufTy).Contents (Elt F) :=
  cmpi .slt ((b64 j s)) ((b66 j s))
def b68 (j : ℕ) (s : State F) : (⟨S_, .i32⟩ : BufTy).Contents (Elt F) :=
  constantI S_ 32 512#32
def b69 (j : ℕ) (s : State F) : (⟨S4, .i32⟩ : BufTy).Contents (Elt F) :=
  broadcastInDim S4 ![] bcast_S_S4 ((b68 j s))
def b70 (j : ℕ) (s : State F) : (⟨S4, .i32⟩ : BufTy).Contents (Elt F) :=
  addi ((b64 j s)) ((b69 j s))
def b71 (j : ℕ) (s : State F) : (⟨S4, .i32⟩ : BufTy).Contents (Elt F) :=
  select ((b67 j s)) ((b70 j s)) ((b64 j s))
def b72 (j : ℕ) (s : State F) : (⟨S4x1, .i32⟩ : BufTy).Contents (Elt F) :=
  broadcastInDim S4x1 ![0] bcast_S4_S4x1_0 ((b71 j s))
def b73 (j : ℕ) (s : State F) : (⟨S8x4x4, .f32⟩ : BufTy).Contents (Elt F) :=
  Host.gather gather_S8x512x4_S4x1_S8x4x4_02_1_n_n_1_1_814 (s.main_v126_9) ((b72 j s))
def b74 (j : ℕ) (s : State F) : (⟨S_, .f32⟩ : BufTy).Contents (Elt F) :=
  constant S_ .f32 0xFF800000#32
def b75 (j : ℕ) (s : State F) : (⟨S8x4, .f32⟩ : BufTy).Contents (Elt F) :=
  Host.reduce FloatOps.maximumf ((b73 j s)) ((b74 j s)) reducesTo_S8x4x4_S8x4_d2 h_S_
def b76 (j : ℕ) (s : State F) : (⟨S_, .f32⟩ : BufTy).Contents (Elt F) :=
  constant S_ .f32 0x3F000000#32
def b77 (j : ℕ) (s : State F) : (⟨S8x4, .f32⟩ : BufTy).Contents (Elt F) :=
  broadcastInDim S8x4 ![] bcast_S_S8x4 ((b76 j s))
def b78 (j : ℕ) (s : State F) : (⟨S8x4, .i1⟩ : BufTy).Contents (Elt F) :=
  cmpf .ogt ((b75 j s)) ((b77 j s))
def b79 (j : ℕ) (s : State F) : (⟨S_, .i32⟩ : BufTy).Contents (Elt F) :=
  constantI S_ 32 0#32
def b80 (j : ℕ) (s : State F) : (⟨S4, .i32⟩ : BufTy).Contents (Elt F) :=
  broadcastInDim S4 ![] bcast_S_S4 ((b79 j s))
def b81 (j : ℕ) (s : State F) : (⟨S4, .i1⟩ : BufTy).Contents (Elt F) :=
  cmpi .slt ((b64 j s)) ((b80 j s))
def b82 (j : ℕ) (s : State F) : (⟨S_, .i32⟩ : BufTy).Contents (Elt F) :=
  constantI S_ 32 512#32
def b83 (j : ℕ) (s : State F) : (⟨S4, .i32⟩ : BufTy).Contents (Elt F) :=
  broadcastInDim S4 ![] bcast_S_S4 ((b82 j s))
def b84 (j : ℕ) (s : State F) : (⟨S4, .i32⟩ : BufTy).Contents (Elt F) :=
  addi ((b64 j s)) ((b83 j s))
def b85 (j : ℕ) (s : State F) : (⟨S4, .i32⟩ : BufTy).Contents (Elt F) :=
  select ((b81 j s)) ((b84 j s)) ((b64 j s))
def b86 (j : ℕ) (s : State F) : (⟨S4x1, .i32⟩ : BufTy).Contents (Elt F) :=
  broadcastInDim S4x1 ![0] bcast_S4_S4x1_0 ((b85 j s))
def b87 (j : ℕ) (s : State F) : (⟨S8x4x4, .f32⟩ : BufTy).Contents (Elt F) :=
  Host.gather gather_S8x512x4_S4x1_S8x4x4_02_1_n_n_1_1_814 (s.main_v126_10) ((b86 j s))
def b88 (j : ℕ) (s : State F) : (⟨S_, .f32⟩ : BufTy).Contents (Elt F) :=
  constant S_ .f32 0xFF800000#32
def b89 (j : ℕ) (s : State F) : (⟨S8x4, .f32⟩ : BufTy).Contents (Elt F) :=
  Host.reduce FloatOps.maximumf ((b87 j s)) ((b88 j s)) reducesTo_S8x4x4_S8x4_d2 h_S_
def b90 (j : ℕ) (s : State F) : (⟨S_, .f32⟩ : BufTy).Contents (Elt F) :=
  constant S_ .f32 0x3F000000#32
def b91 (j : ℕ) (s : State F) : (⟨S8x4, .f32⟩ : BufTy).Contents (Elt F) :=
  broadcastInDim S8x4 ![] bcast_S_S8x4 ((b90 j s))
def b92 (j : ℕ) (s : State F) : (⟨S8x4, .i1⟩ : BufTy).Contents (Elt F) :=
  cmpf .ogt ((b89 j s)) ((b91 j s))
def b93 (j : ℕ) (s : State F) : (⟨S8x4, .i1⟩ : BufTy).Contents (Elt F) :=
  ori ((b78 j s)) ((b92 j s))
def b94 (j : ℕ) (s : State F) : (⟨S1x4, .i1⟩ : BufTy).Contents (Elt F) :=
  broadcastInDim S1x4 ![1] bcast_S4_S1x4_1 ((b56 j s))
def b95 (j : ℕ) (s : State F) : (⟨S8x4, .i1⟩ : BufTy).Contents (Elt F) :=
  broadcastInDim S8x4 ![0, 1] bcast_S1x4_S8x4_0_1 ((b94 j s))
def b96 (j : ℕ) (s : State F) : (⟨S8x4, .i1⟩ : BufTy).Contents (Elt F) :=
  andi ((b93 j s)) ((b95 j s))
def b97 (j : ℕ) (s : State F) : (⟨S_, .i1⟩ : BufTy).Contents (Elt F) :=
  constantI S_ 1 0#1
def b98 (j : ℕ) (s : State F) : (⟨S8, .i1⟩ : BufTy).Contents (Elt F) :=
  Host.reduce IntOp.ori ((b96 j s)) ((b97 j s)) reducesTo_S8x4_S8_d1 h_S_
def b99 (j : ℕ) (s : State F) : (⟨S_, .f32⟩ : BufTy).Contents (Elt F) :=
  constant S_ .f32 0x3F800000#32
def b100 (j : ℕ) (s : State F) : (⟨S_, .f32⟩ : BufTy).Contents (Elt F) :=
  constant S_ .f32 0x3DCCCCCD#32
def b101 (j : ℕ) (s : State F) : (⟨S8, .f32⟩ : BufTy).Contents (Elt F) :=
  broadcastInDim S8 ![] bcast_S_S8 ((b99 j s))
def b102 (j : ℕ) (s : State F) : (⟨S8, .f32⟩ : BufTy).Contents (Elt F) :=
  broadcastInDim S8 ![] bcast_S_S8 ((b100 j s))
def b103 (j : ℕ) (s : State F) : (⟨S8, .f32⟩ : BufTy).Contents (Elt F) :=
  select ((b98 j s)) ((b101 j s)) ((b102 j s))
def b104 (j : ℕ) (s : State F) : (⟨S8x1, .f32⟩ : BufTy).Contents (Elt F) :=
  broadcastInDim S8x1 ![0] bcast_S8_S8x1_0 ((b103 j s))
def b105 (j : ℕ) (s : State F) : (⟨S8x1, .f32⟩ : BufTy).Contents (Elt F) := b104 j s
theorem b105_id (j : ℕ) (s : State F) : b105 j s = b104 j s := rfl
def b106 (j : ℕ) (s : State F) : (⟨S8x2, .f32⟩ : BufTy).Contents (Elt F) :=
  broadcastInDim S8x2 ![0, 1] bcast_S8x1_S8x2_0_1 ((b105 j s))
def b107 (j : ℕ) (s : State F) : (⟨S8x2, .f32⟩ : BufTy).Contents (Elt F) :=
  mulf ((b37 j s)) ((b106 j s))
def b108 (j : ℕ) (s : State F) : (⟨S8x1, .f32⟩ : BufTy).Contents (Elt F) :=
  broadcastInDim S8x1 ![0] bcast_S8_S8x1_0 ((b103 j s))
def b109 (j : ℕ) (s : State F) : (⟨S8x1, .f32⟩ : BufTy).Contents (Elt F) := b108 j s
theorem b109_id (j : ℕ) (s : State F) : b109 j s = b108 j s := rfl
def b110 (j : ℕ) (s : State F) : (⟨S8x2, .f32⟩ : BufTy).Contents (Elt F) :=
  broadcastInDim S8x2 ![0, 1] bcast_S8x1_S8x2_0_1 ((b109 j s))
def b111 (j : ℕ) (s : State F) : (⟨S8x2, .f32⟩ : BufTy).Contents (Elt F) :=
  mulf ((b47 j s)) ((b110 j s))
def b112 (j : ℕ) (s : State F) : (⟨S_, .f32⟩ : BufTy).Contents (Elt F) :=
  constant S_ .f32 0x3F333333#32
def b113 (j : ℕ) (s : State F) : (⟨S_, .f32⟩ : BufTy).Contents (Elt F) :=
  constant S_ .f32 0x3F800000#32
def b114 (j : ℕ) (s : State F) : (⟨S8, .f32⟩ : BufTy).Contents (Elt F) :=
  broadcastInDim S8 ![] bcast_S_S8 ((b112 j s))
def b115 (j : ℕ) (s : State F) : (⟨S8, .f32⟩ : BufTy).Contents (Elt F) :=
  broadcastInDim S8 ![] bcast_S_S8 ((b113 j s))
def b116 (j : ℕ) (s : State F) : (⟨S8, .f32⟩ : BufTy).Contents (Elt F) :=
  select ((b21 j s)) ((b114 j s)) ((b115 j s))
def b117 (j : ℕ) (s : State F) : (⟨S8x1, .f32⟩ : BufTy).Contents (Elt F) :=
  broadcastInDim S8x1 ![0] bcast_S8_S8x1_0 ((b116 j s))
def b118 (j : ℕ) (s : State F) : (⟨S8x1, .f32⟩ : BufTy).Contents (Elt F) := b117 j s
theorem b118_id (j : ℕ) (s : State F) : b118 j s = b117 j s := rfl
def b119 (j : ℕ) (s : State F) : (⟨S8x2, .f32⟩ : BufTy).Contents (Elt F) :=
  broadcastInDim S8x2 ![0, 1] bcast_S8x1_S8x2_0_1 ((b118 j s))
def b120 (j : ℕ) (s : State F) : (⟨S8x2, .f32⟩ : BufTy).Contents (Elt F) :=
  mulf ((b107 j s)) ((b119 j s))
def b121 (j : ℕ) (s : State F) : (⟨S8x2, .f32⟩ : BufTy).Contents (Elt F) :=
  extractStridedSlice S8x2 ![0, 2] ((b24 j s)) slices_S8x4_S8x2_0_2
def b122 (j : ℕ) (s : State F) : (⟨S8x4, .f32⟩ : BufTy).Contents (Elt F) :=
  concatenate S8x4 1 [⟨S8x2, ((b120 j s))⟩, ⟨S8x2, ((b121 j s))⟩] concatenates_S8x2_S8x2_S8x4_d1
def b123 (j : ℕ) (s : State F) : (⟨S8x2, .f32⟩ : BufTy).Contents (Elt F) :=
  extractStridedSlice S8x2 ![0, 2] ((b27 j s)) slices_S8x4_S8x2_0_2
def b124 (j : ℕ) (s : State F) : (⟨S8x4, .f32⟩ : BufTy).Contents (Elt F) :=
  concatenate S8x4 1 [⟨S8x2, ((b111 j s))⟩, ⟨S8x2, ((b123 j s))⟩] concatenates_S8x2_S8x2_S8x4_d1
def b125 (j : ℕ) (s : State F) : (⟨S_, .i32⟩ : BufTy).Contents (Elt F) :=
  constantI S_ 32 0#32
def b126 (j : ℕ) (s : State F) : (⟨S_, .i1⟩ : BufTy).Contents (Elt F) :=
  cmpi .slt ((b1 j s)) ((b125 j s))
def b127 (j : ℕ) (s : State F) : (⟨S_, .i32⟩ : BufTy).Contents (Elt F) :=
  constantI S_ 32 512#32
def b128 (j : ℕ) (s : State F) : (⟨S_, .i32⟩ : BufTy).Contents (Elt F) :=
  addi ((b1 j s)) ((b127 j s))
def b129 (j : ℕ) (s : State F) : (⟨S_, .i32⟩ : BufTy).Contents (Elt F) :=
  select ((b126 j s)) ((b128 j s)) ((b1 j s))
def b130 (j : ℕ) (s : State F) : (⟨S1, .i32⟩ : BufTy).Contents (Elt F) :=
  broadcastInDim S1 ![] bcast_S_S1 ((b129 j s))
def b131 (j : ℕ) (s : State F) : (⟨S8x512x4, .f32⟩ : BufTy).Contents (Elt F) :=
  Host.scatter scatter_S8x512x4_S1_S8x4_01_1_1_0 (fun _ b => b) (s.main_v126_9) ((b130 j s)) ((b122 j s))
def b132 (j : ℕ) (s : State F) : (⟨S_, .i32⟩ : BufTy).Contents (Elt F) :=
  constantI S_ 32 0#32
def b133 (j : ℕ) (s : State F) : (⟨S_, .i1⟩ : BufTy).Contents (Elt F) :=
  cmpi .slt ((b1 j s)) ((b132 j s))
def b134 (j : ℕ) (s : State F) : (⟨S_, .i32⟩ : BufTy).Contents (Elt F) :=
  constantI S_ 32 512#32
def b135 (j : ℕ) (s : State F) : (⟨S_, .i32⟩ : BufTy).Contents (Elt F) :=
  addi ((b1 j s)) ((b134 j s))
def b136 (j : ℕ) (s : State F) : (⟨S_, .i32⟩ : BufTy).Contents (Elt F) :=
  select ((b133 j s)) ((b135 j s)) ((b1 j s))
def b137 (j : ℕ) (s : State F) : (⟨S1, .i32⟩ : BufTy).Contents (Elt F) :=
  broadcastInDim S1 ![] bcast_S_S1 ((b136 j s))
def b138 (j : ℕ) (s : State F) : (⟨S8x512x4, .f32⟩ : BufTy).Contents (Elt F) :=
  Host.scatter scatter_S8x512x4_S1_S8x4_01_1_1_0 (fun _ b => b) (s.main_v126_10) ((b137 j s)) ((b124 j s))

/-- The state @main hands the first trip, of the arguments it copies in or computes from. -/
def init (main_arg0 : (⟨S8x512x4, .f32⟩ : BufTy).Contents (Elt F)) (main_arg1 : (⟨S8x512x4, .f32⟩ : BufTy).Contents (Elt F)) (main_arg2 : (⟨S8x512x512x4, .f32⟩ : BufTy).Contents (Elt F)) (main_arg3 : (⟨S8x512, .i32⟩ : BufTy).Contents (Elt F)) (main_arg4 : (⟨S8x512, .i32⟩ : BufTy).Contents (Elt F)) (main_arg5 : (⟨S8x32, .f32⟩ : BufTy).Contents (Elt F)) (main_arg6 : (⟨S32, .f32⟩ : BufTy).Contents (Elt F)) (main_arg7 : (⟨S32x16, .f32⟩ : BufTy).Contents (Elt F)) (main_arg8 : (⟨S16, .f32⟩ : BufTy).Contents (Elt F)) (main_arg9 : (⟨S16x1, .f32⟩ : BufTy).Contents (Elt F)) (main_arg10 : (⟨S1, .f32⟩ : BufTy).Contents (Elt F)) : State F :=
  { main_v126_9 := main_arg0, main_v126_10 := main_arg1, main_v126_1 := A_main_v120 main_arg0 main_arg1 main_arg2 main_arg3 main_arg4 main_arg5 main_arg6 main_arg7 main_arg8 main_arg9 main_arg10, main_v126_2 := A_main_v121 main_arg0 main_arg1 main_arg2 main_arg3 main_arg4 main_arg5 main_arg6 main_arg7 main_arg8 main_arg9 main_arg10, main_v126_3 := A_main_v122 main_arg0 main_arg1 main_arg2 main_arg3 main_arg4 main_arg5 main_arg6 main_arg7 main_arg8 main_arg9 main_arg10, main_v126_4 := A_main_v123 main_arg0 main_arg1 main_arg2 main_arg3 main_arg4 main_arg5 main_arg6 main_arg7 main_arg8 main_arg9 main_arg10, main_v126_5 := A_main_v124 main_arg0 main_arg1 main_arg2 main_arg3 main_arg4 main_arg5 main_arg6 main_arg7 main_arg8 main_arg9 main_arg10, main_v126_6 := A_main_v125 main_arg0 main_arg1 main_arg2 main_arg3 main_arg4 main_arg5 main_arg6 main_arg7 main_arg8 main_arg9 main_arg10 }

/-- One trip. -/
def step (j : ℕ) (s : State F) : State F :=
  { main_v126_9 := b131 j s, main_v126_10 := b138 j s, main_v126_1 := s.main_v126_1, main_v126_2 := s.main_v126_2, main_v126_3 := s.main_v126_3, main_v126_4 := s.main_v126_4, main_v126_5 := s.main_v126_5, main_v126_6 := s.main_v126_6 }
theorem step_main_v126_9 (j : ℕ) (s : State F) : (step j s).main_v126_9 = b131 j s := by simp only [step]
theorem step_main_v126_10 (j : ℕ) (s : State F) : (step j s).main_v126_10 = b138 j s := by simp only [step]

end Cert.ReferenceIdeal.Step

end
-- ==== Proof.RefRun.lean ====
/- The reference's run, stated over the trip of RefTrip. At a valuation that holds a state (the carried rows, the
   constants of the loop and the number of the trip) every value a trip computes is the one RefTrip names; so one
   application of the trip keeps the next state held, what runs before the loop leaves the initial state, and the
   results are those of the trip iterated 512 times. The text follows the generated statement of the same facts. -/
module

public import proofs.«01_k».proof.Proof.Gen.ReferenceIdeal.Run
public import proofs.«01_k».proof.Proof.RefTrip

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v126_9) = s.main_v126_9
  f_10 : V0 (Proc.devRef .tc main_v126_10) = s.main_v126_10
  f_1 : V0 (Proc.devRef .tc main_v126_1) = s.main_v126_1
  f_2 : V0 (Proc.devRef .tc main_v126_2) = s.main_v126_2
  f_3 : V0 (Proc.devRef .tc main_v126_3) = s.main_v126_3
  f_4 : V0 (Proc.devRef .tc main_v126_4) = s.main_v126_4
  f_5 : V0 (Proc.devRef .tc main_v126_5) = s.main_v126_5
  f_6 : V0 (Proc.devRef .tc main_v126_6) = s.main_v126_6
  n_8 : V0 (Proc.devRef .tc main_v126_8) = constantI S_ 32 (BitVec.ofNat 32 j)
  k_0 : V0 (Proc.devRef .tc main_v126_0) = Cert.ReferenceIdeal.Step.K_main_v119 (F := F)
  k_7 : V0 (Proc.devRef .tc main_v126_7) = Cert.ReferenceIdeal.Step.K_main_v118 (F := F)

variable {V0 s j}

set_option maxRecDepth 8192 in
theorem al_0 (h : Holds V0 s j) : (Host.dynamicSlice S1 (V0 (Proc.devRef .tc main_v126_0)) (fun k => (((![V0 (Proc.devRef .tc main_v126_8)] : Fin 1 → (⟨S_, .i32⟩ : BufTy).Contents (Elt F))) k (Shape.Idx.first h_S_)).toInt) sliceFits_S512_S1 : (Proc.devRef .tc main_while0b_call6_v0 : DevRef τ sig).ty.Contents (Elt F)) = Cert.ReferenceIdeal.Step.b0 j s := by
  unfold Cert.ReferenceIdeal.Step.b0
  rw [h.k_0, h.n_8]
  try rfl
set_option maxRecDepth 8192 in
theorem al_1 (h : Holds V0 s j) : (res_main_while0b_v127 V0 : (Proc.devRef .tc main_while0b_v127 : DevRef τ sig).ty.Contents (Elt F)) = Cert.ReferenceIdeal.Step.b1 j s := by
  unfold res_main_while0b_v127 Cert.ReferenceIdeal.Step.b1
  rw [← al_0 h]
  try rfl
set_option maxRecDepth 8192 in
theorem al_2 (h : Holds V0 s j) : (constantI S_ 32 0#32 : (Proc.devRef .tc main_while0b_call7_c : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call7_c_0 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x8x4 (V0 (Proc.devRef .tc main_v126_1)) (fun k => (((![V0 (Proc.devRef .tc main_v126_8), constantI S_ 32 0#32, constantI S_ 32 0#32] : Fin 3 → (⟨S_, .i32⟩ : BufTy).Contents (Elt F))) k (Shape.Idx.first h_S_)).toInt) sliceFits_S512x8x4_S1x8x4 : (Proc.devRef .tc main_while0b_call7_v0 : DevRef τ sig).ty.Contents (Elt F)) = Cert.ReferenceIdeal.Step.b4 j s := by
  unfold Cert.ReferenceIdeal.Step.b4
  rw [← al_2 h, ← al_3 h, h.f_1, h.n_8]
  try rfl
set_option maxRecDepth 8192 in
theorem al_5 (h : Holds V0 s j) : (shapeCast S8x4 (Host.dynamicSlice S1x8x4 (V0 (Proc.devRef .tc main_v126_1)) (fun k => (((![V0 (Proc.devRef .tc main_v126_8), constantI S_ 32 0#32, constantI S_ 32 0#32] : Fin 3 → (⟨S_, .i32⟩ : BufTy).Contents (Elt F))) k (Shape.Idx.first h_S_)).toInt) sliceFits_S512x8x4_S1x8x4) shapeCasts_S1x8x4_S8x4 : (Proc.devRef .tc main_while0b_v128 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (constantI S_ 32 0#32 : (Proc.devRef .tc main_while0b_call8_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call8_c_0 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x8x4 (V0 (Proc.devRef .tc main_v126_2)) (fun k => (((![V0 (Proc.devRef .tc main_v126_8), constantI S_ 32 0#32, constantI S_ 32 0#32] : Fin 3 → (⟨S_, .i32⟩ : BufTy).Contents (Elt F))) k (Shape.Idx.first h_S_)).toInt) sliceFits_S512x8x4_S1x8x4 : (Proc.devRef .tc main_while0b_call8_v0 : DevRef τ sig).ty.Contents (Elt F)) = Cert.ReferenceIdeal.Step.b8 j s := by
  unfold Cert.ReferenceIdeal.Step.b8
  rw [← al_6 h, ← al_7 h, h.f_2, h.n_8]
  try rfl
set_option maxRecDepth 8192 in
theorem al_9 (h : Holds V0 s j) : (shapeCast S8x4 (Host.dynamicSlice S1x8x4 (V0 (Proc.devRef .tc main_v126_2)) (fun k => (((![V0 (Proc.devRef .tc main_v126_8), constantI S_ 32 0#32, constantI S_ 32 0#32] : Fin 3 → (⟨S_, .i32⟩ : BufTy).Contents (Elt F))) k (Shape.Idx.first h_S_)).toInt) sliceFits_S512x8x4_S1x8x4) shapeCasts_S1x8x4_S8x4 : (Proc.devRef .tc main_while0b_v129 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (constantI S_ 32 0#32 : (Proc.devRef .tc main_while0b_call9_c : DevRef τ sig).ty.Contents (Elt F)) = Cert.ReferenceIdeal.Step.b10 j s := by
  unfold Cert.ReferenceIdeal.Step.b10
  rfl
set_option maxRecDepth 8192 in
theorem al_11 (h : Holds V0 s j) : (Host.dynamicSlice S1x8 (V0 (Proc.devRef .tc main_v126_3)) (fun k => (((![V0 (Proc.devRef .tc main_v126_8), constantI S_ 32 0#32] : Fin 2 → (⟨S_, .i32⟩ : BufTy).Contents (Elt F))) k (Shape.Idx.first h_S_)).toInt) sliceFits_S512x8_S1x8 : (Proc.devRef .tc main_while0b_call9_v0 : DevRef τ sig).ty.Contents (Elt F)) = Cert.ReferenceIdeal.Step.b11 j s := by
  unfold Cert.ReferenceIdeal.Step.b11
  rw [← al_10 h, h.f_3, h.n_8]
  try rfl
set_option maxRecDepth 8192 in
theorem al_12 (h : Holds V0 s j) : (res_main_while0b_v130 V0 : (Proc.devRef .tc main_while0b_v130 : DevRef τ sig).ty.Contents (Elt F)) = Cert.ReferenceIdeal.Step.b12 j s := by
  unfold res_main_while0b_v130 Cert.ReferenceIdeal.Step.b12
  rw [← al_11 h]
  try rfl
set_option maxRecDepth 8192 in
theorem al_13 (h : Holds V0 s j) : (constantI S_ 32 0#32 : (Proc.devRef .tc main_while0b_call10_c : DevRef τ sig).ty.Contents (Elt F)) = Cert.ReferenceIdeal.Step.b13 j s := by
  unfold Cert.ReferenceIdeal.Step.b13
  rfl
set_option maxRecDepth 8192 in
theorem al_14 (h : Holds V0 s j) : (Host.dynamicSlice S1x8 (V0 (Proc.devRef .tc main_v126_4)) (fun k => (((![V0 (Proc.devRef .tc main_v126_8), constantI S_ 32 0#32] : Fin 2 → (⟨S_, .i32⟩ : BufTy).Contents (Elt F))) k (Shape.Idx.first h_S_)).toInt) sliceFits_S512x8_S1x8 : (Proc.devRef .tc main_while0b_call10_v0 : DevRef τ sig).ty.Contents (Elt F)) = Cert.ReferenceIdeal.Step.b14 j s := by
  unfold Cert.ReferenceIdeal.Step.b14
  rw [← al_13 h, h.f_4, h.n_8]
  try rfl
set_option maxRecDepth 8192 in
theorem al_15 (h : Holds V0 s j) : (shapeCast S8 (Host.dynamicSlice S1x8 (V0 (Proc.devRef .tc main_v126_4)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8 : (Proc.devRef .tc main_while0b_v131 : DevRef τ sig).ty.Contents (Elt F)) = Cert.ReferenceIdeal.Step.b15 j s := by
  unfold Cert.ReferenceIdeal.Step.b15
  rw [← al_14 h]
  try rfl
set_option maxRecDepth 8192 in
theorem al_16 (h : Holds V0 s j) : (constantI S_ 32 0#32 : (Proc.devRef .tc main_while0b_call11_c : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x8 (V0 (Proc.devRef .tc main_v126_5)) (fun k => (((![V0 (Proc.devRef .tc main_v126_8), constantI S_ 32 0#32] : Fin 2 → (⟨S_, .i32⟩ : BufTy).Contents (Elt F))) k (Shape.Idx.first h_S_)).toInt) sliceFits_S512x8_S1x8 : (Proc.devRef .tc main_while0b_call11_v0 : DevRef τ sig).ty.Contents (Elt F)) = Cert.ReferenceIdeal.Step.b17 j s := by
  unfold Cert.ReferenceIdeal.Step.b17
  rw [← al_16 h, h.f_5, h.n_8]
  try rfl
set_option maxRecDepth 8192 in
theorem al_18 (h : Holds V0 s j) : (shapeCast S8 (Host.dynamicSlice S1x8 (V0 (Proc.devRef .tc main_v126_5)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8 : (Proc.devRef .tc main_while0b_v132 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (constantI S_ 32 0#32 : (Proc.devRef .tc main_while0b_call12_c : DevRef τ sig).ty.Contents (Elt F)) = Cert.ReferenceIdeal.Step.b19 j s := by
  unfold Cert.ReferenceIdeal.Step.b19
  rfl
set_option maxRecDepth 8192 in
theorem al_20 (h : Holds V0 s j) : (Host.dynamicSlice S1x8 (V0 (Proc.devRef .tc main_v126_6)) (fun k => (((![V0 (Proc.devRef .tc main_v126_8), constantI S_ 32 0#32] : Fin 2 → (⟨S_, .i32⟩ : BufTy).Contents (Elt F))) k (Shape.Idx.first h_S_)).toInt) sliceFits_S512x8_S1x8 : (Proc.devRef .tc main_while0b_call12_v0 : DevRef τ sig).ty.Contents (Elt F)) = Cert.ReferenceIdeal.Step.b20 j s := by
  unfold Cert.ReferenceIdeal.Step.b20
  rw [← al_19 h, h.f_6, h.n_8]
  try rfl
set_option maxRecDepth 8192 in
theorem al_21 (h : Holds V0 s j) : (shapeCast S8 (Host.dynamicSlice S1x8 (V0 (Proc.devRef .tc main_v126_6)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8 : (Proc.devRef .tc main_while0b_v133 : DevRef τ sig).ty.Contents (Elt F)) = Cert.ReferenceIdeal.Step.b21 j s := by
  unfold Cert.ReferenceIdeal.Step.b21
  rw [← al_20 h]
  try rfl
set_option maxRecDepth 8192 in
theorem al_22 (h : Holds V0 s j) : (broadcastInDim S8x1 ![0] bcast_S8_S8x1_0 (res_main_while0b_v130 V0) : (Proc.devRef .tc main_while0b_v134 : DevRef τ sig).ty.Contents (Elt F)) = Cert.ReferenceIdeal.Step.b22 j s := by
  unfold Cert.ReferenceIdeal.Step.b22
  rw [← al_12 h]
  try rfl
set_option maxRecDepth 8192 in
theorem al_23 (h : Holds V0 s j) : (broadcastInDim S8x4 ![0, 1] bcast_S8x1_S8x4_0_1 (broadcastInDim S8x1 ![0] bcast_S8_S8x1_0 (res_main_while0b_v130 V0)) : (Proc.devRef .tc main_while0b_v135 : DevRef τ sig).ty.Contents (Elt F)) = Cert.ReferenceIdeal.Step.b23 j s := by
  unfold Cert.ReferenceIdeal.Step.b23
  rw [← al_22 h]
  try rfl
set_option maxRecDepth 8192 in
theorem al_24 (h : Holds V0 s j) : (res_main_while0b_v136 V0 : (Proc.devRef .tc main_while0b_v136 : DevRef τ sig).ty.Contents (Elt F)) = Cert.ReferenceIdeal.Step.b24 j s := by
  unfold res_main_while0b_v136 Cert.ReferenceIdeal.Step.b24
  rw [← al_5 h, ← al_23 h]
  try rfl
set_option maxRecDepth 8192 in
theorem al_25 (h : Holds V0 s j) : (broadcastInDim S8x1 ![0] bcast_S8_S8x1_0 (res_main_while0b_v130 V0) : (Proc.devRef .tc main_while0b_v137 : DevRef τ sig).ty.Contents (Elt F)) = Cert.ReferenceIdeal.Step.b25 j s := by
  unfold Cert.ReferenceIdeal.Step.b25
  rw [← al_12 h]
  try rfl
set_option maxRecDepth 8192 in
theorem al_26 (h : Holds V0 s j) : (broadcastInDim S8x4 ![0, 1] bcast_S8x1_S8x4_0_1 (broadcastInDim S8x1 ![0] bcast_S8_S8x1_0 (res_main_while0b_v130 V0)) : (Proc.devRef .tc main_while0b_v138 : DevRef τ sig).ty.Contents (Elt F)) = Cert.ReferenceIdeal.Step.b26 j s := by
  unfold Cert.ReferenceIdeal.Step.b26
  rw [← al_25 h]
  try rfl
set_option maxRecDepth 8192 in
theorem al_27 (h : Holds V0 s j) : (res_main_while0b_v139 V0 : (Proc.devRef .tc main_while0b_v139 : DevRef τ sig).ty.Contents (Elt F)) = Cert.ReferenceIdeal.Step.b27 j s := by
  unfold res_main_while0b_v139 Cert.ReferenceIdeal.Step.b27
  rw [← al_9 h, ← al_26 h]
  try rfl
set_option maxRecDepth 8192 in
theorem al_28 (h : Holds V0 s j) : (extractStridedSlice S8x2 ![0, 0] (res_main_while0b_v136 V0) slices_S8x4_S8x2_0_0 : (Proc.devRef .tc main_while0b_v140 : DevRef τ sig).ty.Contents (Elt F)) = Cert.ReferenceIdeal.Step.b28 j s := by
  unfold Cert.ReferenceIdeal.Step.b28
  rw [← al_24 h]
  try rfl
set_option maxRecDepth 8192 in
theorem al_29 (h : Holds V0 s j) : (constant S_ .f32 0x3E99999A#32 : (Proc.devRef .tc main_while0b_cst_36 : DevRef τ sig).ty.Contents (Elt F)) = Cert.ReferenceIdeal.Step.b29 j s := by
  unfold Cert.ReferenceIdeal.Step.b29
  rfl
set_option maxRecDepth 8192 in
theorem al_30 (h : Holds V0 s j) : (constant S_ .f32 0x3F800000#32 : (Proc.devRef .tc main_while0b_cst_37 : DevRef τ sig).ty.Contents (Elt F)) = Cert.ReferenceIdeal.Step.b30 j s := by
  unfold Cert.ReferenceIdeal.Step.b30
  rfl
set_option maxRecDepth 8192 in
theorem al_31 (h : Holds V0 s j) : (broadcastInDim S8 ![] bcast_S_S8 (constant S_ .f32 0x3E99999A#32) : (Proc.devRef .tc main_while0b_call13_v0 : DevRef τ sig).ty.Contents (Elt F)) = Cert.ReferenceIdeal.Step.b31 j s := by
  unfold Cert.ReferenceIdeal.Step.b31
  rw [← al_29 h]
  try rfl
set_option maxRecDepth 8192 in
theorem al_32 (h : Holds V0 s j) : (broadcastInDim S8 ![] bcast_S_S8 (constant S_ .f32 0x3F800000#32) : (Proc.devRef .tc main_while0b_call13_v1 : DevRef τ sig).ty.Contents (Elt F)) = Cert.ReferenceIdeal.Step.b32 j s := by
  unfold Cert.ReferenceIdeal.Step.b32
  rw [← al_30 h]
  try rfl
set_option maxRecDepth 8192 in
theorem al_33 (h : Holds V0 s j) : (select (shapeCast S8 (Host.dynamicSlice S1x8 (V0 (Proc.devRef .tc main_v126_4)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3E99999A#32)) (broadcastInDim S8 ![] bcast_S_S8 (constant S_ .f32 0x3F800000#32)) : (Proc.devRef .tc main_while0b_v141 : DevRef τ sig).ty.Contents (Elt F)) = Cert.ReferenceIdeal.Step.b33 j s := by
  unfold Cert.ReferenceIdeal.Step.b33
  rw [← al_15 h, ← al_31 h, ← al_32 h]
  try rfl
set_option maxRecDepth 8192 in
theorem al_34 (h : Holds V0 s j) : (broadcastInDim S8x1 ![0] bcast_S8_S8x1_0 (select (shapeCast S8 (Host.dynamicSlice S1x8 (V0 (Proc.devRef .tc main_v126_4)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3E99999A#32)) (broadcastInDim S8 ![] bcast_S_S8 (constant S_ .f32 0x3F800000#32))) : (Proc.devRef .tc main_while0b_v142 : DevRef τ sig).ty.Contents (Elt F)) = Cert.ReferenceIdeal.Step.b34 j s := by
  unfold Cert.ReferenceIdeal.Step.b34
  rw [← al_33 h]
  try rfl
set_option maxRecDepth 8192 in
theorem al_35 (h : Holds V0 s j) : (id (broadcastInDim S8x1 ![0] bcast_S8_S8x1_0 (select (shapeCast S8 (Host.dynamicSlice S1x8 (V0 (Proc.devRef .tc main_v126_4)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3E99999A#32)) (broadcastInDim S8 ![] bcast_S_S8 (constant S_ .f32 0x3F800000#32)))) : (Proc.devRef .tc main_while0b_v143 : DevRef τ sig).ty.Contents (Elt F)) = Cert.ReferenceIdeal.Step.b35 j s := by
  unfold Cert.ReferenceIdeal.Step.b35
  rw [← al_34 h]
  try rfl
set_option maxRecDepth 8192 in
theorem al_36 (h : Holds V0 s j) : (broadcastInDim S8x2 ![0, 1] bcast_S8x1_S8x2_0_1 (id (broadcastInDim S8x1 ![0] bcast_S8_S8x1_0 (select (shapeCast S8 (Host.dynamicSlice S1x8 (V0 (Proc.devRef .tc main_v126_4)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3E99999A#32)) (broadcastInDim S8 ![] bcast_S_S8 (constant S_ .f32 0x3F800000#32))))) : (Proc.devRef .tc main_while0b_v144 : DevRef τ sig).ty.Contents (Elt F)) = Cert.ReferenceIdeal.Step.b36 j s := by
  unfold Cert.ReferenceIdeal.Step.b36
  rw [← al_35 h]
  try rfl
set_option maxRecDepth 8192 in
theorem al_37 (h : Holds V0 s j) : (mulf (extractStridedSlice S8x2 ![0, 0] (res_main_while0b_v136 V0) slices_S8x4_S8x2_0_0) (broadcastInDim S8x2 ![0, 1] bcast_S8x1_S8x2_0_1 (id (broadcastInDim S8x1 ![0] bcast_S8_S8x1_0 (select (shapeCast S8 (Host.dynamicSlice S1x8 (V0 (Proc.devRef .tc main_v126_4)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3E99999A#32)) (broadcastInDim S8 ![] bcast_S_S8 (constant S_ .f32 0x3F800000#32)))))) : (Proc.devRef .tc main_while0b_v145 : DevRef τ sig).ty.Contents (Elt F)) = Cert.ReferenceIdeal.Step.b37 j s := by
  unfold Cert.ReferenceIdeal.Step.b37
  rw [← al_28 h, ← al_36 h]
  try rfl
set_option maxRecDepth 8192 in
theorem al_38 (h : Holds V0 s j) : (extractStridedSlice S8x2 ![0, 0] (res_main_while0b_v139 V0) slices_S8x4_S8x2_0_0 : (Proc.devRef .tc main_while0b_v146 : DevRef τ sig).ty.Contents (Elt F)) = Cert.ReferenceIdeal.Step.b38 j s := by
  unfold Cert.ReferenceIdeal.Step.b38
  rw [← al_27 h]
  try rfl
set_option maxRecDepth 8192 in
theorem al_39 (h : Holds V0 s j) : (constant S_ .f32 0x3E99999A#32 : (Proc.devRef .tc main_while0b_cst_38 : DevRef τ sig).ty.Contents (Elt F)) = Cert.ReferenceIdeal.Step.b39 j s := by
  unfold Cert.ReferenceIdeal.Step.b39
  rfl
set_option maxRecDepth 8192 in
theorem al_40 (h : Holds V0 s j) : (constant S_ .f32 0x3F800000#32 : (Proc.devRef .tc main_while0b_cst_39 : DevRef τ sig).ty.Contents (Elt F)) = Cert.ReferenceIdeal.Step.b40 j s := by
  unfold Cert.ReferenceIdeal.Step.b40
  rfl
set_option maxRecDepth 8192 in
theorem al_41 (h : Holds V0 s j) : (broadcastInDim S8 ![] bcast_S_S8 (constant S_ .f32 0x3E99999A#32) : (Proc.devRef .tc main_while0b_call14_v0 : DevRef τ sig).ty.Contents (Elt F)) = Cert.ReferenceIdeal.Step.b41 j s := by
  unfold Cert.ReferenceIdeal.Step.b41
  rw [← al_39 h]
  try rfl
set_option maxRecDepth 8192 in
theorem al_42 (h : Holds V0 s j) : (broadcastInDim S8 ![] bcast_S_S8 (constant S_ .f32 0x3F800000#32) : (Proc.devRef .tc main_while0b_call14_v1 : DevRef τ sig).ty.Contents (Elt F)) = Cert.ReferenceIdeal.Step.b42 j s := by
  unfold Cert.ReferenceIdeal.Step.b42
  rw [← al_40 h]
  try rfl
set_option maxRecDepth 8192 in
theorem al_43 (h : Holds V0 s j) : (select (shapeCast S8 (Host.dynamicSlice S1x8 (V0 (Proc.devRef .tc main_v126_5)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3E99999A#32)) (broadcastInDim S8 ![] bcast_S_S8 (constant S_ .f32 0x3F800000#32)) : (Proc.devRef .tc main_while0b_v147 : DevRef τ sig).ty.Contents (Elt F)) = Cert.ReferenceIdeal.Step.b43 j s := by
  unfold Cert.ReferenceIdeal.Step.b43
  rw [← al_18 h, ← al_41 h, ← al_42 h]
  try rfl
set_option maxRecDepth 8192 in
theorem al_44 (h : Holds V0 s j) : (broadcastInDim S8x1 ![0] bcast_S8_S8x1_0 (select (shapeCast S8 (Host.dynamicSlice S1x8 (V0 (Proc.devRef .tc main_v126_5)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3E99999A#32)) (broadcastInDim S8 ![] bcast_S_S8 (constant S_ .f32 0x3F800000#32))) : (Proc.devRef .tc main_while0b_v148 : DevRef τ sig).ty.Contents (Elt F)) = Cert.ReferenceIdeal.Step.b44 j s := by
  unfold Cert.ReferenceIdeal.Step.b44
  rw [← al_43 h]
  try rfl
set_option maxRecDepth 8192 in
theorem al_45 (h : Holds V0 s j) : (id (broadcastInDim S8x1 ![0] bcast_S8_S8x1_0 (select (shapeCast S8 (Host.dynamicSlice S1x8 (V0 (Proc.devRef .tc main_v126_5)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3E99999A#32)) (broadcastInDim S8 ![] bcast_S_S8 (constant S_ .f32 0x3F800000#32)))) : (Proc.devRef .tc main_while0b_v149 : DevRef τ sig).ty.Contents (Elt F)) = Cert.ReferenceIdeal.Step.b45 j s := by
  unfold Cert.ReferenceIdeal.Step.b45
  rw [← al_44 h]
  try rfl
set_option maxRecDepth 8192 in
theorem al_46 (h : Holds V0 s j) : (broadcastInDim S8x2 ![0, 1] bcast_S8x1_S8x2_0_1 (id (broadcastInDim S8x1 ![0] bcast_S8_S8x1_0 (select (shapeCast S8 (Host.dynamicSlice S1x8 (V0 (Proc.devRef .tc main_v126_5)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3E99999A#32)) (broadcastInDim S8 ![] bcast_S_S8 (constant S_ .f32 0x3F800000#32))))) : (Proc.devRef .tc main_while0b_v150 : DevRef τ sig).ty.Contents (Elt F)) = Cert.ReferenceIdeal.Step.b46 j s := by
  unfold Cert.ReferenceIdeal.Step.b46
  rw [← al_45 h]
  try rfl
set_option maxRecDepth 8192 in
theorem al_47 (h : Holds V0 s j) : (mulf (extractStridedSlice S8x2 ![0, 0] (res_main_while0b_v139 V0) slices_S8x4_S8x2_0_0) (broadcastInDim S8x2 ![0, 1] bcast_S8x1_S8x2_0_1 (id (broadcastInDim S8x1 ![0] bcast_S8_S8x1_0 (select (shapeCast S8 (Host.dynamicSlice S1x8 (V0 (Proc.devRef .tc main_v126_5)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3E99999A#32)) (broadcastInDim S8 ![] bcast_S_S8 (constant S_ .f32 0x3F800000#32)))))) : (Proc.devRef .tc main_while0b_v151 : DevRef τ sig).ty.Contents (Elt F)) = Cert.ReferenceIdeal.Step.b47 j s := by
  unfold Cert.ReferenceIdeal.Step.b47
  rw [← al_38 h, ← al_46 h]
  try rfl
set_option maxRecDepth 8192 in
theorem al_48 (h : Holds V0 s j) : (broadcastInDim S4 ![] bcast_S_S4 (res_main_while0b_v127 V0) : (Proc.devRef .tc main_while0b_v152 : DevRef τ sig).ty.Contents (Elt F)) = Cert.ReferenceIdeal.Step.b48 j s := by
  unfold Cert.ReferenceIdeal.Step.b48
  rw [← al_1 h]
  try rfl
set_option maxRecDepth 8192 in
theorem al_49 (h : Holds V0 s j) : (res_main_while0b_v153 V0 : (Proc.devRef .tc main_while0b_v153 : DevRef τ sig).ty.Contents (Elt F)) = Cert.ReferenceIdeal.Step.b49 j s := by
  unfold res_main_while0b_v153 Cert.ReferenceIdeal.Step.b49
  rw [← al_48 h, h.k_7]
  try rfl
set_option maxRecDepth 8192 in
theorem al_50 (h : Holds V0 s j) : (constantI S_ 32 0#32 : (Proc.devRef .tc main_while0b_c_40 : DevRef τ sig).ty.Contents (Elt F)) = Cert.ReferenceIdeal.Step.b50 j s := by
  unfold Cert.ReferenceIdeal.Step.b50
  rfl
set_option maxRecDepth 8192 in
theorem al_51 (h : Holds V0 s j) : (broadcastInDim S4 ![] bcast_S_S4 (constantI S_ 32 0#32) : (Proc.devRef .tc main_while0b_v154 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (cmpi .sge (res_main_while0b_v153 V0) (broadcastInDim S4 ![] bcast_S_S4 (constantI S_ 32 0#32)) : (Proc.devRef .tc main_while0b_v155 : DevRef τ sig).ty.Contents (Elt F)) = Cert.ReferenceIdeal.Step.b52 j s := by
  unfold Cert.ReferenceIdeal.Step.b52
  rw [← al_49 h, ← al_51 h]
  try rfl
set_option maxRecDepth 8192 in
theorem al_53 (h : Holds V0 s j) : (constantI S_ 32 512#32 : (Proc.devRef .tc main_while0b_c_41 : DevRef τ sig).ty.Contents (Elt F)) = Cert.ReferenceIdeal.Step.b53 j s := by
  unfold Cert.ReferenceIdeal.Step.b53
  rfl
set_option maxRecDepth 8192 in
theorem al_54 (h : Holds V0 s j) : (broadcastInDim S4 ![] bcast_S_S4 (constantI S_ 32 512#32) : (Proc.devRef .tc main_while0b_v156 : DevRef τ sig).ty.Contents (Elt F)) = Cert.ReferenceIdeal.Step.b54 j s := by
  unfold Cert.ReferenceIdeal.Step.b54
  rw [← al_53 h]
  try rfl
set_option maxRecDepth 8192 in
theorem al_55 (h : Holds V0 s j) : (cmpi .slt (res_main_while0b_v153 V0) (broadcastInDim S4 ![] bcast_S_S4 (constantI S_ 32 512#32)) : (Proc.devRef .tc main_while0b_v157 : DevRef τ sig).ty.Contents (Elt F)) = Cert.ReferenceIdeal.Step.b55 j s := by
  unfold Cert.ReferenceIdeal.Step.b55
  rw [← al_49 h, ← al_54 h]
  try rfl
set_option maxRecDepth 8192 in
theorem al_56 (h : Holds V0 s j) : (andi (cmpi .sge (res_main_while0b_v153 V0) (broadcastInDim S4 ![] bcast_S_S4 (constantI S_ 32 0#32))) (cmpi .slt (res_main_while0b_v153 V0) (broadcastInDim S4 ![] bcast_S_S4 (constantI S_ 32 512#32))) : (Proc.devRef .tc main_while0b_v158 : DevRef τ sig).ty.Contents (Elt F)) = Cert.ReferenceIdeal.Step.b56 j s := by
  unfold Cert.ReferenceIdeal.Step.b56
  rw [← al_52 h, ← al_55 h]
  try rfl
set_option maxRecDepth 8192 in
theorem al_57 (h : Holds V0 s j) : (constantI S_ 32 0#32 : (Proc.devRef .tc main_while0b_c_42 : DevRef τ sig).ty.Contents (Elt F)) = Cert.ReferenceIdeal.Step.b57 j s := by
  unfold Cert.ReferenceIdeal.Step.b57
  rfl
set_option maxRecDepth 8192 in
theorem al_58 (h : Holds V0 s j) : (constantI S_ 32 511#32 : (Proc.devRef .tc main_while0b_c_43 : DevRef τ sig).ty.Contents (Elt F)) = Cert.ReferenceIdeal.Step.b58 j s := by
  unfold Cert.ReferenceIdeal.Step.b58
  rfl
set_option maxRecDepth 8192 in
theorem al_59 (h : Holds V0 s j) : (id (constantI S_ 32 0#32) : (Proc.devRef .tc main_while0b_call15_v0 : DevRef τ sig).ty.Contents (Elt F)) = Cert.ReferenceIdeal.Step.b59 j s := by
  unfold Cert.ReferenceIdeal.Step.b59
  rw [← al_57 h]
  try rfl
set_option maxRecDepth 8192 in
theorem al_60 (h : Holds V0 s j) : (broadcastInDim S4 ![] bcast_S_S4 (id (constantI S_ 32 0#32)) : (Proc.devRef .tc main_while0b_call15_v1 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (maxsi (broadcastInDim S4 ![] bcast_S_S4 (id (constantI S_ 32 0#32))) (res_main_while0b_v153 V0) : (Proc.devRef .tc main_while0b_call15_v2 : DevRef τ sig).ty.Contents (Elt F)) = Cert.ReferenceIdeal.Step.b61 j s := by
  unfold Cert.ReferenceIdeal.Step.b61
  rw [← al_60 h, ← al_49 h]
  try rfl
set_option maxRecDepth 8192 in
theorem al_62 (h : Holds V0 s j) : (id (constantI S_ 32 511#32) : (Proc.devRef .tc main_while0b_call15_v3 : DevRef τ sig).ty.Contents (Elt F)) = Cert.ReferenceIdeal.Step.b62 j s := by
  unfold Cert.ReferenceIdeal.Step.b62
  rw [← al_58 h]
  try rfl
set_option maxRecDepth 8192 in
theorem al_63 (h : Holds V0 s j) : (broadcastInDim S4 ![] bcast_S_S4 (id (constantI S_ 32 511#32)) : (Proc.devRef .tc main_while0b_call15_v4 : DevRef τ sig).ty.Contents (Elt F)) = Cert.ReferenceIdeal.Step.b63 j s := by
  unfold Cert.ReferenceIdeal.Step.b63
  rw [← al_62 h]
  try rfl
set_option maxRecDepth 8192 in
theorem al_64 (h : Holds V0 s j) : (res_main_while0b_v159 V0 : (Proc.devRef .tc main_while0b_v159 : DevRef τ sig).ty.Contents (Elt F)) = Cert.ReferenceIdeal.Step.b64 j s := by
  unfold res_main_while0b_v159 Cert.ReferenceIdeal.Step.b64
  rw [← al_63 h, ← al_61 h]
  try rfl
set_option maxRecDepth 8192 in
theorem al_65 (h : Holds V0 s j) : (constantI S_ 32 0#32 : (Proc.devRef .tc main_while0b_c_44 : DevRef τ sig).ty.Contents (Elt F)) = Cert.ReferenceIdeal.Step.b65 j s := by
  unfold Cert.ReferenceIdeal.Step.b65
  rfl
set_option maxRecDepth 8192 in
theorem al_66 (h : Holds V0 s j) : (broadcastInDim S4 ![] bcast_S_S4 (constantI S_ 32 0#32) : (Proc.devRef .tc main_while0b_v160 : DevRef τ sig).ty.Contents (Elt F)) = Cert.ReferenceIdeal.Step.b66 j s := by
  unfold Cert.ReferenceIdeal.Step.b66
  rw [← al_65 h]
  try rfl
set_option maxRecDepth 8192 in
theorem al_67 (h : Holds V0 s j) : (cmpi .slt (res_main_while0b_v159 V0) (broadcastInDim S4 ![] bcast_S_S4 (constantI S_ 32 0#32)) : (Proc.devRef .tc main_while0b_v161 : DevRef τ sig).ty.Contents (Elt F)) = Cert.ReferenceIdeal.Step.b67 j s := by
  unfold Cert.ReferenceIdeal.Step.b67
  rw [← al_64 h, ← al_66 h]
  try rfl
set_option maxRecDepth 8192 in
theorem al_68 (h : Holds V0 s j) : (constantI S_ 32 512#32 : (Proc.devRef .tc main_while0b_c_45 : DevRef τ sig).ty.Contents (Elt F)) = Cert.ReferenceIdeal.Step.b68 j s := by
  unfold Cert.ReferenceIdeal.Step.b68
  rfl
set_option maxRecDepth 8192 in
theorem al_69 (h : Holds V0 s j) : (broadcastInDim S4 ![] bcast_S_S4 (constantI S_ 32 512#32) : (Proc.devRef .tc main_while0b_v162 : DevRef τ sig).ty.Contents (Elt F)) = Cert.ReferenceIdeal.Step.b69 j s := by
  unfold Cert.ReferenceIdeal.Step.b69
  rw [← al_68 h]
  try rfl
set_option maxRecDepth 8192 in
theorem al_70 (h : Holds V0 s j) : (addi (res_main_while0b_v159 V0) (broadcastInDim S4 ![] bcast_S_S4 (constantI S_ 32 512#32)) : (Proc.devRef .tc main_while0b_v163 : DevRef τ sig).ty.Contents (Elt F)) = Cert.ReferenceIdeal.Step.b70 j s := by
  unfold Cert.ReferenceIdeal.Step.b70
  rw [← al_64 h, ← al_69 h]
  try rfl
set_option maxRecDepth 8192 in
theorem al_71 (h : Holds V0 s j) : (select (cmpi .slt (res_main_while0b_v159 V0) (broadcastInDim S4 ![] bcast_S_S4 (constantI S_ 32 0#32))) (addi (res_main_while0b_v159 V0) (broadcastInDim S4 ![] bcast_S_S4 (constantI S_ 32 512#32))) (res_main_while0b_v159 V0) : (Proc.devRef .tc main_while0b_v164 : DevRef τ sig).ty.Contents (Elt F)) = Cert.ReferenceIdeal.Step.b71 j s := by
  unfold Cert.ReferenceIdeal.Step.b71
  rw [← al_67 h, ← al_70 h, ← al_64 h]
  try rfl
set_option maxRecDepth 8192 in
theorem al_72 (h : Holds V0 s j) : (broadcastInDim S4x1 ![0] bcast_S4_S4x1_0 (select (cmpi .slt (res_main_while0b_v159 V0) (broadcastInDim S4 ![] bcast_S_S4 (constantI S_ 32 0#32))) (addi (res_main_while0b_v159 V0) (broadcastInDim S4 ![] bcast_S_S4 (constantI S_ 32 512#32))) (res_main_while0b_v159 V0)) : (Proc.devRef .tc main_while0b_v165 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (Host.gather gather_S8x512x4_S4x1_S8x4x4_02_1_n_n_1_1_814 (V0 (Proc.devRef .tc main_v126_9)) (broadcastInDim S4x1 ![0] bcast_S4_S4x1_0 (select (cmpi .slt (res_main_while0b_v159 V0) (broadcastInDim S4 ![] bcast_S_S4 (constantI S_ 32 0#32))) (addi (res_main_while0b_v159 V0) (broadcastInDim S4 ![] bcast_S_S4 (constantI S_ 32 512#32))) (res_main_while0b_v159 V0))) : (Proc.devRef .tc main_while0b_v166 : DevRef τ sig).ty.Contents (Elt F)) = Cert.ReferenceIdeal.Step.b73 j s := by
  unfold Cert.ReferenceIdeal.Step.b73
  rw [← al_72 h, h.f_9]
  try rfl
set_option maxRecDepth 8192 in
theorem al_74 (h : Holds V0 s j) : (constant S_ .f32 0xFF800000#32 : (Proc.devRef .tc main_while0b_cst_46 : DevRef τ sig).ty.Contents (Elt F)) = Cert.ReferenceIdeal.Step.b74 j s := by
  unfold Cert.ReferenceIdeal.Step.b74
  rfl
set_option maxRecDepth 8192 in
theorem al_75 (h : Holds V0 s j) : (Host.reduce FloatOps.maximumf (Host.gather gather_S8x512x4_S4x1_S8x4x4_02_1_n_n_1_1_814 (V0 (Proc.devRef .tc main_v126_9)) (broadcastInDim S4x1 ![0] bcast_S4_S4x1_0 (select (cmpi .slt (res_main_while0b_v159 V0) (broadcastInDim S4 ![] bcast_S_S4 (constantI S_ 32 0#32))) (addi (res_main_while0b_v159 V0) (broadcastInDim S4 ![] bcast_S_S4 (constantI S_ 32 512#32))) (res_main_while0b_v159 V0)))) (constant S_ .f32 0xFF800000#32) reducesTo_S8x4x4_S8x4_d2 h_S_ : (Proc.devRef .tc main_while0b_v167 : DevRef τ sig).ty.Contents (Elt F)) = Cert.ReferenceIdeal.Step.b75 j s := by
  unfold Cert.ReferenceIdeal.Step.b75
  rw [← al_73 h, ← al_74 h]
  try rfl
set_option maxRecDepth 8192 in
theorem al_76 (h : Holds V0 s j) : (constant S_ .f32 0x3F000000#32 : (Proc.devRef .tc main_while0b_cst_47 : DevRef τ sig).ty.Contents (Elt F)) = Cert.ReferenceIdeal.Step.b76 j s := by
  unfold Cert.ReferenceIdeal.Step.b76
  rfl
set_option maxRecDepth 8192 in
theorem al_77 (h : Holds V0 s j) : (broadcastInDim S8x4 ![] bcast_S_S8x4 (constant S_ .f32 0x3F000000#32) : (Proc.devRef .tc main_while0b_v168 : DevRef τ sig).ty.Contents (Elt F)) = Cert.ReferenceIdeal.Step.b77 j s := by
  unfold Cert.ReferenceIdeal.Step.b77
  rw [← al_76 h]
  try rfl
set_option maxRecDepth 8192 in
theorem al_78 (h : Holds V0 s j) : (cmpf .ogt (Host.reduce FloatOps.maximumf (Host.gather gather_S8x512x4_S4x1_S8x4x4_02_1_n_n_1_1_814 (V0 (Proc.devRef .tc main_v126_9)) (broadcastInDim S4x1 ![0] bcast_S4_S4x1_0 (select (cmpi .slt (res_main_while0b_v159 V0) (broadcastInDim S4 ![] bcast_S_S4 (constantI S_ 32 0#32))) (addi (res_main_while0b_v159 V0) (broadcastInDim S4 ![] bcast_S_S4 (constantI S_ 32 512#32))) (res_main_while0b_v159 V0)))) (constant S_ .f32 0xFF800000#32) reducesTo_S8x4x4_S8x4_d2 h_S_) (broadcastInDim S8x4 ![] bcast_S_S8x4 (constant S_ .f32 0x3F000000#32)) : (Proc.devRef .tc main_while0b_v169 : DevRef τ sig).ty.Contents (Elt F)) = Cert.ReferenceIdeal.Step.b78 j s := by
  unfold Cert.ReferenceIdeal.Step.b78
  rw [← al_75 h, ← al_77 h]
  try rfl
set_option maxRecDepth 8192 in
theorem al_79 (h : Holds V0 s j) : (constantI S_ 32 0#32 : (Proc.devRef .tc main_while0b_c_48 : DevRef τ sig).ty.Contents (Elt F)) = Cert.ReferenceIdeal.Step.b79 j s := by
  unfold Cert.ReferenceIdeal.Step.b79
  rfl
set_option maxRecDepth 8192 in
theorem al_80 (h : Holds V0 s j) : (broadcastInDim S4 ![] bcast_S_S4 (constantI S_ 32 0#32) : (Proc.devRef .tc main_while0b_v170 : DevRef τ sig).ty.Contents (Elt F)) = Cert.ReferenceIdeal.Step.b80 j s := by
  unfold Cert.ReferenceIdeal.Step.b80
  rw [← al_79 h]
  try rfl
set_option maxRecDepth 8192 in
theorem al_81 (h : Holds V0 s j) : (cmpi .slt (res_main_while0b_v159 V0) (broadcastInDim S4 ![] bcast_S_S4 (constantI S_ 32 0#32)) : (Proc.devRef .tc main_while0b_v171 : DevRef τ sig).ty.Contents (Elt F)) = Cert.ReferenceIdeal.Step.b81 j s := by
  unfold Cert.ReferenceIdeal.Step.b81
  rw [← al_64 h, ← al_80 h]
  try rfl
set_option maxRecDepth 8192 in
theorem al_82 (h : Holds V0 s j) : (constantI S_ 32 512#32 : (Proc.devRef .tc main_while0b_c_49 : DevRef τ sig).ty.Contents (Elt F)) = Cert.ReferenceIdeal.Step.b82 j s := by
  unfold Cert.ReferenceIdeal.Step.b82
  rfl
set_option maxRecDepth 8192 in
theorem al_83 (h : Holds V0 s j) : (broadcastInDim S4 ![] bcast_S_S4 (constantI S_ 32 512#32) : (Proc.devRef .tc main_while0b_v172 : DevRef τ sig).ty.Contents (Elt F)) = Cert.ReferenceIdeal.Step.b83 j s := by
  unfold Cert.ReferenceIdeal.Step.b83
  rw [← al_82 h]
  try rfl
set_option maxRecDepth 8192 in
theorem al_84 (h : Holds V0 s j) : (addi (res_main_while0b_v159 V0) (broadcastInDim S4 ![] bcast_S_S4 (constantI S_ 32 512#32)) : (Proc.devRef .tc main_while0b_v173 : DevRef τ sig).ty.Contents (Elt F)) = Cert.ReferenceIdeal.Step.b84 j s := by
  unfold Cert.ReferenceIdeal.Step.b84
  rw [← al_64 h, ← al_83 h]
  try rfl
set_option maxRecDepth 8192 in
theorem al_85 (h : Holds V0 s j) : (select (cmpi .slt (res_main_while0b_v159 V0) (broadcastInDim S4 ![] bcast_S_S4 (constantI S_ 32 0#32))) (addi (res_main_while0b_v159 V0) (broadcastInDim S4 ![] bcast_S_S4 (constantI S_ 32 512#32))) (res_main_while0b_v159 V0) : (Proc.devRef .tc main_while0b_v174 : DevRef τ sig).ty.Contents (Elt F)) = Cert.ReferenceIdeal.Step.b85 j s := by
  unfold Cert.ReferenceIdeal.Step.b85
  rw [← al_81 h, ← al_84 h, ← al_64 h]
  try rfl
set_option maxRecDepth 8192 in
theorem al_86 (h : Holds V0 s j) : (broadcastInDim S4x1 ![0] bcast_S4_S4x1_0 (select (cmpi .slt (res_main_while0b_v159 V0) (broadcastInDim S4 ![] bcast_S_S4 (constantI S_ 32 0#32))) (addi (res_main_while0b_v159 V0) (broadcastInDim S4 ![] bcast_S_S4 (constantI S_ 32 512#32))) (res_main_while0b_v159 V0)) : (Proc.devRef .tc main_while0b_v175 : DevRef τ sig).ty.Contents (Elt F)) = Cert.ReferenceIdeal.Step.b86 j s := by
  unfold Cert.ReferenceIdeal.Step.b86
  rw [← al_85 h]
  try rfl
set_option maxRecDepth 8192 in
theorem al_87 (h : Holds V0 s j) : (Host.gather gather_S8x512x4_S4x1_S8x4x4_02_1_n_n_1_1_814 (V0 (Proc.devRef .tc main_v126_10)) (broadcastInDim S4x1 ![0] bcast_S4_S4x1_0 (select (cmpi .slt (res_main_while0b_v159 V0) (broadcastInDim S4 ![] bcast_S_S4 (constantI S_ 32 0#32))) (addi (res_main_while0b_v159 V0) (broadcastInDim S4 ![] bcast_S_S4 (constantI S_ 32 512#32))) (res_main_while0b_v159 V0))) : (Proc.devRef .tc main_while0b_v176 : DevRef τ sig).ty.Contents (Elt F)) = Cert.ReferenceIdeal.Step.b87 j s := by
  unfold Cert.ReferenceIdeal.Step.b87
  rw [← al_86 h, h.f_10]
  try rfl
set_option maxRecDepth 8192 in
theorem al_88 (h : Holds V0 s j) : (constant S_ .f32 0xFF800000#32 : (Proc.devRef .tc main_while0b_cst_50 : DevRef τ sig).ty.Contents (Elt F)) = Cert.ReferenceIdeal.Step.b88 j s := by
  unfold Cert.ReferenceIdeal.Step.b88
  rfl
set_option maxRecDepth 8192 in
theorem al_89 (h : Holds V0 s j) : (Host.reduce FloatOps.maximumf (Host.gather gather_S8x512x4_S4x1_S8x4x4_02_1_n_n_1_1_814 (V0 (Proc.devRef .tc main_v126_10)) (broadcastInDim S4x1 ![0] bcast_S4_S4x1_0 (select (cmpi .slt (res_main_while0b_v159 V0) (broadcastInDim S4 ![] bcast_S_S4 (constantI S_ 32 0#32))) (addi (res_main_while0b_v159 V0) (broadcastInDim S4 ![] bcast_S_S4 (constantI S_ 32 512#32))) (res_main_while0b_v159 V0)))) (constant S_ .f32 0xFF800000#32) reducesTo_S8x4x4_S8x4_d2 h_S_ : (Proc.devRef .tc main_while0b_v177 : DevRef τ sig).ty.Contents (Elt F)) = Cert.ReferenceIdeal.Step.b89 j s := by
  unfold Cert.ReferenceIdeal.Step.b89
  rw [← al_87 h, ← al_88 h]
  try rfl
set_option maxRecDepth 8192 in
theorem al_90 (h : Holds V0 s j) : (constant S_ .f32 0x3F000000#32 : (Proc.devRef .tc main_while0b_cst_51 : DevRef τ sig).ty.Contents (Elt F)) = Cert.ReferenceIdeal.Step.b90 j s := by
  unfold Cert.ReferenceIdeal.Step.b90
  rfl
set_option maxRecDepth 8192 in
theorem al_91 (h : Holds V0 s j) : (broadcastInDim S8x4 ![] bcast_S_S8x4 (constant S_ .f32 0x3F000000#32) : (Proc.devRef .tc main_while0b_v178 : DevRef τ sig).ty.Contents (Elt F)) = Cert.ReferenceIdeal.Step.b91 j s := by
  unfold Cert.ReferenceIdeal.Step.b91
  rw [← al_90 h]
  try rfl
set_option maxRecDepth 8192 in
theorem al_92 (h : Holds V0 s j) : (cmpf .ogt (Host.reduce FloatOps.maximumf (Host.gather gather_S8x512x4_S4x1_S8x4x4_02_1_n_n_1_1_814 (V0 (Proc.devRef .tc main_v126_10)) (broadcastInDim S4x1 ![0] bcast_S4_S4x1_0 (select (cmpi .slt (res_main_while0b_v159 V0) (broadcastInDim S4 ![] bcast_S_S4 (constantI S_ 32 0#32))) (addi (res_main_while0b_v159 V0) (broadcastInDim S4 ![] bcast_S_S4 (constantI S_ 32 512#32))) (res_main_while0b_v159 V0)))) (constant S_ .f32 0xFF800000#32) reducesTo_S8x4x4_S8x4_d2 h_S_) (broadcastInDim S8x4 ![] bcast_S_S8x4 (constant S_ .f32 0x3F000000#32)) : (Proc.devRef .tc main_while0b_v179 : DevRef τ sig).ty.Contents (Elt F)) = Cert.ReferenceIdeal.Step.b92 j s := by
  unfold Cert.ReferenceIdeal.Step.b92
  rw [← al_89 h, ← al_91 h]
  try rfl
set_option maxRecDepth 8192 in
theorem al_93 (h : Holds V0 s j) : (ori (cmpf .ogt (Host.reduce FloatOps.maximumf (Host.gather gather_S8x512x4_S4x1_S8x4x4_02_1_n_n_1_1_814 (V0 (Proc.devRef .tc main_v126_9)) (broadcastInDim S4x1 ![0] bcast_S4_S4x1_0 (select (cmpi .slt (res_main_while0b_v159 V0) (broadcastInDim S4 ![] bcast_S_S4 (constantI S_ 32 0#32))) (addi (res_main_while0b_v159 V0) (broadcastInDim S4 ![] bcast_S_S4 (constantI S_ 32 512#32))) (res_main_while0b_v159 V0)))) (constant S_ .f32 0xFF800000#32) reducesTo_S8x4x4_S8x4_d2 h_S_) (broadcastInDim S8x4 ![] bcast_S_S8x4 (constant S_ .f32 0x3F000000#32))) (cmpf .ogt (Host.reduce FloatOps.maximumf (Host.gather gather_S8x512x4_S4x1_S8x4x4_02_1_n_n_1_1_814 (V0 (Proc.devRef .tc main_v126_10)) (broadcastInDim S4x1 ![0] bcast_S4_S4x1_0 (select (cmpi .slt (res_main_while0b_v159 V0) (broadcastInDim S4 ![] bcast_S_S4 (constantI S_ 32 0#32))) (addi (res_main_while0b_v159 V0) (broadcastInDim S4 ![] bcast_S_S4 (constantI S_ 32 512#32))) (res_main_while0b_v159 V0)))) (constant S_ .f32 0xFF800000#32) reducesTo_S8x4x4_S8x4_d2 h_S_) (broadcastInDim S8x4 ![] bcast_S_S8x4 (constant S_ .f32 0x3F000000#32))) : (Proc.devRef .tc main_while0b_v180 : DevRef τ sig).ty.Contents (Elt F)) = Cert.ReferenceIdeal.Step.b93 j s := by
  unfold Cert.ReferenceIdeal.Step.b93
  rw [← al_78 h, ← al_92 h]
  try rfl
set_option maxRecDepth 8192 in
theorem al_94 (h : Holds V0 s j) : (broadcastInDim S1x4 ![1] bcast_S4_S1x4_1 (andi (cmpi .sge (res_main_while0b_v153 V0) (broadcastInDim S4 ![] bcast_S_S4 (constantI S_ 32 0#32))) (cmpi .slt (res_main_while0b_v153 V0) (broadcastInDim S4 ![] bcast_S_S4 (constantI S_ 32 512#32)))) : (Proc.devRef .tc main_while0b_v181 : DevRef τ sig).ty.Contents (Elt F)) = Cert.ReferenceIdeal.Step.b94 j s := by
  unfold Cert.ReferenceIdeal.Step.b94
  rw [← al_56 h]
  try rfl
set_option maxRecDepth 8192 in
theorem al_95 (h : Holds V0 s j) : (broadcastInDim S8x4 ![0, 1] bcast_S1x4_S8x4_0_1 (broadcastInDim S1x4 ![1] bcast_S4_S1x4_1 (andi (cmpi .sge (res_main_while0b_v153 V0) (broadcastInDim S4 ![] bcast_S_S4 (constantI S_ 32 0#32))) (cmpi .slt (res_main_while0b_v153 V0) (broadcastInDim S4 ![] bcast_S_S4 (constantI S_ 32 512#32))))) : (Proc.devRef .tc main_while0b_v182 : DevRef τ sig).ty.Contents (Elt F)) = Cert.ReferenceIdeal.Step.b95 j s := by
  unfold Cert.ReferenceIdeal.Step.b95
  rw [← al_94 h]
  try rfl
set_option maxRecDepth 8192 in
theorem al_96 (h : Holds V0 s j) : (andi (ori (cmpf .ogt (Host.reduce FloatOps.maximumf (Host.gather gather_S8x512x4_S4x1_S8x4x4_02_1_n_n_1_1_814 (V0 (Proc.devRef .tc main_v126_9)) (broadcastInDim S4x1 ![0] bcast_S4_S4x1_0 (select (cmpi .slt (res_main_while0b_v159 V0) (broadcastInDim S4 ![] bcast_S_S4 (constantI S_ 32 0#32))) (addi (res_main_while0b_v159 V0) (broadcastInDim S4 ![] bcast_S_S4 (constantI S_ 32 512#32))) (res_main_while0b_v159 V0)))) (constant S_ .f32 0xFF800000#32) reducesTo_S8x4x4_S8x4_d2 h_S_) (broadcastInDim S8x4 ![] bcast_S_S8x4 (constant S_ .f32 0x3F000000#32))) (cmpf .ogt (Host.reduce FloatOps.maximumf (Host.gather gather_S8x512x4_S4x1_S8x4x4_02_1_n_n_1_1_814 (V0 (Proc.devRef .tc main_v126_10)) (broadcastInDim S4x1 ![0] bcast_S4_S4x1_0 (select (cmpi .slt (res_main_while0b_v159 V0) (broadcastInDim S4 ![] bcast_S_S4 (constantI S_ 32 0#32))) (addi (res_main_while0b_v159 V0) (broadcastInDim S4 ![] bcast_S_S4 (constantI S_ 32 512#32))) (res_main_while0b_v159 V0)))) (constant S_ .f32 0xFF800000#32) reducesTo_S8x4x4_S8x4_d2 h_S_) (broadcastInDim S8x4 ![] bcast_S_S8x4 (constant S_ .f32 0x3F000000#32)))) (broadcastInDim S8x4 ![0, 1] bcast_S1x4_S8x4_0_1 (broadcastInDim S1x4 ![1] bcast_S4_S1x4_1 (andi (cmpi .sge (res_main_while0b_v153 V0) (broadcastInDim S4 ![] bcast_S_S4 (constantI S_ 32 0#32))) (cmpi .slt (res_main_while0b_v153 V0) (broadcastInDim S4 ![] bcast_S_S4 (constantI S_ 32 512#32)))))) : (Proc.devRef .tc main_while0b_v183 : DevRef τ sig).ty.Contents (Elt F)) = Cert.ReferenceIdeal.Step.b96 j s := by
  unfold Cert.ReferenceIdeal.Step.b96
  rw [← al_93 h, ← al_95 h]
  try rfl
set_option maxRecDepth 8192 in
theorem al_97 (h : Holds V0 s j) : (constantI S_ 1 0#1 : (Proc.devRef .tc main_while0b_c_52 : DevRef τ sig).ty.Contents (Elt F)) = Cert.ReferenceIdeal.Step.b97 j s := by
  unfold Cert.ReferenceIdeal.Step.b97
  rfl
set_option maxRecDepth 8192 in
theorem al_98 (h : Holds V0 s j) : (Host.reduce IntOp.ori (andi (ori (cmpf .ogt (Host.reduce FloatOps.maximumf (Host.gather gather_S8x512x4_S4x1_S8x4x4_02_1_n_n_1_1_814 (V0 (Proc.devRef .tc main_v126_9)) (broadcastInDim S4x1 ![0] bcast_S4_S4x1_0 (select (cmpi .slt (res_main_while0b_v159 V0) (broadcastInDim S4 ![] bcast_S_S4 (constantI S_ 32 0#32))) (addi (res_main_while0b_v159 V0) (broadcastInDim S4 ![] bcast_S_S4 (constantI S_ 32 512#32))) (res_main_while0b_v159 V0)))) (constant S_ .f32 0xFF800000#32) reducesTo_S8x4x4_S8x4_d2 h_S_) (broadcastInDim S8x4 ![] bcast_S_S8x4 (constant S_ .f32 0x3F000000#32))) (cmpf .ogt (Host.reduce FloatOps.maximumf (Host.gather gather_S8x512x4_S4x1_S8x4x4_02_1_n_n_1_1_814 (V0 (Proc.devRef .tc main_v126_10)) (broadcastInDim S4x1 ![0] bcast_S4_S4x1_0 (select (cmpi .slt (res_main_while0b_v159 V0) (broadcastInDim S4 ![] bcast_S_S4 (constantI S_ 32 0#32))) (addi (res_main_while0b_v159 V0) (broadcastInDim S4 ![] bcast_S_S4 (constantI S_ 32 512#32))) (res_main_while0b_v159 V0)))) (constant S_ .f32 0xFF800000#32) reducesTo_S8x4x4_S8x4_d2 h_S_) (broadcastInDim S8x4 ![] bcast_S_S8x4 (constant S_ .f32 0x3F000000#32)))) (broadcastInDim S8x4 ![0, 1] bcast_S1x4_S8x4_0_1 (broadcastInDim S1x4 ![1] bcast_S4_S1x4_1 (andi (cmpi .sge (res_main_while0b_v153 V0) (broadcastInDim S4 ![] bcast_S_S4 (constantI S_ 32 0#32))) (cmpi .slt (res_main_while0b_v153 V0) (broadcastInDim S4 ![] bcast_S_S4 (constantI S_ 32 512#32))))))) (constantI S_ 1 0#1) reducesTo_S8x4_S8_d1 h_S_ : (Proc.devRef .tc main_while0b_v184 : DevRef τ sig).ty.Contents (Elt F)) = Cert.ReferenceIdeal.Step.b98 j s := by
  unfold Cert.ReferenceIdeal.Step.b98
  rw [← al_96 h, ← al_97 h]
  try rfl
set_option maxRecDepth 8192 in
theorem al_99 (h : Holds V0 s j) : (constant S_ .f32 0x3F800000#32 : (Proc.devRef .tc main_while0b_cst_53 : DevRef τ sig).ty.Contents (Elt F)) = Cert.ReferenceIdeal.Step.b99 j s := by
  unfold Cert.ReferenceIdeal.Step.b99
  rfl
set_option maxRecDepth 8192 in
theorem al_100 (h : Holds V0 s j) : (constant S_ .f32 0x3DCCCCCD#32 : (Proc.devRef .tc main_while0b_cst_54 : DevRef τ sig).ty.Contents (Elt F)) = Cert.ReferenceIdeal.Step.b100 j s := by
  unfold Cert.ReferenceIdeal.Step.b100
  rfl
set_option maxRecDepth 8192 in
theorem al_101 (h : Holds V0 s j) : (broadcastInDim S8 ![] bcast_S_S8 (constant S_ .f32 0x3F800000#32) : (Proc.devRef .tc main_while0b_call16_v0 : DevRef τ sig).ty.Contents (Elt F)) = Cert.ReferenceIdeal.Step.b101 j s := by
  unfold Cert.ReferenceIdeal.Step.b101
  rw [← al_99 h]
  try rfl
set_option maxRecDepth 8192 in
theorem al_102 (h : Holds V0 s j) : (broadcastInDim S8 ![] bcast_S_S8 (constant S_ .f32 0x3DCCCCCD#32) : (Proc.devRef .tc main_while0b_call16_v1 : DevRef τ sig).ty.Contents (Elt F)) = Cert.ReferenceIdeal.Step.b102 j s := by
  unfold Cert.ReferenceIdeal.Step.b102
  rw [← al_100 h]
  try rfl
set_option maxRecDepth 8192 in
theorem al_103 (h : Holds V0 s j) : (res_main_while0b_v185 V0 : (Proc.devRef .tc main_while0b_v185 : DevRef τ sig).ty.Contents (Elt F)) = Cert.ReferenceIdeal.Step.b103 j s := by
  unfold res_main_while0b_v185 Cert.ReferenceIdeal.Step.b103
  rw [← al_98 h, ← al_101 h, ← al_102 h]
  try rfl
set_option maxRecDepth 8192 in
theorem al_104 (h : Holds V0 s j) : (broadcastInDim S8x1 ![0] bcast_S8_S8x1_0 (res_main_while0b_v185 V0) : (Proc.devRef .tc main_while0b_v186 : DevRef τ sig).ty.Contents (Elt F)) = Cert.ReferenceIdeal.Step.b104 j s := by
  unfold Cert.ReferenceIdeal.Step.b104
  rw [← al_103 h]
  try rfl
set_option maxRecDepth 8192 in
theorem al_105 (h : Holds V0 s j) : (id (broadcastInDim S8x1 ![0] bcast_S8_S8x1_0 (res_main_while0b_v185 V0)) : (Proc.devRef .tc main_while0b_v187 : DevRef τ sig).ty.Contents (Elt F)) = Cert.ReferenceIdeal.Step.b105 j s := by
  unfold Cert.ReferenceIdeal.Step.b105
  rw [← al_104 h]
  try rfl
set_option maxRecDepth 8192 in
theorem al_106 (h : Holds V0 s j) : (broadcastInDim S8x2 ![0, 1] bcast_S8x1_S8x2_0_1 (id (broadcastInDim S8x1 ![0] bcast_S8_S8x1_0 (res_main_while0b_v185 V0))) : (Proc.devRef .tc main_while0b_v188 : DevRef τ sig).ty.Contents (Elt F)) = Cert.ReferenceIdeal.Step.b106 j s := by
  unfold Cert.ReferenceIdeal.Step.b106
  rw [← al_105 h]
  try rfl
set_option maxRecDepth 8192 in
theorem al_107 (h : Holds V0 s j) : (mulf (mulf (extractStridedSlice S8x2 ![0, 0] (res_main_while0b_v136 V0) slices_S8x4_S8x2_0_0) (broadcastInDim S8x2 ![0, 1] bcast_S8x1_S8x2_0_1 (id (broadcastInDim S8x1 ![0] bcast_S8_S8x1_0 (select (shapeCast S8 (Host.dynamicSlice S1x8 (V0 (Proc.devRef .tc main_v126_4)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3E99999A#32)) (broadcastInDim S8 ![] bcast_S_S8 (constant S_ .f32 0x3F800000#32))))))) (broadcastInDim S8x2 ![0, 1] bcast_S8x1_S8x2_0_1 (id (broadcastInDim S8x1 ![0] bcast_S8_S8x1_0 (res_main_while0b_v185 V0)))) : (Proc.devRef .tc main_while0b_v189 : DevRef τ sig).ty.Contents (Elt F)) = Cert.ReferenceIdeal.Step.b107 j s := by
  unfold Cert.ReferenceIdeal.Step.b107
  rw [← al_37 h, ← al_106 h]
  try rfl
set_option maxRecDepth 8192 in
theorem al_108 (h : Holds V0 s j) : (broadcastInDim S8x1 ![0] bcast_S8_S8x1_0 (res_main_while0b_v185 V0) : (Proc.devRef .tc main_while0b_v190 : DevRef τ sig).ty.Contents (Elt F)) = Cert.ReferenceIdeal.Step.b108 j s := by
  unfold Cert.ReferenceIdeal.Step.b108
  rw [← al_103 h]
  try rfl
set_option maxRecDepth 8192 in
theorem al_109 (h : Holds V0 s j) : (id (broadcastInDim S8x1 ![0] bcast_S8_S8x1_0 (res_main_while0b_v185 V0)) : (Proc.devRef .tc main_while0b_v191 : DevRef τ sig).ty.Contents (Elt F)) = Cert.ReferenceIdeal.Step.b109 j s := by
  unfold Cert.ReferenceIdeal.Step.b109
  rw [← al_108 h]
  try rfl
set_option maxRecDepth 8192 in
theorem al_110 (h : Holds V0 s j) : (broadcastInDim S8x2 ![0, 1] bcast_S8x1_S8x2_0_1 (id (broadcastInDim S8x1 ![0] bcast_S8_S8x1_0 (res_main_while0b_v185 V0))) : (Proc.devRef .tc main_while0b_v192 : DevRef τ sig).ty.Contents (Elt F)) = Cert.ReferenceIdeal.Step.b110 j s := by
  unfold Cert.ReferenceIdeal.Step.b110
  rw [← al_109 h]
  try rfl
set_option maxRecDepth 8192 in
theorem al_111 (h : Holds V0 s j) : (mulf (mulf (extractStridedSlice S8x2 ![0, 0] (res_main_while0b_v139 V0) slices_S8x4_S8x2_0_0) (broadcastInDim S8x2 ![0, 1] bcast_S8x1_S8x2_0_1 (id (broadcastInDim S8x1 ![0] bcast_S8_S8x1_0 (select (shapeCast S8 (Host.dynamicSlice S1x8 (V0 (Proc.devRef .tc main_v126_5)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3E99999A#32)) (broadcastInDim S8 ![] bcast_S_S8 (constant S_ .f32 0x3F800000#32))))))) (broadcastInDim S8x2 ![0, 1] bcast_S8x1_S8x2_0_1 (id (broadcastInDim S8x1 ![0] bcast_S8_S8x1_0 (res_main_while0b_v185 V0)))) : (Proc.devRef .tc main_while0b_v193 : DevRef τ sig).ty.Contents (Elt F)) = Cert.ReferenceIdeal.Step.b111 j s := by
  unfold Cert.ReferenceIdeal.Step.b111
  rw [← al_47 h, ← al_110 h]
  try rfl
set_option maxRecDepth 8192 in
theorem al_112 (h : Holds V0 s j) : (constant S_ .f32 0x3F333333#32 : (Proc.devRef .tc main_while0b_cst_55 : DevRef τ sig).ty.Contents (Elt F)) = Cert.ReferenceIdeal.Step.b112 j s := by
  unfold Cert.ReferenceIdeal.Step.b112
  rfl
set_option maxRecDepth 8192 in
theorem al_113 (h : Holds V0 s j) : (constant S_ .f32 0x3F800000#32 : (Proc.devRef .tc main_while0b_cst_56 : DevRef τ sig).ty.Contents (Elt F)) = Cert.ReferenceIdeal.Step.b113 j s := by
  unfold Cert.ReferenceIdeal.Step.b113
  rfl
set_option maxRecDepth 8192 in
theorem al_114 (h : Holds V0 s j) : (broadcastInDim S8 ![] bcast_S_S8 (constant S_ .f32 0x3F333333#32) : (Proc.devRef .tc main_while0b_call17_v0 : DevRef τ sig).ty.Contents (Elt F)) = Cert.ReferenceIdeal.Step.b114 j s := by
  unfold Cert.ReferenceIdeal.Step.b114
  rw [← al_112 h]
  try rfl
set_option maxRecDepth 8192 in
theorem al_115 (h : Holds V0 s j) : (broadcastInDim S8 ![] bcast_S_S8 (constant S_ .f32 0x3F800000#32) : (Proc.devRef .tc main_while0b_call17_v1 : DevRef τ sig).ty.Contents (Elt F)) = Cert.ReferenceIdeal.Step.b115 j s := by
  unfold Cert.ReferenceIdeal.Step.b115
  rw [← al_113 h]
  try rfl
set_option maxRecDepth 8192 in
theorem al_116 (h : Holds V0 s j) : (select (shapeCast S8 (Host.dynamicSlice S1x8 (V0 (Proc.devRef .tc main_v126_6)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3F333333#32)) (broadcastInDim S8 ![] bcast_S_S8 (constant S_ .f32 0x3F800000#32)) : (Proc.devRef .tc main_while0b_v194 : DevRef τ sig).ty.Contents (Elt F)) = Cert.ReferenceIdeal.Step.b116 j s := by
  unfold Cert.ReferenceIdeal.Step.b116
  rw [← al_21 h, ← al_114 h, ← al_115 h]
  try rfl
set_option maxRecDepth 8192 in
theorem al_117 (h : Holds V0 s j) : (broadcastInDim S8x1 ![0] bcast_S8_S8x1_0 (select (shapeCast S8 (Host.dynamicSlice S1x8 (V0 (Proc.devRef .tc main_v126_6)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3F333333#32)) (broadcastInDim S8 ![] bcast_S_S8 (constant S_ .f32 0x3F800000#32))) : (Proc.devRef .tc main_while0b_v195 : DevRef τ sig).ty.Contents (Elt F)) = Cert.ReferenceIdeal.Step.b117 j s := by
  unfold Cert.ReferenceIdeal.Step.b117
  rw [← al_116 h]
  try rfl
set_option maxRecDepth 8192 in
theorem al_118 (h : Holds V0 s j) : (id (broadcastInDim S8x1 ![0] bcast_S8_S8x1_0 (select (shapeCast S8 (Host.dynamicSlice S1x8 (V0 (Proc.devRef .tc main_v126_6)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3F333333#32)) (broadcastInDim S8 ![] bcast_S_S8 (constant S_ .f32 0x3F800000#32)))) : (Proc.devRef .tc main_while0b_v196 : DevRef τ sig).ty.Contents (Elt F)) = Cert.ReferenceIdeal.Step.b118 j s := by
  unfold Cert.ReferenceIdeal.Step.b118
  rw [← al_117 h]
  try rfl
set_option maxRecDepth 8192 in
theorem al_119 (h : Holds V0 s j) : (broadcastInDim S8x2 ![0, 1] bcast_S8x1_S8x2_0_1 (id (broadcastInDim S8x1 ![0] bcast_S8_S8x1_0 (select (shapeCast S8 (Host.dynamicSlice S1x8 (V0 (Proc.devRef .tc main_v126_6)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3F333333#32)) (broadcastInDim S8 ![] bcast_S_S8 (constant S_ .f32 0x3F800000#32))))) : (Proc.devRef .tc main_while0b_v197 : DevRef τ sig).ty.Contents (Elt F)) = Cert.ReferenceIdeal.Step.b119 j s := by
  unfold Cert.ReferenceIdeal.Step.b119
  rw [← al_118 h]
  try rfl
set_option maxRecDepth 8192 in
theorem al_120 (h : Holds V0 s j) : (mulf (mulf (mulf (extractStridedSlice S8x2 ![0, 0] (res_main_while0b_v136 V0) slices_S8x4_S8x2_0_0) (broadcastInDim S8x2 ![0, 1] bcast_S8x1_S8x2_0_1 (id (broadcastInDim S8x1 ![0] bcast_S8_S8x1_0 (select (shapeCast S8 (Host.dynamicSlice S1x8 (V0 (Proc.devRef .tc main_v126_4)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3E99999A#32)) (broadcastInDim S8 ![] bcast_S_S8 (constant S_ .f32 0x3F800000#32))))))) (broadcastInDim S8x2 ![0, 1] bcast_S8x1_S8x2_0_1 (id (broadcastInDim S8x1 ![0] bcast_S8_S8x1_0 (res_main_while0b_v185 V0))))) (broadcastInDim S8x2 ![0, 1] bcast_S8x1_S8x2_0_1 (id (broadcastInDim S8x1 ![0] bcast_S8_S8x1_0 (select (shapeCast S8 (Host.dynamicSlice S1x8 (V0 (Proc.devRef .tc main_v126_6)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3F333333#32)) (broadcastInDim S8 ![] bcast_S_S8 (constant S_ .f32 0x3F800000#32)))))) : (Proc.devRef .tc main_while0b_v198 : DevRef τ sig).ty.Contents (Elt F)) = Cert.ReferenceIdeal.Step.b120 j s := by
  unfold Cert.ReferenceIdeal.Step.b120
  rw [← al_107 h, ← al_119 h]
  try rfl
set_option maxRecDepth 8192 in
theorem al_121 (h : Holds V0 s j) : (extractStridedSlice S8x2 ![0, 2] (res_main_while0b_v136 V0) slices_S8x4_S8x2_0_2 : (Proc.devRef .tc main_while0b_v199 : DevRef τ sig).ty.Contents (Elt F)) = Cert.ReferenceIdeal.Step.b121 j s := by
  unfold Cert.ReferenceIdeal.Step.b121
  rw [← al_24 h]
  try rfl
set_option maxRecDepth 8192 in
theorem al_122 (h : Holds V0 s j) : (concatenate S8x4 1 [⟨S8x2, (mulf (mulf (mulf (extractStridedSlice S8x2 ![0, 0] (res_main_while0b_v136 V0) slices_S8x4_S8x2_0_0) (broadcastInDim S8x2 ![0, 1] bcast_S8x1_S8x2_0_1 (id (broadcastInDim S8x1 ![0] bcast_S8_S8x1_0 (select (shapeCast S8 (Host.dynamicSlice S1x8 (V0 (Proc.devRef .tc main_v126_4)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3E99999A#32)) (broadcastInDim S8 ![] bcast_S_S8 (constant S_ .f32 0x3F800000#32))))))) (broadcastInDim S8x2 ![0, 1] bcast_S8x1_S8x2_0_1 (id (broadcastInDim S8x1 ![0] bcast_S8_S8x1_0 (res_main_while0b_v185 V0))))) (broadcastInDim S8x2 ![0, 1] bcast_S8x1_S8x2_0_1 (id (broadcastInDim S8x1 ![0] bcast_S8_S8x1_0 (select (shapeCast S8 (Host.dynamicSlice S1x8 (V0 (Proc.devRef .tc main_v126_6)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3F333333#32)) (broadcastInDim S8 ![] bcast_S_S8 (constant S_ .f32 0x3F800000#32)))))))⟩, ⟨S8x2, (extractStridedSlice S8x2 ![0, 2] (res_main_while0b_v136 V0) slices_S8x4_S8x2_0_2)⟩] concatenates_S8x2_S8x2_S8x4_d1 : (Proc.devRef .tc main_while0b_v200 : DevRef τ sig).ty.Contents (Elt F)) = Cert.ReferenceIdeal.Step.b122 j s := by
  unfold Cert.ReferenceIdeal.Step.b122
  rw [← al_120 h, ← al_121 h]
  try rfl
set_option maxRecDepth 8192 in
theorem al_123 (h : Holds V0 s j) : (extractStridedSlice S8x2 ![0, 2] (res_main_while0b_v139 V0) slices_S8x4_S8x2_0_2 : (Proc.devRef .tc main_while0b_v201 : DevRef τ sig).ty.Contents (Elt F)) = Cert.ReferenceIdeal.Step.b123 j s := by
  unfold Cert.ReferenceIdeal.Step.b123
  rw [← al_27 h]
  try rfl
set_option maxRecDepth 8192 in
theorem al_124 (h : Holds V0 s j) : (concatenate S8x4 1 [⟨S8x2, (mulf (mulf (extractStridedSlice S8x2 ![0, 0] (res_main_while0b_v139 V0) slices_S8x4_S8x2_0_0) (broadcastInDim S8x2 ![0, 1] bcast_S8x1_S8x2_0_1 (id (broadcastInDim S8x1 ![0] bcast_S8_S8x1_0 (select (shapeCast S8 (Host.dynamicSlice S1x8 (V0 (Proc.devRef .tc main_v126_5)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3E99999A#32)) (broadcastInDim S8 ![] bcast_S_S8 (constant S_ .f32 0x3F800000#32))))))) (broadcastInDim S8x2 ![0, 1] bcast_S8x1_S8x2_0_1 (id (broadcastInDim S8x1 ![0] bcast_S8_S8x1_0 (res_main_while0b_v185 V0)))))⟩, ⟨S8x2, (extractStridedSlice S8x2 ![0, 2] (res_main_while0b_v139 V0) slices_S8x4_S8x2_0_2)⟩] concatenates_S8x2_S8x2_S8x4_d1 : (Proc.devRef .tc main_while0b_v202 : DevRef τ sig).ty.Contents (Elt F)) = Cert.ReferenceIdeal.Step.b124 j s := by
  unfold Cert.ReferenceIdeal.Step.b124
  rw [← al_111 h, ← al_123 h]
  try rfl
set_option maxRecDepth 8192 in
theorem al_125 (h : Holds V0 s j) : (constantI S_ 32 0#32 : (Proc.devRef .tc main_while0b_c_57 : DevRef τ sig).ty.Contents (Elt F)) = Cert.ReferenceIdeal.Step.b125 j s := by
  unfold Cert.ReferenceIdeal.Step.b125
  rfl
set_option maxRecDepth 8192 in
theorem al_126 (h : Holds V0 s j) : (cmpi .slt (res_main_while0b_v127 V0) (constantI S_ 32 0#32) : (Proc.devRef .tc main_while0b_v203 : DevRef τ sig).ty.Contents (Elt F)) = Cert.ReferenceIdeal.Step.b126 j s := by
  unfold Cert.ReferenceIdeal.Step.b126
  rw [← al_1 h, ← al_125 h]
  try rfl
set_option maxRecDepth 8192 in
theorem al_127 (h : Holds V0 s j) : (constantI S_ 32 512#32 : (Proc.devRef .tc main_while0b_c_58 : DevRef τ sig).ty.Contents (Elt F)) = Cert.ReferenceIdeal.Step.b127 j s := by
  unfold Cert.ReferenceIdeal.Step.b127
  rfl
set_option maxRecDepth 8192 in
theorem al_128 (h : Holds V0 s j) : (addi (res_main_while0b_v127 V0) (constantI S_ 32 512#32) : (Proc.devRef .tc main_while0b_v204 : DevRef τ sig).ty.Contents (Elt F)) = Cert.ReferenceIdeal.Step.b128 j s := by
  unfold Cert.ReferenceIdeal.Step.b128
  rw [← al_1 h, ← al_127 h]
  try rfl
set_option maxRecDepth 8192 in
theorem al_129 (h : Holds V0 s j) : (select (cmpi .slt (res_main_while0b_v127 V0) (constantI S_ 32 0#32)) (addi (res_main_while0b_v127 V0) (constantI S_ 32 512#32)) (res_main_while0b_v127 V0) : (Proc.devRef .tc main_while0b_v205 : DevRef τ sig).ty.Contents (Elt F)) = Cert.ReferenceIdeal.Step.b129 j s := by
  unfold Cert.ReferenceIdeal.Step.b129
  rw [← al_126 h, ← al_128 h, ← al_1 h]
  try rfl
set_option maxRecDepth 8192 in
theorem al_130 (h : Holds V0 s j) : (broadcastInDim S1 ![] bcast_S_S1 (select (cmpi .slt (res_main_while0b_v127 V0) (constantI S_ 32 0#32)) (addi (res_main_while0b_v127 V0) (constantI S_ 32 512#32)) (res_main_while0b_v127 V0)) : (Proc.devRef .tc main_while0b_v206 : DevRef τ sig).ty.Contents (Elt F)) = Cert.ReferenceIdeal.Step.b130 j s := by
  unfold Cert.ReferenceIdeal.Step.b130
  rw [← al_129 h]
  try rfl
set_option maxRecDepth 8192 in
theorem al_131 (h : Holds V0 s j) : (Host.scatter scatter_S8x512x4_S1_S8x4_01_1_1_0 (fun _ b => b) (V0 (Proc.devRef .tc main_v126_9)) (broadcastInDim S1 ![] bcast_S_S1 (select (cmpi .slt (res_main_while0b_v127 V0) (constantI S_ 32 0#32)) (addi (res_main_while0b_v127 V0) (constantI S_ 32 512#32)) (res_main_while0b_v127 V0))) (concatenate S8x4 1 [⟨S8x2, (mulf (mulf (mulf (extractStridedSlice S8x2 ![0, 0] (res_main_while0b_v136 V0) slices_S8x4_S8x2_0_0) (broadcastInDim S8x2 ![0, 1] bcast_S8x1_S8x2_0_1 (id (broadcastInDim S8x1 ![0] bcast_S8_S8x1_0 (select (shapeCast S8 (Host.dynamicSlice S1x8 (V0 (Proc.devRef .tc main_v126_4)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3E99999A#32)) (broadcastInDim S8 ![] bcast_S_S8 (constant S_ .f32 0x3F800000#32))))))) (broadcastInDim S8x2 ![0, 1] bcast_S8x1_S8x2_0_1 (id (broadcastInDim S8x1 ![0] bcast_S8_S8x1_0 (res_main_while0b_v185 V0))))) (broadcastInDim S8x2 ![0, 1] bcast_S8x1_S8x2_0_1 (id (broadcastInDim S8x1 ![0] bcast_S8_S8x1_0 (select (shapeCast S8 (Host.dynamicSlice S1x8 (V0 (Proc.devRef .tc main_v126_6)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3F333333#32)) (broadcastInDim S8 ![] bcast_S_S8 (constant S_ .f32 0x3F800000#32)))))))⟩, ⟨S8x2, (extractStridedSlice S8x2 ![0, 2] (res_main_while0b_v136 V0) slices_S8x4_S8x2_0_2)⟩] concatenates_S8x2_S8x2_S8x4_d1) : (Proc.devRef .tc main_while0b_v207 : DevRef τ sig).ty.Contents (Elt F)) = Cert.ReferenceIdeal.Step.b131 j s := by
  unfold Cert.ReferenceIdeal.Step.b131
  rw [← al_130 h, ← al_122 h, h.f_9]
  try rfl
set_option maxRecDepth 8192 in
theorem al_132 (h : Holds V0 s j) : (constantI S_ 32 0#32 : (Proc.devRef .tc main_while0b_c_59 : DevRef τ sig).ty.Contents (Elt F)) = Cert.ReferenceIdeal.Step.b132 j s := by
  unfold Cert.ReferenceIdeal.Step.b132
  rfl
set_option maxRecDepth 8192 in
theorem al_133 (h : Holds V0 s j) : (cmpi .slt (res_main_while0b_v127 V0) (constantI S_ 32 0#32) : (Proc.devRef .tc main_while0b_v208 : DevRef τ sig).ty.Contents (Elt F)) = Cert.ReferenceIdeal.Step.b133 j s := by
  unfold Cert.ReferenceIdeal.Step.b133
  rw [← al_1 h, ← al_132 h]
  try rfl
set_option maxRecDepth 8192 in
theorem al_134 (h : Holds V0 s j) : (constantI S_ 32 512#32 : (Proc.devRef .tc main_while0b_c_60 : DevRef τ sig).ty.Contents (Elt F)) = Cert.ReferenceIdeal.Step.b134 j s := by
  unfold Cert.ReferenceIdeal.Step.b134
  rfl
set_option maxRecDepth 8192 in
theorem al_135 (h : Holds V0 s j) : (addi (res_main_while0b_v127 V0) (constantI S_ 32 512#32) : (Proc.devRef .tc main_while0b_v209 : DevRef τ sig).ty.Contents (Elt F)) = Cert.ReferenceIdeal.Step.b135 j s := by
  unfold Cert.ReferenceIdeal.Step.b135
  rw [← al_1 h, ← al_134 h]
  try rfl
set_option maxRecDepth 8192 in
theorem al_136 (h : Holds V0 s j) : (select (cmpi .slt (res_main_while0b_v127 V0) (constantI S_ 32 0#32)) (addi (res_main_while0b_v127 V0) (constantI S_ 32 512#32)) (res_main_while0b_v127 V0) : (Proc.devRef .tc main_while0b_v210 : DevRef τ sig).ty.Contents (Elt F)) = Cert.ReferenceIdeal.Step.b136 j s := by
  unfold Cert.ReferenceIdeal.Step.b136
  rw [← al_133 h, ← al_135 h, ← al_1 h]
  try rfl
set_option maxRecDepth 8192 in
theorem al_137 (h : Holds V0 s j) : (broadcastInDim S1 ![] bcast_S_S1 (select (cmpi .slt (res_main_while0b_v127 V0) (constantI S_ 32 0#32)) (addi (res_main_while0b_v127 V0) (constantI S_ 32 512#32)) (res_main_while0b_v127 V0)) : (Proc.devRef .tc main_while0b_v211 : DevRef τ sig).ty.Contents (Elt F)) = Cert.ReferenceIdeal.Step.b137 j s := by
  unfold Cert.ReferenceIdeal.Step.b137
  rw [← al_136 h]
  try rfl
set_option maxRecDepth 8192 in
theorem al_138 (h : Holds V0 s j) : (Host.scatter scatter_S8x512x4_S1_S8x4_01_1_1_0 (fun _ b => b) (V0 (Proc.devRef .tc main_v126_10)) (broadcastInDim S1 ![] bcast_S_S1 (select (cmpi .slt (res_main_while0b_v127 V0) (constantI S_ 32 0#32)) (addi (res_main_while0b_v127 V0) (constantI S_ 32 512#32)) (res_main_while0b_v127 V0))) (concatenate S8x4 1 [⟨S8x2, (mulf (mulf (extractStridedSlice S8x2 ![0, 0] (res_main_while0b_v139 V0) slices_S8x4_S8x2_0_0) (broadcastInDim S8x2 ![0, 1] bcast_S8x1_S8x2_0_1 (id (broadcastInDim S8x1 ![0] bcast_S8_S8x1_0 (select (shapeCast S8 (Host.dynamicSlice S1x8 (V0 (Proc.devRef .tc main_v126_5)) (fun k => (((![V0 (Proc.devRef .tc main_v126_8), constantI S_ 32 0#32] : Fin 2 → (⟨S_, .i32⟩ : BufTy).Contents (Elt F))) k (Shape.Idx.first h_S_)).toInt) sliceFits_S512x8_S1x8) shapeCasts_S1x8_S8) (broadcastInDim S8 ![] bcast_S_S8 (constant S_ .f32 0x3E99999A#32)) (broadcastInDim S8 ![] bcast_S_S8 (constant S_ .f32 0x3F800000#32))))))) (broadcastInDim S8x2 ![0, 1] bcast_S8x1_S8x2_0_1 (id (broadcastInDim S8x1 ![0] bcast_S8_S8x1_0 (res_main_while0b_v185 V0)))))⟩, ⟨S8x2, (extractStridedSlice S8x2 ![0, 2] (res_main_while0b_v139 V0) slices_S8x4_S8x2_0_2)⟩] concatenates_S8x2_S8x2_S8x4_d1) : (Proc.devRef .tc main_while0b_v212 : DevRef τ sig).ty.Contents (Elt F)) = Cert.ReferenceIdeal.Step.b138 j s := by
  unfold Cert.ReferenceIdeal.Step.b138
  rw [← al_137 h, ← al_124 h, h.f_10]
  try rfl

/-! One trip's step of the carried values is `step`, field by field; a counter steps to the next number. -/

theorem step_9 (h : Holds V0 s j) : step_main_v126_9 V0 = (step j s).main_v126_9 := by
  rw [Cert.ReferenceIdeal.Step.step_main_v126_9, ← al_131 h]
  unfold step_main_v126_9
  exact id_eq _
theorem step_10 (h : Holds V0 s j) : step_main_v126_10 V0 = (step j s).main_v126_10 := by
  rw [Cert.ReferenceIdeal.Step.step_main_v126_10, ← al_138 h]
  unfold step_main_v126_10
  exact id_eq _
theorem step_8 (h : Holds V0 s j) : step_main_v126_8 V0 = constantI S_ 32 (BitVec.ofNat 32 (j + 1)) := by
  unfold step_main_v126_8
  rw [h.n_8]
  funext i
  show BitVec.ofNat 32 j + 1#32 = BitVec.ofNat 32 (j + 1)
  simp only [BitVec.ofNat_add]

/-- One trip keeps the valuation holding: `step` of the state, the same set-up values, the next number. -/
theorem holds_step (h : Holds V0 s j) : Holds (STEP V0) (step j s) (j + 1) where
  f_9 := (STEP_main_v126_9 V0).trans (step_9 h)
  f_10 := (STEP_main_v126_10 V0).trans (step_10 h)
  n_8 := (STEP_main_v126_8 V0).trans (step_8 h)
  k_0 := (STEP_main_v126_0 V0).trans h.k_0
  k_7 := (STEP_main_v126_7 V0).trans h.k_7
  f_1 := (STEP_main_v126_1 V0).trans h.f_1
  f_2 := (STEP_main_v126_2 V0).trans h.f_2
  f_3 := (STEP_main_v126_3 V0).trans h.f_3
  f_4 := (STEP_main_v126_4 V0).trans h.f_4
  f_5 := (STEP_main_v126_5 V0).trans h.f_5
  f_6 := (STEP_main_v126_6 V0).trans h.f_6

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))

variable (m : (ℓ : Loc nD τ sig) → Buf (Elt F) ℓ) (c : Dev nD)

set_option maxRecDepth 65536 in
set_option maxHeartbeats 900000 in
/-- What @main's operations before the loop leave: the set-up values, number 0, the initial state. -/
theorem entry_holds : Holds (entryContents preI m c) (initState m c) 0 := by
  constructor
  case f_9 =>
    simp only [entryContents, afterL_cons, afterL_nil]
    after_reads_simp
    rfl
  case f_10 =>
    simp only [entryContents, afterL_cons, afterL_nil]
    after_reads_simp
    rfl
  case f_1 =>
    simp only [entryContents, afterL_cons, afterL_nil]
    after_reads_simp
    rfl
  case f_2 =>
    simp only [entryContents, afterL_cons, afterL_nil]
    after_reads_simp
    rfl
  case f_3 =>
    simp only [entryContents, afterL_cons, afterL_nil]
    after_reads_simp
    rfl
  case f_4 =>
    simp only [entryContents, afterL_cons, afterL_nil]
    after_reads_simp
    rfl
  case f_5 =>
    simp only [entryContents, afterL_cons, afterL_nil]
    after_reads_simp
    rfl
  case f_6 =>
    simp only [entryContents, afterL_cons, afterL_nil]
    after_reads_simp
    simp only [initState, init, Cert.ReferenceIdeal.Step.K_main_cst_19, Cert.ReferenceIdeal.Step.K_main_v97, Cert.ReferenceIdeal.Step.K_main_c_20, Cert.ReferenceIdeal.Step.K_main_c_21, Cert.ReferenceIdeal.Step.K_main_v100, Cert.ReferenceIdeal.Step.K_main_v101, Cert.ReferenceIdeal.Step.K_main_v102, Cert.ReferenceIdeal.Step.K_main_v103, Cert.ReferenceIdeal.Step.K_main_v104, Cert.ReferenceIdeal.Step.K_main_v105, Cert.ReferenceIdeal.Step.K_main_v106, Cert.ReferenceIdeal.Step.K_main_v107, Cert.ReferenceIdeal.Step.K_main_v108, Cert.ReferenceIdeal.Step.A_main_v98, Cert.ReferenceIdeal.Step.A_main_v99, Cert.ReferenceIdeal.Step.A_main_v109, Cert.ReferenceIdeal.Step.A_main_v110, Cert.ReferenceIdeal.Step.A_main_v125]
    have e : launchContents m c (Proc.devRef .tc main_arg2) = m ((c.tc : Thread nD τ).loc main_arg2) := rfl
    rw [id_eq, e]
  case n_8 =>
    simp only [entryContents, afterL_cons, afterL_nil]
    after_reads_simp
    rfl
  case k_0 =>
    simp only [entryContents, afterL_cons, afterL_nil]
    after_reads_simp
    rfl
  case k_7 =>
    simp only [entryContents, afterL_cons, afterL_nil]
    after_reads_simp
    rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 512 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v126_9) = (it c 512).main_v126_9
      ∧ r.2.mem ((c.tc : Thread nD τ).loc main_v126_10) = (it c 512).main_v126_10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    have hk := holds_iter m c (it c) (h0 c) (hs c) 512
    ⟨(h c).1.trans hk.f_9, (h c).2.1.trans hk.f_10, (h c).2.2.1, (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2⟩) (Value.run m ρ)

end Cert.ReferenceIdeal.StepRun

end
-- ==== Proof.RPrep.lean ====
/-
  What the reference computes before its loop: the recursion's data of `Spec.ctx`, index by index.
-/
module

public import Idealize.ShloMosaic.Lib.Pointwise
public import Idealize.ShloMosaic.Lib.WordCmp
public import Idealize.ShloMosaic.Lib.Routing.OpsOrder
public import proofs.«01_k».proof.Proof.Spec
public import proofs.«01_k».proof.Proof.RefTrip

@[expose] public section

noncomputable section

namespace Cert.RPrep

open Idealize.ShloMosaic Cert.ReferenceIdeal Cert.ReferenceIdeal.Gen Cert.ReferenceIdeal.Step Cert.Spec

variable (g0 g1 : (⟨S8x512x4, .f32⟩ : BufTy).Contents (Elt Ideal))
  (g2 : (⟨S8x512x512x4, .f32⟩ : BufTy).Contents (Elt Ideal))
  (g3 g4 : (⟨S8x512, .i32⟩ : BufTy).Contents (Elt Ideal)) (g5 : (⟨S8x32, .f32⟩ : BufTy).Contents (Elt Ideal))
  (g6 : (⟨S32, .f32⟩ : BufTy).Contents (Elt Ideal)) (g7 : (⟨S32x16, .f32⟩ : BufTy).Contents (Elt Ideal))
  (g8 : (⟨S16, .f32⟩ : BufTy).Contents (Elt Ideal)) (g9 : (⟨S16x1, .f32⟩ : BufTy).Contents (Elt Ideal))
  (g10 : (⟨S1, .f32⟩ : BufTy).Contents (Elt Ideal))

/-- The recursion's data, of the argument arrays. -/
def rctx : Ctx :=
  ctx (fun b i c => g0 (ix3 b i c)) (fun b i c => g1 (ix3 b i c)) (fun b i j c => g2 (ix4 b i j c))
    (fun b i => g3 (ix2 b i)) (fun b i => g4 (ix2 b i)) (fun m l => g5 (ix2 m l)) (fun l => g6 (ix1 l))
    (fun l k => g7 (ix2 l k)) (fun k => g8 (ix1 k)) (fun k => g9 (ix2 k 0)) (g10 (ix1 0))

/-- Minus infinity. -/
theorem bot_bits : Ideal.ofBits .f32 0xFF800000#32 = (⊥ : EReal) := by
  simp [Ideal.ofBits, Ideal.ieee]

/-- The largest of four numbers, folded from minus infinity. -/
theorem fold_max4 (x : Fin 4 → EReal) :
    Finset.fold max (⊥ : EReal) x Finset.univ = max (max (x 0) (x 1)) (max (x 2) (x 3)) := by
  rw [show (Finset.univ : Finset (Fin 4)) = {0, 1, 2, 3} from rfl]
  simp [Finset.fold_insert, max_assoc]

/-- The disjunction of bits, folded from zero. -/
theorem fold_or {n : ℕ} (p : Fin n → Bool) :
    Finset.fold IntOp.ori (0#1) (fun k => BitVec.ofBool (p k)) Finset.univ
      = BitVec.ofBool (decide (∃ k, p k = true)) := by
  have hone : ∀ t : Bool, BitVec.ofBool t = 1#1 ↔ t = true := by decide
  have h := Routing.fold_ori Finset.univ (fun k => BitVec.ofBool (p k))
  simp only [hone, Finset.mem_univ, true_and] at h
  by_cases hp : ∃ k, p k = true
  · rw [h.mpr hp, decide_eq_true hp]
    rfl
  · rw [decide_eq_false hp]
    rcases BitVec.eq_zero_or_eq_one (Finset.fold IntOp.ori (0#1) (fun k => BitVec.ofBool (p k)) Finset.univ) with e | e
    · exact e
    · exact absurd (h.mp e) hp

theorem sgt_zero (e : BitVec 32) : IntOp.cmpi .sgt e 0#32 = BitVec.ofBool (decide (0 < e.toInt)) := rfl

/-- A mark at an offset of a row padded by three positions on either side. -/
theorem pad_bit (e : Fin 512 → BitVec 32) (n : ℕ) :
    (if h : 3 ≤ n ∧ n - 3 < 512 then IntOp.cmpi .sgt (e ⟨n - 3, h.2⟩) 0#32 else 0#1)
      = BitVec.ofBool (decide (∃ j : Fin 512, 0 < (e j).toInt ∧ j.val + 3 = n)) := by
  split
  · rename_i h
    rw [sgt_zero]
    congr 1
    rw [decide_eq_decide]
    constructor
    · intro hp
      exact ⟨_, hp, by simp; omega⟩
    · rintro ⟨j, hp, hj⟩
      have : j = ⟨n - 3, h.2⟩ := Fin.ext (by simp; omega)
      rwa [← this]
  · rename_i h
    rw [decide_eq_false]
    · rfl
    · rintro ⟨j, _, hj⟩
      exact h ⟨by omega, by omega⟩

/-- Seven offsets of the padded row. -/
theorem near_or (e : Fin 512 → BitVec 32) (i : Fin 512) (z : BitVec 1) (hz : z = 0#1) :
    IntOp.ori (IntOp.ori (IntOp.ori (IntOp.ori (IntOp.ori (IntOp.ori (IntOp.ori (0#1)
      (if h : 3 ≤ i.val ∧ i.val - 3 < 512 then IntOp.cmpi .sgt (e ⟨i.val - 3, h.2⟩) 0#32 else z))
      (if h : 3 ≤ 1 + i.val ∧ 1 + i.val - 3 < 512 then IntOp.cmpi .sgt (e ⟨1 + i.val - 3, h.2⟩) 0#32 else z))
      (if h : 3 ≤ 2 + i.val ∧ 2 + i.val - 3 < 512 then IntOp.cmpi .sgt (e ⟨2 + i.val - 3, h.2⟩) 0#32 else z))
      (IntOp.cmpi .sgt (e i) 0#32))
      (if h : 3 ≤ 4 + i.val ∧ 4 + i.val - 3 < 512 then IntOp.cmpi .sgt (e ⟨4 + i.val - 3, h.2⟩) 0#32 else z))
      (if h : 3 ≤ 5 + i.val ∧ 5 + i.val - 3 < 512 then IntOp.cmpi .sgt (e ⟨5 + i.val - 3, h.2⟩) 0#32 else z))
      (if h : 3 ≤ 6 + i.val ∧ 6 + i.val - 3 < 512 then IntOp.cmpi .sgt (e ⟨6 + i.val - 3, h.2⟩) 0#32 else z)
      = BitVec.ofBool (near e i) := by
  subst hz
  have hmid : IntOp.cmpi .sgt (e i) 0#32
      = BitVec.ofBool (decide (∃ j : Fin 512, 0 < (e j).toInt ∧ j.val + 3 = 3 + i.val)) := by
    rw [sgt_zero]
    congr 1
    rw [decide_eq_decide]
    constructor
    · intro hp
      exact ⟨i, hp, by omega⟩
    · rintro ⟨j, hp, hj⟩
      have : j = i := Fin.ext (by omega)
      rwa [← this]
  rw [pad_bit e i.val, pad_bit e (1 + i.val), pad_bit e (2 + i.val), hmid, pad_bit e (4 + i.val),
    pad_bit e (5 + i.val), pad_bit e (6 + i.val), show (0#1 : BitVec 1) = BitVec.ofBool false from rfl]
  simp only [WordCmp.ori_ofBool, Bool.false_or]
  congr 1
  unfold near
  simp only [← Bool.decide_or]
  rw [decide_eq_decide]
  constructor
  · rintro ((((((⟨j, hp, hj⟩ | ⟨j, hp, hj⟩) | ⟨j, hp, hj⟩) | ⟨j, hp, hj⟩) | ⟨j, hp, hj⟩) | ⟨j, hp, hj⟩) | ⟨j, hp, hj⟩) <;>
      exact ⟨j, hp, by omega, by omega⟩
  · rintro ⟨j, hp, h1, h2⟩
    have hc : j.val + 3 = i.val ∨ j.val + 3 = 1 + i.val ∨ j.val + 3 = 2 + i.val ∨ j.val + 3 = 3 + i.val
        ∨ j.val + 3 = 4 + i.val ∨ j.val + 3 = 5 + i.val ∨ j.val + 3 = 6 + i.val := by omega
    rcases hc with h | h | h | h | h | h | h
    · exact Or.inl (Or.inl (Or.inl (Or.inl (Or.inl (Or.inl ⟨j, hp, h⟩)))))
    · exact Or.inl (Or.inl (Or.inl (Or.inl (Or.inl (Or.inr ⟨j, hp, h⟩)))))
    · exact Or.inl (Or.inl (Or.inl (Or.inl (Or.inr ⟨j, hp, h⟩))))
    · exact Or.inl (Or.inl (Or.inl (Or.inr ⟨j, hp, h⟩)))
    · exact Or.inl (Or.inl (Or.inr ⟨j, hp, h⟩))
    · exact Or.inl (Or.inr ⟨j, hp, h⟩)
    · exact Or.inr ⟨j, hp, h⟩

/-- The softmax's first two weights as the sums the reference takes. -/
theorem soft_sum (x : Fin 4 → EReal) (g : Fin 2 → Fin 4) (h0 : g 0 = 0) (h1 : g 1 = 1) :
    decide (Ideal.ofBits .f32 0x3F000000#32
      < ∑ k : Fin 2, Ideal.div (Ideal.exp (x (g k) - max (Ideal.ofBits .f32 0xFF800000#32)
            (Finset.fold max (Ideal.ofBits .f32 0xFF800000#32) x Finset.univ)))
          (∑ c : Fin 4, Ideal.exp (x c - max (Ideal.ofBits .f32 0xFF800000#32)
            (Finset.fold max (Ideal.ofBits .f32 0xFF800000#32) x Finset.univ)))) = soft x := by
  rw [bot_bits, fold_max4, Fin.sum_univ_two, Fin.sum_univ_four, h0, h1]
  simp only [bot_le, max_eq_right]
  rfl

/-- The relation's mask and its triangle, over the channels and the other positions. -/
theorem caus_or (r : Fin 512 → Fin 512 → Fin 4 → EReal) (i : Fin 512) :
    decide (∃ j : Fin 512, (decide (∃ c : Fin 4, decide (half < r i j c) = true) && decide (j.val < i.val)) = true)
      = caus r i := by
  unfold caus
  rw [decide_eq_decide]
  simp only [Bool.and_eq_true, decide_eq_true_eq]
  exact exists_congr fun j => ⟨fun ⟨⟨c, h⟩, hj⟩ => ⟨c, h, hj⟩, fun ⟨c, h, hj⟩ => ⟨⟨c, h⟩, hj⟩⟩

theorem both_apply (b : Fin 8) (i : Fin 512) (m : Fin 8) :
    A_main_v0 g0 g1 g2 g3 g4 g5 g6 g7 g8 g9 g10 (ix3 b i m) = both (fun c => g0 (ix3 b i c)) (fun c => g1 (ix3 b i c)) m := by
  pointwise [A_main_v0]
  rfl

theorem z_apply (b : Fin 8) (i : Fin 512) :
    A_main_v14 g0 g1 g2 g3 g4 g5 g6 g7 g8 g9 g10 (ix3 b i 0)
      = mlp (both (fun c => g0 (ix3 b i c)) (fun c => g1 (ix3 b i c))) (fun m l => g5 (ix2 m l)) (fun l => g6 (ix1 l))
          (fun l k => g7 (ix2 l k)) (fun k => g8 (ix1 k)) (fun k => g9 (ix2 k 0)) (g10 (ix1 0)) := by
  pointwise [A_main_v1, A_main_v2, A_main_v3, A_main_v4, A_main_v5, A_main_v6, A_main_v7, A_main_v8, A_main_v9, A_main_v10, A_main_v11, A_main_v12, A_main_v13, A_main_v14, both_apply,
    K_main_call0_cst, K_main_call0_v0, K_main_call1_cst, K_main_call1_v0]
  rfl

theorem f_apply (b : Fin 8) (i : Fin 512) :
    A_main_v26 g0 g1 g2 g3 g4 g5 g6 g7 g8 g9 g10 (ix2 b i) = (rctx g0 g1 g2 g3 g4 g5 g6 g7 g8 g9 g10).f b i := by
  pointwise [A_main_v15, A_main_v16, A_main_v18, A_main_v20, A_main_v21, A_main_v23, A_main_v25, A_main_v26, z_apply,
    K_main_cst, K_main_v17, K_main_cst_0, K_main_v19, K_main_cst_1, K_main_v22, K_main_cst_2, K_main_v24, K_main_cst_3, K_main_call2_v0, K_main_call2_v1]
  have hone : (id (constant (F := Ideal) S_ .f32 0x3F800000#32) : (⟨S_, .f32⟩ : BufTy).Contents (Elt Ideal)) ix0
      = (1 : EReal) := Ideal.ofBits_one_f32
  change _ = factor (Ideal.logistic (mlp (both (fun c => g0 (ix3 b i c)) (fun c => g1 (ix3 b i c)))
    (fun m l => g5 (ix2 m l)) (fun l => g6 (ix1 l)) (fun l k => g7 (ix2 l k)) (fun k => g8 (ix1 k))
    (fun k => g9 (ix2 k 0)) (g10 (ix1 0))))
  rw [hone]
  rfl

theorem near_op_apply (b : Fin 8) (i : Fin 512) :
    A_main_v44 g0 g1 g2 g3 g4 g5 g6 g7 g8 g9 g10 (ix2 b i) = BitVec.ofBool (near (fun j => g4 (ix2 b j)) i) := by
  pointwise [A_main_v28, A_main_v29, A_main_v31, A_main_v32, A_main_v33, A_main_v34, A_main_v35, A_main_v36, A_main_v37, A_main_v38, A_main_v39, A_main_v40, A_main_v41, A_main_v42, A_main_v43, A_main_v44,
    K_main_c, K_main_v27, K_main_c_4, K_main_call3_c, K_main_call3_v0, K_main_call3_v1, K_main_call3_v2, K_main_c_5, K_main_v30]
  exact near_or (fun j => g4 (ix2 b j)) i _ rfl

theorem near_as_apply (b : Fin 8) (i : Fin 512) :
    A_main_v62 g0 g1 g2 g3 g4 g5 g6 g7 g8 g9 g10 (ix2 b i) = BitVec.ofBool (near (fun j => g3 (ix2 b j)) i) := by
  pointwise [A_main_v46, A_main_v47, A_main_v49, A_main_v50, A_main_v51, A_main_v52, A_main_v53, A_main_v54, A_main_v55, A_main_v56, A_main_v57, A_main_v58, A_main_v59, A_main_v60, A_main_v61, A_main_v62,
    K_main_c_6, K_main_v45, K_main_c_7, K_main_call4_c, K_main_call4_v0, K_main_call4_v1, K_main_call4_v2, K_main_c_8, K_main_v48]
  exact near_or (fun j => g3 (ix2 b j)) i _ rfl

theorem soft_a_apply (b : Fin 8) (i : Fin 512) :
    A_main_v77 g0 g1 g2 g3 g4 g5 g6 g7 g8 g9 g10 (ix2 b i) = BitVec.ofBool (soft fun c => g0 (ix3 b i c)) := by
  pointwise [A_main_v63, A_main_v65, A_main_v66, A_main_v67, A_main_v68, A_main_v69, A_main_v70, A_main_v71, A_main_v72, A_main_v73, A_main_v74, A_main_v75, A_main_v77,
    K_main_cst_9, K_main_cst_10, K_main_v64, K_main_cst_11, K_main_cst_12, K_main_cst_13, K_main_v76]
  exact congrArg BitVec.ofBool (soft_sum (fun c => g0 (ix3 b i c)) (fun k => ⟨k.val, by omega⟩) rfl rfl)

theorem soft_o_apply (b : Fin 8) (i : Fin 512) :
    A_main_v92 g0 g1 g2 g3 g4 g5 g6 g7 g8 g9 g10 (ix2 b i) = BitVec.ofBool (soft fun c => g1 (ix3 b i c)) := by
  pointwise [A_main_v78, A_main_v80, A_main_v81, A_main_v82, A_main_v83, A_main_v84, A_main_v85, A_main_v86, A_main_v87, A_main_v88, A_main_v89, A_main_v90, A_main_v92,
    K_main_cst_14, K_main_cst_15, K_main_v79, K_main_cst_16, K_main_cst_17, K_main_cst_18, K_main_v91]
  exact congrArg BitVec.ofBool (soft_sum (fun c => g1 (ix3 b i c)) (fun k => ⟨k.val, by omega⟩) rfl rfl)

theorem r2_apply (b : Fin 8) (i : Fin 512) :
    A_main_v94 g0 g1 g2 g3 g4 g5 g6 g7 g8 g9 g10 (ix2 b i) = BitVec.ofBool ((rctx g0 g1 g2 g3 g4 g5 g6 g7 g8 g9 g10).r2 b i) := by
  pointwise [A_main_v93, A_main_v94, near_op_apply, soft_a_apply]
  change _ = BitVec.ofBool (soft (fun c => g0 (ix3 b i c)) && !near (fun j => g4 (ix2 b j)) i)
  generalize soft (fun c => g0 (ix3 b i c)) = s
  generalize near (fun j => g4 (ix2 b j)) i = t
  cases s <;> cases t <;> rfl

theorem r3_apply (b : Fin 8) (i : Fin 512) :
    A_main_v96 g0 g1 g2 g3 g4 g5 g6 g7 g8 g9 g10 (ix2 b i) = BitVec.ofBool ((rctx g0 g1 g2 g3 g4 g5 g6 g7 g8 g9 g10).r3 b i) := by
  pointwise [A_main_v95, A_main_v96, near_as_apply, soft_o_apply]
  change _ = BitVec.ofBool (soft (fun c => g1 (ix3 b i c)) && !near (fun j => g3 (ix2 b j)) i)
  generalize soft (fun c => g1 (ix3 b i c)) = s
  generalize near (fun j => g3 (ix2 b j)) i = t
  cases s <;> cases t <;> rfl

theorem tri_apply (b : Fin 8) (i j : Fin 512) :
    K_main_v108 (F := Ideal) (ix3 b i j) = BitVec.ofBool (decide (j.val < i.val)) := by
  pointwise [K_main_v100, K_main_v101, K_main_v102, K_main_v103, K_main_v104, K_main_v105, K_main_v106, K_main_v107, K_main_v108]
  exact WordCmp.cmpi_slt_ofNat (by omega) (by omega)

theorem cs_apply (b : Fin 8) (i : Fin 512) :
    A_main_v110 g0 g1 g2 g3 g4 g5 g6 g7 g8 g9 g10 (ix2 b i) = BitVec.ofBool ((rctx g0 g1 g2 g3 g4 g5 g6 g7 g8 g9 g10).cs b i) := by
  pointwise [A_main_v98, A_main_v99, A_main_v109, A_main_v110, tri_apply,
    K_main_cst_19, K_main_v97, K_main_c_20, K_main_c_21]
  simp only [fold_or, WordCmp.andi_ofBool]
  exact congrArg BitVec.ofBool (caus_or (fun i j c => g2 (ix4 b i j c)) i)

end Cert.RPrep

end
-- ==== Proof.RStep.lean ====
/- One trip of the reference's loop, read at one entry. -/
module

public import proofs.«01_k».proof.Proof.RefTrip
public import proofs.«01_k».proof.Proof.RPrep
public import Idealize.ShloMosaic.Lib.Pointwise
public import Idealize.ShloMosaic.Lib.WordCmp
public import Idealize.ShloMosaic.Lib.DynamicIndex
public import Idealize.ShloMosaic.Lib.Routing.OpsOrder
public import Idealize.ShloMosaic.Lib.Routing.OpsSet
public import Idealize.ShloMosaic.Lib.Routing.OpsPair

@[expose] public section

noncomputable section

namespace Cert.RStep

open Idealize.ShloMosaic Cert.ReferenceIdeal Cert.ReferenceIdeal.Gen Cert.ReferenceIdeal.Step Cert.Spec

theorem row3 (v : (⟨S512x8x4, .f32⟩ : BufTy).Contents (Elt Ideal)) (n : ℕ) (hn : n < 512)
    (b : Fin 8) (c : Fin 4) :
    Host.dynamicSlice S1x8x4 v (fun k => (((![constantI S_ 32 (BitVec.ofNat 32 n), constantI S_ 32 0#32,
      constantI S_ 32 0#32] : Fin 3 → (⟨S_, .i32⟩ : BufTy).Contents (Elt Ideal))) k (Shape.Idx.first h_S_)).toInt)
      sliceFits_S512x8x4_S1x8x4 (ix3 0 b c) = v (ix3 ⟨n, hn⟩ b c) := by
  have hs : S512x8x4.Slices ![n, 0, 0] S1x8x4 := ⟨rfl, by
    intro a
    fin_cases a
    · show n + 1 ≤ 512; omega
    · show 0 + 8 ≤ 8; omega
    · show 0 + 4 ≤ 4; omega⟩
  rw [Host.dynamicSlice_eq_extractStridedSlice S1x8x4 v _ ![n, 0, 0] _ hs (by
    intro a
    fin_cases a
    · exact toInt_ofNat_of_lt (by omega)
    · rfl
    · rfl)]
  pointwise

theorem row2 {α : Type} (v : S512x8.Idx → α) (n : ℕ) (hn : n < 512)
    (b : Fin 8) :
    Host.dynamicSlice S1x8 v (fun k => (((![constantI S_ 32 (BitVec.ofNat 32 n), constantI S_ 32 0#32] :
      Fin 2 → (⟨S_, .i32⟩ : BufTy).Contents (Elt Ideal))) k (Shape.Idx.first h_S_)).toInt)
      sliceFits_S512x8_S1x8 (ix2 0 b) = v (ix2 ⟨n, hn⟩ b) := by
  have hs : S512x8.Slices ![n, 0] S1x8 := ⟨rfl, by
    intro a
    fin_cases a
    · show n + 1 ≤ 512; omega
    · show 0 + 8 ≤ 8; omega⟩
  rw [Host.dynamicSlice_eq_extractStridedSlice S1x8 v _ ![n, 0] _ hs (by
    intro a
    fin_cases a
    · exact toInt_ofNat_of_lt (by omega)
    · rfl)]
  pointwise

theorem row1 {α : Type} (v : S512.Idx → α) (n : ℕ) (hn : n < 512) :
    Host.dynamicSlice S1 v (fun k => (((![constantI S_ 32 (BitVec.ofNat 32 n)] :
      Fin 1 → (⟨S_, .i32⟩ : BufTy).Contents (Elt Ideal))) k (Shape.Idx.first h_S_)).toInt)
      sliceFits_S512_S1 (ix1 0) = v (ix1 ⟨n, hn⟩) := by
  have hs : S512.Slices ![n] S1 := ⟨rfl, by
    intro a
    fin_cases a
    show n + 1 ≤ 512; omega⟩
  rw [Host.dynamicSlice_eq_extractStridedSlice S1 v _ ![n] _ hs (by
    intro a
    fin_cases a
    exact toInt_ofNat_of_lt (by omega))]
  pointwise

section
variable (n : ℕ) (hn : n < 512) (s : State Ideal)
include hn

theorem b1_apply : b1 n s ix0 = BitVec.ofNat 32 n := by
  have h : b0 n s (ix1 0) = BitVec.ofNat 32 n := row1 _ n hn
  pointwise [b1, h]

theorem b5_apply (b : Fin 8) (c : Fin 4) : b5 n s (ix2 b c) = s.main_v126_1 (ix3 ⟨n, hn⟩ b c) := by
  have h : b4 n s (ix3 0 b c) = s.main_v126_1 (ix3 ⟨n, hn⟩ b c) := row3 _ n hn b c
  pointwise [b5, h]

theorem b9_apply (b : Fin 8) (c : Fin 4) : b9 n s (ix2 b c) = s.main_v126_2 (ix3 ⟨n, hn⟩ b c) := by
  have h : b8 n s (ix3 0 b c) = s.main_v126_2 (ix3 ⟨n, hn⟩ b c) := row3 _ n hn b c
  pointwise [b9, h]

theorem b12_apply (b : Fin 8) : b12 n s (ix1 b) = s.main_v126_3 (ix2 ⟨n, hn⟩ b) := by
  have h : b11 n s (ix2 0 b) = s.main_v126_3 (ix2 ⟨n, hn⟩ b) := row2 _ n hn b
  pointwise [b12, h]

theorem b15_apply (b : Fin 8) : b15 n s (ix1 b) = s.main_v126_4 (ix2 ⟨n, hn⟩ b) := by
  have h : b14 n s (ix2 0 b) = s.main_v126_4 (ix2 ⟨n, hn⟩ b) := row2 _ n hn b
  pointwise [b15, h]

theorem b18_apply (b : Fin 8) : b18 n s (ix1 b) = s.main_v126_5 (ix2 ⟨n, hn⟩ b) := by
  have h : b17 n s (ix2 0 b) = s.main_v126_5 (ix2 ⟨n, hn⟩ b) := row2 _ n hn b
  pointwise [b18, h]

theorem b21_apply (b : Fin 8) : b21 n s (ix1 b) = s.main_v126_6 (ix2 ⟨n, hn⟩ b) := by
  have h : b20 n s (ix2 0 b) = s.main_v126_6 (ix2 ⟨n, hn⟩ b) := row2 _ n hn b
  pointwise [b21, h]

/-- Position `p` of a word's number. -/
theorem gather_apply (v : (⟨S8x512x4, .f32⟩ : BufTy).Contents (Elt Ideal)) (idx : IVec S4x1 32) (b : Fin 8) (k c : Fin 4)
    (p : Fin 512) (hp : idx (ix2 k 0) = BitVec.ofNat 32 p.val) :
    Host.gather gather_S8x512x4_S4x1_S8x4x4_02_1_n_n_1_1_814 v idx (ix3 b k c) = v (ix3 b p c) := by
  show v _ = _
  congr 1
  funext a
  apply Fin.ext
  fin_cases a
  · show 0 + 0 + b.val = b.val
    omega
  · have e : gather_S8x512x4_S4x1_S8x4x4_02_1_n_n_1_1_814.siIdx (ix3 b k c) ⟨0, by decide⟩ = ix2 k 0 := by
      funext a
      apply Fin.ext
      fin_cases a <;> rfl
    show min (idx (gather_S8x512x4_S4x1_S8x4x4_02_1_n_n_1_1_814.siIdx (ix3 b k c) ⟨0, by decide⟩)).toInt.toNat 511 + 0 + 0 = p.val
    rw [e, hp, toInt_ofNat_of_lt (by omega)]
    omega
  · show 0 + 0 + c.val = c.val
    omega

theorem scatter_lands (idx : IVec S1 32) (hidx : idx (ix1 0) = BitVec.ofNat 32 n) (b b' : Fin 8) (c c' : Fin 4) (p : Fin 512) :
    scatter_S8x512x4_S1_S8x4_01_1_1_0.resultIdx? (ix2 b c) idx = some (ix3 b' p c') ↔ b = b' ∧ n = p.val ∧ c = c' := by
  rw [Routing.resultIdx?_eq_some]
  have e : scatter_S8x512x4_S1_S8x4_01_1_1_0.siIdx (ix2 b c) ⟨0, by decide⟩ = ix1 0 := by
    funext a
    apply Fin.ext
    fin_cases a
    rfl
  have h0 : scatter_S8x512x4_S1_S8x4_01_1_1_0.start (ix2 b c) idx 0 + (scatter_S8x512x4_S1_S8x4_01_1_1_0.window (ix2 b c) 0 : Int) = b.val := by
    show (0 : Int) + (b.val : Int) = b.val
    omega
  have h1 : scatter_S8x512x4_S1_S8x4_01_1_1_0.start (ix2 b c) idx 1 + (scatter_S8x512x4_S1_S8x4_01_1_1_0.window (ix2 b c) 1 : Int) = n := by
    show (idx (scatter_S8x512x4_S1_S8x4_01_1_1_0.siIdx (ix2 b c) ⟨0, by decide⟩)).toInt + ((0 : ℕ) : Int) = n
    rw [e, hidx, toInt_ofNat_of_lt (by omega)]
    omega
  have h2 : scatter_S8x512x4_S1_S8x4_01_1_1_0.start (ix2 b c) idx 2 + (scatter_S8x512x4_S1_S8x4_01_1_1_0.window (ix2 b c) 2 : Int) = c.val := by
    show (0 : Int) + (c.val : Int) = c.val
    omega
  constructor
  · intro h
    have g0 := h 0
    have g1 := h 1
    have g2 := h 2
    rw [h0] at g0
    rw [h1] at g1
    rw [h2] at g2
    refine ⟨Fin.ext ?_, ?_, Fin.ext ?_⟩
    · have : ((ix3 b' p c' : S8x512x4.Idx) 0).val = b'.val := rfl
      omega
    · have : ((ix3 b' p c' : S8x512x4.Idx) 1).val = p.val := rfl
      omega
    · have : ((ix3 b' p c' : S8x512x4.Idx) 2).val = c'.val := rfl
      omega
  · rintro ⟨rfl, hp, rfl⟩ a
    fin_cases a
    · exact h0
    · refine h1.trans ?_
      rw [hp]
      rfl
    · exact h2

/-- The trip's write of one row. -/
theorem scatter_apply (v : (⟨S8x512x4, .f32⟩ : BufTy).Contents (Elt Ideal)) (idx : IVec S1 32) (hidx : idx (ix1 0) = BitVec.ofNat 32 n)
    (u : (⟨S8x4, .f32⟩ : BufTy).Contents (Elt Ideal)) (b : Fin 8) (p : Fin 512) (c : Fin 4) :
    Host.scatter scatter_S8x512x4_S1_S8x4_01_1_1_0 (fun _ b => b) v idx u (ix3 b p c)
      = if p.val = n then u (ix2 b c) else v (ix3 b p c) := by
  by_cases hp : p.val = n
  · rw [if_pos hp]
    refine Routing.scatter_set_hit _ _ _ _ _ _ ?_ (ix2 b c) ((scatter_lands n hn idx hidx b b c c p).mpr ⟨rfl, hp.symm, rfl⟩)
    intro k hk
    obtain ⟨b2, c2, rfl⟩ : ∃ b2 c2, k = ix2 b2 c2 := ⟨k 0, k 1, eq_ix2 k⟩
    obtain ⟨rfl, _, rfl⟩ := (scatter_lands n hn idx hidx _ _ _ _ _).mp hk
    rfl
  · rw [if_neg hp]
    refine Routing.scatter_set_miss _ _ _ _ _ ?_
    intro k hk
    obtain ⟨b2, c2, rfl⟩ : ∃ b2 c2, k = ix2 b2 c2 := ⟨k 0, k 1, eq_ix2 k⟩
    exact hp ((scatter_lands n hn idx hidx _ _ _ _ _).mp hk).2.1.symm

omit hn in
/-- The neighbour's position at offset number `k`, kept inside the row. -/
def pos (k : Fin 4) : Fin 512 :=
  at' (if k.val = 0 then n - 2 else if k.val = 1 then n - 1 else if k.val = 2 then min (n + 1) 511 else min (n + 2) 511)

omit hn in
/-- Whether the row has a position at offset number `k`. -/
def val (k : Fin 4) : Bool :=
  decide (if k.val = 0 then 2 ≤ n else if k.val = 1 then 1 ≤ n else if k.val = 2 then n + 1 < 512 else n + 2 < 512)

omit hn in
theorem clip_bits (k : Fin 4) : ∀ n : Fin 512,
    Scalar.select (IntOp.cmpi .slt (IntOp.minsi 511#32 (IntOp.maxsi 0#32 (IntOp.addi (BitVec.ofNat 32 n.val) (K_main_v118 (F := Ideal) (ix1 k))))) 0#32)
      (IntOp.addi (IntOp.minsi 511#32 (IntOp.maxsi 0#32 (IntOp.addi (BitVec.ofNat 32 n.val) (K_main_v118 (F := Ideal) (ix1 k))))) 512#32)
      (IntOp.minsi 511#32 (IntOp.maxsi 0#32 (IntOp.addi (BitVec.ofNat 32 n.val) (K_main_v118 (F := Ideal) (ix1 k)))))
      = BitVec.ofNat 32 (pos n.val k).val := by
  have hk : k = 0 ∨ k = 1 ∨ k = 2 ∨ k = 3 := by
    revert k
    decide
  rcases hk with rfl | rfl | rfl | rfl
  · rw [show K_main_v118 (F := Ideal) (ix1 0) = 4294967294#32 from rfl]
    decide +kernel
  · rw [show K_main_v118 (F := Ideal) (ix1 1) = 4294967295#32 from rfl]
    decide +kernel
  · rw [show K_main_v118 (F := Ideal) (ix1 2) = 1#32 from rfl]
    decide +kernel
  · rw [show K_main_v118 (F := Ideal) (ix1 3) = 2#32 from rfl]
    decide +kernel

omit hn in
theorem valid_bits (k : Fin 4) : ∀ n : Fin 512,
    IntOp.andi (IntOp.cmpi .sge (IntOp.addi (BitVec.ofNat 32 n.val) (K_main_v118 (F := Ideal) (ix1 k))) 0#32)
      (IntOp.cmpi .slt (IntOp.addi (BitVec.ofNat 32 n.val) (K_main_v118 (F := Ideal) (ix1 k))) 512#32)
      = BitVec.ofBool (val n.val k) := by
  have hk : k = 0 ∨ k = 1 ∨ k = 2 ∨ k = 3 := by
    revert k
    decide
  rcases hk with rfl | rfl | rfl | rfl
  · rw [show K_main_v118 (F := Ideal) (ix1 0) = 4294967294#32 from rfl]
    decide +kernel
  · rw [show K_main_v118 (F := Ideal) (ix1 1) = 4294967295#32 from rfl]
    decide +kernel
  · rw [show K_main_v118 (F := Ideal) (ix1 2) = 1#32 from rfl]
    decide +kernel
  · rw [show K_main_v118 (F := Ideal) (ix1 3) = 2#32 from rfl]
    decide +kernel

theorem b56_apply (k : Fin 4) : b56 n s (ix1 k) = BitVec.ofBool (val n k) := by
  pointwise [b56, b55, b54, b53, b52, b51, b50, b49, b48, b1_apply n hn s]
  exact valid_bits k ⟨n, hn⟩

theorem b72_apply (k : Fin 4) : b72 n s (ix2 k 0) = BitVec.ofNat 32 (pos n k).val := by
  pointwise [b72, b71, b70, b69, b68, b67, b66, b65, b64, b63, b62, b61, b60, b59, b58, b57, b49, b48, b1_apply n hn s]
  exact clip_bits k ⟨n, hn⟩

theorem b86_apply (k : Fin 4) : b86 n s (ix2 k 0) = BitVec.ofNat 32 (pos n k).val := by
  pointwise [b86, b85, b84, b83, b82, b81, b80, b79, b64, b63, b62, b61, b60, b59, b58, b57, b49, b48, b1_apply n hn s]
  exact clip_bits k ⟨n, hn⟩

theorem b73_apply (b : Fin 8) (k c : Fin 4) : b73 n s (ix3 b k c) = s.main_v126_9 (ix3 b (pos n k) c) :=
  gather_apply n hn _ _ b k c (pos n k) (b72_apply n hn s k)

theorem b87_apply (b : Fin 8) (k c : Fin 4) : b87 n s (ix3 b k c) = s.main_v126_10 (ix3 b (pos n k) c) :=
  gather_apply n hn _ _ b k c (pos n k) (b86_apply n hn s k)

theorem b96_apply (b : Fin 8) (k : Fin 4) : b96 n s (ix2 b k)
    = BitVec.ofBool (hot (fun c => s.main_v126_9 (ix3 b (pos n k) c)) (fun c => s.main_v126_10 (ix3 b (pos n k) c))
        && val n k) := by
  pointwise [b96, b95, b94, b56_apply n hn s, b93, b92, b91, b90, b89, b88, b87_apply n hn s, b78, b77, b76, b75, b74,
    b73_apply n hn s]
  simp only [RPrep.bot_bits, RPrep.fold_max4, WordCmp.ori_ofBool, WordCmp.andi_ofBool, hot_eq]

theorem b98_apply (b : Fin 8) : b98 n s (ix1 b)
    = BitVec.ofBool (decide (∃ k, (hot (fun c => s.main_v126_9 (ix3 b (pos n k) c))
        (fun c => s.main_v126_10 (ix3 b (pos n k) c)) && val n k) = true)) := by
  pointwise [b98, b97, b96_apply n hn s]
  exact RPrep.fold_or _

end

/-- What the loop's state holds after `n` trips: the rows below `n` are the new ones, the others the old ones. -/
structure Inv (x : Ctx) (n : ℕ) (s : State Ideal) : Prop where
  f9 : ∀ (b : Fin 8) (p : Fin 512) (c : Fin 4),
    s.main_v126_9 (ix3 b p c) = if p.val < n then outA x (act x b p.val) b p c else x.a b p c
  f10 : ∀ (b : Fin 8) (p : Fin 512) (c : Fin 4),
    s.main_v126_10 (ix3 b p c) = if p.val < n then outO x (act x b p.val) b p c else x.o b p c
  f1 : ∀ (b : Fin 8) (i : Fin 512) (c : Fin 4), s.main_v126_1 (ix3 i b c) = x.a b i c
  f2 : ∀ (b : Fin 8) (i : Fin 512) (c : Fin 4), s.main_v126_2 (ix3 i b c) = x.o b i c
  f3 : ∀ (b : Fin 8) (i : Fin 512), s.main_v126_3 (ix2 i b) = x.f b i
  f4 : ∀ (b : Fin 8) (i : Fin 512), s.main_v126_4 (ix2 i b) = BitVec.ofBool (x.r2 b i)
  f5 : ∀ (b : Fin 8) (i : Fin 512), s.main_v126_5 (ix2 i b) = BitVec.ofBool (x.r3 b i)
  f6 : ∀ (b : Fin 8) (i : Fin 512), s.main_v126_6 (ix2 i b) = BitVec.ofBool (x.cs b i)

theorem any4 (p : Fin 4 → Bool) : decide (∃ k, p k = true) = ((p 2 || p 3) || (p 1 || p 0)) := by
  rw [Bool.eq_iff_iff]
  simp only [decide_eq_true_eq, Bool.or_eq_true]
  constructor
  · rintro ⟨k, hk⟩
    have h : k = 0 ∨ k = 1 ∨ k = 2 ∨ k = 3 := by
      clear hk
      revert k
      decide
    rcases h with rfl | rfl | rfl | rfl
    · exact Or.inr (Or.inr hk)
    · exact Or.inr (Or.inl hk)
    · exact Or.inl (Or.inl hk)
    · exact Or.inl (Or.inr hk)
  · rintro ((h | h) | (h | h)) <;> exact ⟨_, h⟩

theorem at'_lt (m : ℕ) (h : m < 512) : (at' m).val = m := Nat.mod_eq_of_lt h

section
variable {x : Ctx} {n : ℕ} {s : State Ideal} (h : Inv x n s)
include h

theorem rows_old (b : Fin 8) (m : ℕ) (hm : m < 512) (hn : n ≤ m) :
    hot (fun c => s.main_v126_9 (ix3 b (at' m) c)) (fun c => s.main_v126_10 (ix3 b (at' m) c)) = fOld x b m := by
  unfold fOld
  congr 1 <;> funext c
  · rw [h.f9, if_neg (by rw [at'_lt m hm]; omega)]
  · rw [h.f10, if_neg (by rw [at'_lt m hm]; omega)]

theorem rows_new (b : Fin 8) (m : ℕ) (hm : m < 512) (hn : m < n) :
    hot (fun c => s.main_v126_9 (ix3 b (at' m) c)) (fun c => s.main_v126_10 (ix3 b (at' m) c)) = fNew x b m := by
  unfold fNew
  congr 1 <;> funext c
  · rw [h.f9, if_pos (by rw [at'_lt m hm]; omega), at'_lt m hm]
  · rw [h.f10, if_pos (by rw [at'_lt m hm]; omega), at'_lt m hm]

theorem hot_right (hn : n < 512) (b : Fin 8) (k : Fin 4) (d : ℕ) (hk : pos n k = at' (min (n + d) 511))
    (hv : val n k = decide (n + d < 512)) :
    (hot (fun c => s.main_v126_9 (ix3 b (pos n k) c)) (fun c => s.main_v126_10 (ix3 b (pos n k) c)) && val n k)
      = back d (fOld x b) n := by
  unfold back
  rw [hv]
  by_cases hd : n + d < 512
  · rw [hk, show min (n + d) 511 = n + d by omega, rows_old h b (n + d) hd (by omega), Bool.and_comm]
  · rw [decide_eq_false hd, Bool.and_false, Bool.false_and]

theorem hot_left (hn : n < 512) (b : Fin 8) (k : Fin 4) (d : ℕ) (hd0 : 0 < d) (hk : pos n k = at' (n - d))
    (hv : val n k = decide (d ≤ n)) :
    (hot (fun c => s.main_v126_9 (ix3 b (pos n k) c)) (fun c => s.main_v126_10 (ix3 b (pos n k) c)) && val n k)
      = ScanMath.shift d false (fNew x b) n := by
  unfold ScanMath.shift
  rw [hv]
  by_cases hd : d ≤ n
  · rw [hk, rows_new h b (n - d) (by omega) (by omega), decide_eq_true hd, Bool.and_true, if_pos hd]
  · rw [decide_eq_false hd, Bool.and_false, if_neg hd]

/-- The trip's flag is the recursion's. -/
theorem b98_act (hn : n < 512) (b : Fin 8) : b98 n s (ix1 b) = BitVec.ofBool (act x b n) := by
  rw [b98_apply n hn s b, act_eq, any4 (fun k => hot (fun c => s.main_v126_9 (ix3 b (pos n k) c))
        (fun c => s.main_v126_10 (ix3 b (pos n k) c)) && val n k)]
  rw [hot_right h hn b 2 1 rfl rfl, hot_right h hn b 3 2 rfl rfl, hot_left h hn b 1 1 (by omega) rfl rfl,
    hot_left h hn b 0 2 (by omega) rfl rfl]

theorem b122_apply (hn : n < 512) (b : Fin 8) (c : Fin 4) :
    b122 n s (ix2 b c) = outA x (act x b n) b ⟨n, hn⟩ c := by
  have ht := b98_act h hn b
  pointwise [b122, b121, b120, b119, b118, b117, b116, b115, b114, b113, b112, b107, b106, b105, b104, b103, b102, b101,
    b100, b99, ht, b37, b36, b35, b34, b33, b32, b31, b30, b29, b28, b24, b23, b22, b5_apply n hn s, b12_apply n hn s,
    b15_apply n hn s, b21_apply n hn s, h.f1, h.f3, h.f4, h.f6]
  unfold outA ua iso
  by_cases hc : c.val < 2
  · rw [dif_pos hc, if_pos hc]
    rfl
  · rw [dif_neg hc, if_neg hc]
    congr 3
    omega

theorem b124_apply (hn : n < 512) (b : Fin 8) (c : Fin 4) :
    b124 n s (ix2 b c) = outO x (act x b n) b ⟨n, hn⟩ c := by
  have ht := b98_act h hn b
  pointwise [b124, b123, b111, b110, b109, b108, b103, b102, b101,
    b100, b99, ht, b47, b46, b45, b44, b43, b42, b41, b40, b39, b38, b27, b26, b25, b9_apply n hn s, b12_apply n hn s,
    b18_apply n hn s, h.f2, h.f3, h.f5]
  unfold outO uo iso
  by_cases hc : c.val < 2
  · rw [dif_pos hc, if_pos hc]
    rfl
  · rw [dif_neg hc, if_neg hc]
    congr 3
    omega

theorem b130_apply (hn : n < 512) : b130 n s (ix1 0) = BitVec.ofNat 32 n := by
  pointwise [b130, b129, b128, b127, b126, b125, b1_apply n hn s]
  exact Routing.wrap_of_lt _ _ (by rw [BitVec.toNat_ofNat]; omega)

theorem b137_apply (hn : n < 512) : b137 n s (ix1 0) = BitVec.ofNat 32 n := by
  pointwise [b137, b136, b135, b134, b133, b132, b1_apply n hn s]
  exact Routing.wrap_of_lt _ _ (by rw [BitVec.toNat_ofNat]; omega)

/-- One trip makes one more row new. -/
theorem Inv.next (hn : n < 512) : Inv x (n + 1) (step n s) where
  f9 b p c := by
    rw [step_main_v126_9]
    unfold b131
    rw [scatter_apply n hn _ _ (b130_apply h hn), b122_apply h hn, h.f9]
    by_cases hp : p.val = n
    · obtain rfl : p = ⟨n, hn⟩ := Fin.ext hp
      rw [if_pos rfl, if_pos (Nat.lt_succ_self n)]
    · rw [if_neg hp]
      by_cases hq : p.val < n
      · rw [if_pos hq, if_pos (by omega)]
      · rw [if_neg hq, if_neg (by omega)]
  f10 b p c := by
    rw [step_main_v126_10]
    unfold b138
    rw [scatter_apply n hn _ _ (b137_apply h hn), b124_apply h hn, h.f10]
    by_cases hp : p.val = n
    · obtain rfl : p = ⟨n, hn⟩ := Fin.ext hp
      rw [if_pos rfl, if_pos (Nat.lt_succ_self n)]
    · rw [if_neg hp]
      by_cases hq : p.val < n
      · rw [if_pos hq, if_pos (by omega)]
      · rw [if_neg hq, if_neg (by omega)]
  f1 := h.f1
  f2 := h.f2
  f3 := h.f3
  f4 := h.f4
  f5 := h.f5
  f6 := h.f6

end

/-- The state the loop starts from. -/
theorem inv_init (g0 g1 : (⟨S8x512x4, .f32⟩ : BufTy).Contents (Elt Ideal))
    (g2 : (⟨S8x512x512x4, .f32⟩ : BufTy).Contents (Elt Ideal))
    (g3 g4 : (⟨S8x512, .i32⟩ : BufTy).Contents (Elt Ideal)) (g5 : (⟨S8x32, .f32⟩ : BufTy).Contents (Elt Ideal))
    (g6 : (⟨S32, .f32⟩ : BufTy).Contents (Elt Ideal)) (g7 : (⟨S32x16, .f32⟩ : BufTy).Contents (Elt Ideal))
    (g8 : (⟨S16, .f32⟩ : BufTy).Contents (Elt Ideal)) (g9 : (⟨S16x1, .f32⟩ : BufTy).Contents (Elt Ideal))
    (g10 : (⟨S1, .f32⟩ : BufTy).Contents (Elt Ideal)) :
    Inv (RPrep.rctx g0 g1 g2 g3 g4 g5 g6 g7 g8 g9 g10) 0 (init g0 g1 g2 g3 g4 g5 g6 g7 g8 g9 g10) where
  f9 _ _ _ := rfl
  f10 _ _ _ := rfl
  f1 b i c := by
    show A_main_v120 g0 g1 g2 g3 g4 g5 g6 g7 g8 g9 g10 (ix3 i b c) = g0 (ix3 b i c)
    pointwise [A_main_v120]
  f2 b i c := by
    show A_main_v121 g0 g1 g2 g3 g4 g5 g6 g7 g8 g9 g10 (ix3 i b c) = g1 (ix3 b i c)
    pointwise [A_main_v121]
  f3 b i := by
    simp only [init]
    pointwise [A_main_v122, RPrep.f_apply]
  f4 b i := by
    simp only [init]
    pointwise [A_main_v123, RPrep.r2_apply]
  f5 b i := by
    simp only [init]
    pointwise [A_main_v124, RPrep.r3_apply]
  f6 b i := by
    simp only [init]
    pointwise [A_main_v125, RPrep.cs_apply]

/-- The state after `n` trips. -/
def iter (s0 : State Ideal) : ℕ → State Ideal
  | 0 => s0
  | n + 1 => step n (iter s0 n)

theorem inv_iter (x : Ctx) (s0 : State Ideal) (h : Inv x 0 s0) : ∀ n, n ≤ 512 → Inv x n (iter s0 n)
  | 0, _ => h
  | n + 1, hn => (inv_iter x s0 h n (by omega)).next (by omega)

end Cert.RStep

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KVals
public import proofs.«01_k».proof.Proof.KRun
public import proofs.«01_k».proof.Proof.RefRun
public import proofs.«01_k».proof.Proof.RStep
public import Idealize.ShloMosaic.Lib.Quiescent

@[expose] public section

noncomputable section

namespace Cert.Proof

open Idealize.ShloMosaic Idealize.SL.Sem

/-- The reference's data are the kernel's where the arguments agree. -/
theorem data_eq (m : (ℓ : Loc Cert.KernelIdeal.nD Cert.KernelIdeal.τ Cert.KernelIdeal.sig) → Buf (Elt Ideal) ℓ)
    (c : Dev Cert.KernelIdeal.nD)
    (g0 g1 : (⟨Cert.ReferenceIdeal.S8x512x4, .f32⟩ : BufTy).Contents (Elt Ideal))
    (g2 : (⟨Cert.ReferenceIdeal.S8x512x512x4, .f32⟩ : BufTy).Contents (Elt Ideal))
    (g3 g4 : (⟨Cert.ReferenceIdeal.S8x512, .i32⟩ : BufTy).Contents (Elt Ideal))
    (g5 : (⟨Cert.ReferenceIdeal.S8x32, .f32⟩ : BufTy).Contents (Elt Ideal))
    (g6 : (⟨Cert.ReferenceIdeal.S32, .f32⟩ : BufTy).Contents (Elt Ideal))
    (g7 : (⟨Cert.ReferenceIdeal.S32x16, .f32⟩ : BufTy).Contents (Elt Ideal))
    (g8 : (⟨Cert.ReferenceIdeal.S16, .f32⟩ : BufTy).Contents (Elt Ideal))
    (g9 : (⟨Cert.ReferenceIdeal.S16x1, .f32⟩ : BufTy).Contents (Elt Ideal))
    (g10 : (⟨Cert.ReferenceIdeal.S1, .f32⟩ : BufTy).Contents (Elt Ideal))
    (h0 : g0 = m ((c.tc : Thread Cert.KernelIdeal.nD Cert.KernelIdeal.τ).loc Cert.KernelIdeal.main_arg0))
    (h1 : g1 = m ((c.tc : Thread Cert.KernelIdeal.nD Cert.KernelIdeal.τ).loc Cert.KernelIdeal.main_arg1))
    (h2 : g2 = m ((c.tc : Thread Cert.KernelIdeal.nD Cert.KernelIdeal.τ).loc Cert.KernelIdeal.main_arg2))
    (h3 : g3 = m ((c.tc : Thread Cert.KernelIdeal.nD Cert.KernelIdeal.τ).loc Cert.KernelIdeal.main_arg3))
    (h4 : g4 = m ((c.tc : Thread Cert.KernelIdeal.nD Cert.KernelIdeal.τ).loc Cert.KernelIdeal.main_arg4))
    (h5 : g5 = m ((c.tc : Thread Cert.KernelIdeal.nD Cert.KernelIdeal.τ).loc Cert.KernelIdeal.main_arg5))
    (h6 : g6 = m ((c.tc : Thread Cert.KernelIdeal.nD Cert.KernelIdeal.τ).loc Cert.KernelIdeal.main_arg6))
    (h7 : g7 = m ((c.tc : Thread Cert.KernelIdeal.nD Cert.KernelIdeal.τ).loc Cert.KernelIdeal.main_arg7))
    (h8 : g8 = m ((c.tc : Thread Cert.KernelIdeal.nD Cert.KernelIdeal.τ).loc Cert.KernelIdeal.main_arg8))
    (h9 : g9 = m ((c.tc : Thread Cert.KernelIdeal.nD Cert.KernelIdeal.τ).loc Cert.KernelIdeal.main_arg9))
    (h10 : g10 = m ((c.tc : Thread Cert.KernelIdeal.nD Cert.KernelIdeal.τ).loc Cert.KernelIdeal.main_arg10))
    : RPrep.rctx g0 g1 g2 g3 g4 g5 g6 g7 g8 g9 g10 = KVals.data m c := by
  subst h0 h1 h2 h3 h4 h5 h6 h7 h8 h9 h10
  rfl

/-- The reference runs, its arguments end as launched, and every counter ends at zero. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2, Idealize.ShloMosaic.sem_eq_zero_of_no_sems (by decide) r.2⟩)
    (Cert.ReferenceIdeal.Value.run m ρ)

/-- The two programs' results are equal over the extended reals. -/
theorem results : Cert.algebraic_KernelIdeal_ReferenceIdeal (hKernelIdeal := Cert.KernelIdeal.Gen.facts)
    (hReferenceIdeal := Cert.ReferenceIdeal.Gen.facts) := by
  intro m g m' g' _ hargs
  have hinv : ∀ c : Dev Cert.KernelIdeal.nD, RStep.Inv (KVals.data m c) 512
      (RStep.iter (Cert.ReferenceIdeal.StepRun.initState m' c) 512) := by
    intro c
    obtain ⟨h0, h1, h2, h3, h4, h5, h6, h7, h8, h9, h10⟩ := hargs c
    rw [← data_eq m c _ _ _ _ _ _ _ _ _ _ _ h0 h1 h2 h3 h4 h5 h6 h7 h8 h9 h10]
    exact RStep.inv_iter _ _ (RStep.inv_init _ _ _ _ _ _ _ _ _ _ _) 512 le_rfl
  refine ⟨fun c => Cert.KernelIdeal.Gen.W5 m g c (Proc.devRef .tc Cert.KernelIdeal.main_v14),
    fun c => Cert.KernelIdeal.Gen.W5 m g c (Proc.devRef .tc Cert.KernelIdeal.main_v15), KRun.run m g, ?_⟩
  refine (θ_run Cert.ReferenceIdeal.defs _ _).mono (fun r h c => ?_)
    (Cert.ReferenceIdeal.StepRun.run_iter m' g' (fun c => RStep.iter (Cert.ReferenceIdeal.StepRun.initState m' c))
      (fun _ => rfl) (fun _ _ => rfl))
  refine ⟨(h c).1.trans ?_, (h c).2.1.trans ?_, (h c).2.2⟩
  · refine funext fun j => ?_
    obtain ⟨b, i, k, rfl⟩ : ∃ (b : Fin 8) (i : Fin 512) (k : Fin 4), j = ix3 b i k := ⟨j 0, j 1, j 2, eq_ix3 j⟩
    exact (((hinv c).f9 b i k).trans (if_pos i.isLt)).trans (KVals.res0_apply m g c b i k).symm
  · refine funext fun j => ?_
    obtain ⟨b, i, k, rfl⟩ : ∃ (b : Fin 8) (i : Fin 512) (k : Fin 4), j = ix3 b i k := ⟨j 0, j 1, j 2, eq_ix3 j⟩
    exact (((hinv c).f10 b i k).trans (if_pos i.isLt)).trans (KVals.res1_apply m g c b i k).symm

theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, reference_frame, trivial, results⟩

end Cert.Proof

end
